-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Hyproj (m : (ℓ : Loc Cert.Hyproj.nD Cert.Hyproj.τ Cert.Hyproj.sig) → Buf (Elt Bits) ℓ) : Prop :=
  True

def Pre_HyprojIdeal (m : (ℓ : Loc Cert.HyprojIdeal.nD Cert.HyprojIdeal.τ Cert.HyprojIdeal.sig) → Buf (Elt Ideal) ℓ) : Prop :=
  True

def Pre_HyprojRefIdeal (m : (ℓ : Loc Cert.HyprojRefIdeal.nD Cert.HyprojRefIdeal.τ Cert.HyprojRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_weights [hPre_finite_weights : Cert.Pre_finite_weights.Facts] (m : (ℓ : Loc Cert.PoolIdeal.nD Cert.PoolIdeal.τ Cert.PoolIdeal.sig) → Buf (Elt Ideal) ℓ) : Prop :=
  ∀ c : Dev Cert.PoolIdeal.nD,
    (Cert.Pre_finite_weights.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).1 = (fun _ => 1#1)
    ∧ (Cert.Pre_finite_weights.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_weights [hPre_finite_weights : Cert.Pre_finite_weights.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_weights.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).1 = (fun _ => 1#1)
    ∧ (Cert.Pre_finite_weights.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2 = (fun _ => 1#1)

def Pre_Filter (m : (ℓ : Loc Cert.Filter.nD Cert.Filter.τ Cert.Filter.sig) → Buf (Elt Bits) ℓ) : Prop :=
  True

def Pre_FilterIdeal (m : (ℓ : Loc Cert.FilterIdeal.nD Cert.FilterIdeal.τ Cert.FilterIdeal.sig) → Buf (Elt Ideal) ℓ) : Prop :=
  True

def Pre_FilterIdeal_finite_taps [hPre_finite_taps : Cert.Pre_finite_taps.Facts] (m : (ℓ : Loc Cert.FilterIdeal.nD Cert.FilterIdeal.τ Cert.FilterIdeal.sig) → Buf (Elt Ideal) ℓ) : Prop :=
  ∀ c : Dev Cert.FilterIdeal.nD,
    (Cert.Pre_finite_taps.fn (F := Ideal) (m ((c.tc : Thread Cert.FilterIdeal.nD Cert.FilterIdeal.τ).loc Cert.FilterIdeal.main_arg0)) (m ((c.tc : Thread Cert.FilterIdeal.nD Cert.FilterIdeal.τ).loc Cert.FilterIdeal.main_arg1)) (m ((c.tc : Thread Cert.FilterIdeal.nD Cert.FilterIdeal.τ).loc Cert.FilterIdeal.main_arg2)) (m ((c.tc : Thread Cert.FilterIdeal.nD Cert.FilterIdeal.τ).loc Cert.FilterIdeal.main_arg3)) (m ((c.tc : Thread Cert.FilterIdeal.nD Cert.FilterIdeal.τ).loc Cert.FilterIdeal.main_arg4)) (m ((c.tc : Thread Cert.FilterIdeal.nD Cert.FilterIdeal.τ).loc Cert.FilterIdeal.main_arg5)) (m ((c.tc : Thread Cert.FilterIdeal.nD Cert.FilterIdeal.τ).loc Cert.FilterIdeal.main_arg6))) = (fun _ => 1#1)

def Pre_FilterRefIdeal (m : (ℓ : Loc Cert.FilterRefIdeal.nD Cert.FilterRefIdeal.τ Cert.FilterRefIdeal.sig) → Buf (Elt Ideal) ℓ) : Prop :=
  True

def Pre_FilterRefIdeal_finite_taps [hPre_finite_taps : Cert.Pre_finite_taps.Facts] (m : (ℓ : Loc Cert.FilterRefIdeal.nD Cert.FilterRefIdeal.τ Cert.FilterRefIdeal.sig) → Buf (Elt Ideal) ℓ) : Prop :=
  ∀ c : Dev Cert.FilterRefIdeal.nD,
    (Cert.Pre_finite_taps.fn (F := Ideal) (m ((c.tc : Thread Cert.FilterRefIdeal.nD Cert.FilterRefIdeal.τ).loc Cert.FilterRefIdeal.main_arg0)) (m ((c.tc : Thread Cert.FilterRefIdeal.nD Cert.FilterRefIdeal.τ).loc Cert.FilterRefIdeal.main_arg1)) (m ((c.tc : Thread Cert.FilterRefIdeal.nD Cert.FilterRefIdeal.τ).loc Cert.FilterRefIdeal.main_arg2)) (m ((c.tc : Thread Cert.FilterRefIdeal.nD Cert.FilterRefIdeal.τ).loc Cert.FilterRefIdeal.main_arg3)) (m ((c.tc : Thread Cert.FilterRefIdeal.nD Cert.FilterRefIdeal.τ).loc Cert.FilterRefIdeal.main_arg4)) (m ((c.tc : Thread Cert.FilterRefIdeal.nD Cert.FilterRefIdeal.τ).loc Cert.FilterRefIdeal.main_arg5)) (m ((c.tc : Thread Cert.FilterRefIdeal.nD Cert.FilterRefIdeal.τ).loc Cert.FilterRefIdeal.main_arg6))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Hyproj [hHyproj : Cert.Hyproj.Facts] : Prop :=
  ∀ (m : (ℓ : Loc Cert.Hyproj.nD Cert.Hyproj.τ Cert.Hyproj.sig) → Buf (Elt Bits) ℓ) (g : Dev Cert.Hyproj.nD → PrngReg), Pre_Hyproj m →
    θ_run (Cert.Hyproj.defs (F := Bits)) (onTc (τ := Cert.Hyproj.τ) (Cert.Hyproj.main (F := Bits))) ⟨m, fun _ => 0, g⟩ (fun r => (∀ c : Dev Cert.Hyproj.nD,
      r.2.mem ((c.tc : Thread Cert.Hyproj.nD Cert.Hyproj.τ).loc Cert.Hyproj.main_arg0) = m ((c.tc : Thread Cert.Hyproj.nD Cert.Hyproj.τ).loc Cert.Hyproj.main_arg0)
      ∧ r.2.mem ((c.tc : Thread Cert.Hyproj.nD Cert.Hyproj.τ).loc Cert.Hyproj.main_arg1) = m ((c.tc : Thread Cert.Hyproj.nD Cert.Hyproj.τ).loc Cert.Hyproj.main_arg1)
      ∧ r.2.mem ((c.tc : Thread Cert.Hyproj.nD Cert.Hyproj.τ).loc Cert.Hyproj.main_arg2) = m ((c.tc : Thread Cert.Hyproj.nD Cert.Hyproj.τ).loc Cert.Hyproj.main_arg2)
      ∧ r.2.mem ((c.tc : Thread Cert.Hyproj.nD Cert.Hyproj.τ).loc Cert.Hyproj.main_arg3) = m ((c.tc : Thread Cert.Hyproj.nD Cert.Hyproj.τ).loc Cert.Hyproj.main_arg3))
      ∧ r.2.sem = fun _ => 0)

def quiescent_HyprojIdeal [hHyprojIdeal : Cert.HyprojIdeal.Facts] : Prop :=
  ∀ (m : (ℓ : Loc Cert.HyprojIdeal.nD Cert.HyprojIdeal.τ Cert.HyprojIdeal.sig) → Buf (Elt Ideal) ℓ) (g : Dev Cert.HyprojIdeal.nD → PrngReg), Pre_HyprojIdeal m →
    θ_run (Cert.HyprojIdeal.defs (F := Ideal)) (onTc (τ := Cert.HyprojIdeal.τ) (Cert.HyprojIdeal.main (F := Ideal))) ⟨m, fun _ => 0, g⟩ (fun r => (∀ c : Dev Cert.HyprojIdeal.nD,
      r.2.mem ((c.tc : Thread Cert.HyprojIdeal.nD Cert.HyprojIdeal.τ).loc Cert.HyprojIdeal.main_arg0) = m ((c.tc : Thread Cert.HyprojIdeal.nD Cert.HyprojIdeal.τ).loc Cert.HyprojIdeal.main_arg0)
      ∧ r.2.mem ((c.tc : Thread Cert.HyprojIdeal.nD Cert.HyprojIdeal.τ).loc Cert.HyprojIdeal.main_arg1) = m ((c.tc : Thread Cert.HyprojIdeal.nD Cert.HyprojIdeal.τ).loc Cert.HyprojIdeal.main_arg1)
      ∧ r.2.mem ((c.tc : Thread Cert.HyprojIdeal.nD Cert.HyprojIdeal.τ).loc Cert.HyprojIdeal.main_arg2) = m ((c.tc : Thread Cert.HyprojIdeal.nD Cert.HyprojIdeal.τ).loc Cert.HyprojIdeal.main_arg2)
      ∧ r.2.mem ((c.tc : Thread Cert.HyprojIdeal.nD Cert.HyprojIdeal.τ).loc Cert.HyprojIdeal.main_arg3) = m ((c.tc : Thread Cert.HyprojIdeal.nD Cert.HyprojIdeal.τ).loc Cert.HyprojIdeal.main_arg3))
      ∧ r.2.sem = fun _ => 0)

def quiescent_HyprojRefIdeal [hHyprojRefIdeal : Cert.HyprojRefIdeal.Facts] : Prop :=
  ∀ (m : (ℓ : Loc Cert.HyprojRefIdeal.nD Cert.HyprojRefIdeal.τ Cert.HyprojRefIdeal.sig) → Buf (Elt Ideal) ℓ) (g : Dev Cert.HyprojRefIdeal.nD → PrngReg), Pre_HyprojRefIdeal m →
    θ_run (Cert.HyprojRefIdeal.defs (F := Ideal)) (onTc (τ := Cert.HyprojRefIdeal.τ) (Cert.HyprojRefIdeal.main (F := Ideal))) ⟨m, fun _ => 0, g⟩ (fun r => (∀ c : Dev Cert.HyprojRefIdeal.nD,
      r.2.mem ((c.tc : Thread Cert.HyprojRefIdeal.nD Cert.HyprojRefIdeal.τ).loc Cert.HyprojRefIdeal.main_arg0) = m ((c.tc : Thread Cert.HyprojRefIdeal.nD Cert.HyprojRefIdeal.τ).loc Cert.HyprojRefIdeal.main_arg0)
      ∧ r.2.mem ((c.tc : Thread Cert.HyprojRefIdeal.nD Cert.HyprojRefIdeal.τ).loc Cert.HyprojRefIdeal.main_arg1) = m ((c.tc : Thread Cert.HyprojRefIdeal.nD Cert.HyprojRefIdeal.τ).loc Cert.HyprojRefIdeal.main_arg1)
      ∧ r.2.mem ((c.tc : Thread Cert.HyprojRefIdeal.nD Cert.HyprojRefIdeal.τ).loc Cert.HyprojRefIdeal.main_arg2) = m ((c.tc : Thread Cert.HyprojRefIdeal.nD Cert.HyprojRefIdeal.τ).loc Cert.HyprojRefIdeal.main_arg2)
      ∧ r.2.mem ((c.tc : Thread Cert.HyprojRefIdeal.nD Cert.HyprojRefIdeal.τ).loc Cert.HyprojRefIdeal.main_arg3) = m ((c.tc : Thread Cert.HyprojRefIdeal.nD Cert.HyprojRefIdeal.τ).loc Cert.HyprojRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolIdeal_pre_finite_weights [hPoolIdeal : Cert.PoolIdeal.Facts] [hPre_finite_weights : Cert.Pre_finite_weights.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_weights m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_PoolRefIdeal_pre_finite_weights [hPoolRefIdeal : Cert.PoolRefIdeal.Facts] [hPre_finite_weights : Cert.Pre_finite_weights.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_weights m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_Filter [hFilter : Cert.Filter.Facts] : Prop :=
  ∀ (m : (ℓ : Loc Cert.Filter.nD Cert.Filter.τ Cert.Filter.sig) → Buf (Elt Bits) ℓ) (g : Dev Cert.Filter.nD → PrngReg), Pre_Filter m →
    θ_run (Cert.Filter.defs (F := Bits)) (onTc (τ := Cert.Filter.τ) (Cert.Filter.main (F := Bits))) ⟨m, fun _ => 0, g⟩ (fun r => (∀ c : Dev Cert.Filter.nD,
      r.2.mem ((c.tc : Thread Cert.Filter.nD Cert.Filter.τ).loc Cert.Filter.main_arg0) = m ((c.tc : Thread Cert.Filter.nD Cert.Filter.τ).loc Cert.Filter.main_arg0)
      ∧ r.2.mem ((c.tc : Thread Cert.Filter.nD Cert.Filter.τ).loc Cert.Filter.main_arg1) = m ((c.tc : Thread Cert.Filter.nD Cert.Filter.τ).loc Cert.Filter.main_arg1)
      ∧ r.2.mem ((c.tc : Thread Cert.Filter.nD Cert.Filter.τ).loc Cert.Filter.main_arg2) = m ((c.tc : Thread Cert.Filter.nD Cert.Filter.τ).loc Cert.Filter.main_arg2)
      ∧ r.2.mem ((c.tc : Thread Cert.Filter.nD Cert.Filter.τ).loc Cert.Filter.main_arg3) = m ((c.tc : Thread Cert.Filter.nD Cert.Filter.τ).loc Cert.Filter.main_arg3)
      ∧ r.2.mem ((c.tc : Thread Cert.Filter.nD Cert.Filter.τ).loc Cert.Filter.main_arg4) = m ((c.tc : Thread Cert.Filter.nD Cert.Filter.τ).loc Cert.Filter.main_arg4)
      ∧ r.2.mem ((c.tc : Thread Cert.Filter.nD Cert.Filter.τ).loc Cert.Filter.main_arg5) = m ((c.tc : Thread Cert.Filter.nD Cert.Filter.τ).loc Cert.Filter.main_arg5)
      ∧ r.2.mem ((c.tc : Thread Cert.Filter.nD Cert.Filter.τ).loc Cert.Filter.main_arg6) = m ((c.tc : Thread Cert.Filter.nD Cert.Filter.τ).loc Cert.Filter.main_arg6))
      ∧ r.2.sem = fun _ => 0)

def quiescent_FilterIdeal [hFilterIdeal : Cert.FilterIdeal.Facts] : Prop :=
  ∀ (m : (ℓ : Loc Cert.FilterIdeal.nD Cert.FilterIdeal.τ Cert.FilterIdeal.sig) → Buf (Elt Ideal) ℓ) (g : Dev Cert.FilterIdeal.nD → PrngReg), Pre_FilterIdeal m →
    θ_run (Cert.FilterIdeal.defs (F := Ideal)) (onTc (τ := Cert.FilterIdeal.τ) (Cert.FilterIdeal.main (F := Ideal))) ⟨m, fun _ => 0, g⟩ (fun r => (∀ c : Dev Cert.FilterIdeal.nD,
      r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
      ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
      ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
      ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
      ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
      ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
      ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6))
      ∧ r.2.sem = fun _ => 0)

def quiescent_FilterIdeal_pre_finite_taps [hFilterIdeal : Cert.FilterIdeal.Facts] [hPre_finite_taps : Cert.Pre_finite_taps.Facts] : Prop :=
  ∀ (m : (ℓ : Loc Cert.FilterIdeal.nD Cert.FilterIdeal.τ Cert.FilterIdeal.sig) → Buf (Elt Ideal) ℓ) (g : Dev Cert.FilterIdeal.nD → PrngReg), Pre_FilterIdeal_finite_taps m →
    θ_run (Cert.FilterIdeal.defs (F := Ideal)) (onTc (τ := Cert.FilterIdeal.τ) (Cert.FilterIdeal.main (F := Ideal))) ⟨m, fun _ => 0, g⟩ (fun r => (∀ c : Dev Cert.FilterIdeal.nD,
      r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
      ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
      ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
      ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
      ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
      ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
      ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6))
      ∧ r.2.sem = fun _ => 0)

def quiescent_FilterRefIdeal [hFilterRefIdeal : Cert.FilterRefIdeal.Facts] : Prop :=
  ∀ (m : (ℓ : Loc Cert.FilterRefIdeal.nD Cert.FilterRefIdeal.τ Cert.FilterRefIdeal.sig) → Buf (Elt Ideal) ℓ) (g : Dev Cert.FilterRefIdeal.nD → PrngReg), Pre_FilterRefIdeal m →
    θ_run (Cert.FilterRefIdeal.defs (F := Ideal)) (onTc (τ := Cert.FilterRefIdeal.τ) (Cert.FilterRefIdeal.main (F := Ideal))) ⟨m, fun _ => 0, g⟩ (fun r => (∀ c : Dev Cert.FilterRefIdeal.nD,
      r.2.mem ((c.tc : Thread Cert.FilterRefIdeal.nD Cert.FilterRefIdeal.τ).loc Cert.FilterRefIdeal.main_arg0) = m ((c.tc : Thread Cert.FilterRefIdeal.nD Cert.FilterRefIdeal.τ).loc Cert.FilterRefIdeal.main_arg0)
      ∧ r.2.mem ((c.tc : Thread Cert.FilterRefIdeal.nD Cert.FilterRefIdeal.τ).loc Cert.FilterRefIdeal.main_arg1) = m ((c.tc : Thread Cert.FilterRefIdeal.nD Cert.FilterRefIdeal.τ).loc Cert.FilterRefIdeal.main_arg1)
      ∧ r.2.mem ((c.tc : Thread Cert.FilterRefIdeal.nD Cert.FilterRefIdeal.τ).loc Cert.FilterRefIdeal.main_arg2) = m ((c.tc : Thread Cert.FilterRefIdeal.nD Cert.FilterRefIdeal.τ).loc Cert.FilterRefIdeal.main_arg2)
      ∧ r.2.mem ((c.tc : Thread Cert.FilterRefIdeal.nD Cert.FilterRefIdeal.τ).loc Cert.FilterRefIdeal.main_arg3) = m ((c.tc : Thread Cert.FilterRefIdeal.nD Cert.FilterRefIdeal.τ).loc Cert.FilterRefIdeal.main_arg3)
      ∧ r.2.mem ((c.tc : Thread Cert.FilterRefIdeal.nD Cert.FilterRefIdeal.τ).loc Cert.FilterRefIdeal.main_arg4) = m ((c.tc : Thread Cert.FilterRefIdeal.nD Cert.FilterRefIdeal.τ).loc Cert.FilterRefIdeal.main_arg4)
      ∧ r.2.mem ((c.tc : Thread Cert.FilterRefIdeal.nD Cert.FilterRefIdeal.τ).loc Cert.FilterRefIdeal.main_arg5) = m ((c.tc : Thread Cert.FilterRefIdeal.nD Cert.FilterRefIdeal.τ).loc Cert.FilterRefIdeal.main_arg5)
      ∧ r.2.mem ((c.tc : Thread Cert.FilterRefIdeal.nD Cert.FilterRefIdeal.τ).loc Cert.FilterRefIdeal.main_arg6) = m ((c.tc : Thread Cert.FilterRefIdeal.nD Cert.FilterRefIdeal.τ).loc Cert.FilterRefIdeal.main_arg6))
      ∧ r.2.sem = fun _ => 0)

def quiescent_FilterRefIdeal_pre_finite_taps [hFilterRefIdeal : Cert.FilterRefIdeal.Facts] [hPre_finite_taps : Cert.Pre_finite_taps.Facts] : Prop :=
  ∀ (m : (ℓ : Loc Cert.FilterRefIdeal.nD Cert.FilterRefIdeal.τ Cert.FilterRefIdeal.sig) → Buf (Elt Ideal) ℓ) (g : Dev Cert.FilterRefIdeal.nD → PrngReg), Pre_FilterRefIdeal_finite_taps m →
    θ_run (Cert.FilterRefIdeal.defs (F := Ideal)) (onTc (τ := Cert.FilterRefIdeal.τ) (Cert.FilterRefIdeal.main (F := Ideal))) ⟨m, fun _ => 0, g⟩ (fun r => (∀ c : Dev Cert.FilterRefIdeal.nD,
      r.2.mem ((c.tc : Thread Cert.FilterRefIdeal.nD Cert.FilterRefIdeal.τ).loc Cert.FilterRefIdeal.main_arg0) = m ((c.tc : Thread Cert.FilterRefIdeal.nD Cert.FilterRefIdeal.τ).loc Cert.FilterRefIdeal.main_arg0)
      ∧ r.2.mem ((c.tc : Thread Cert.FilterRefIdeal.nD Cert.FilterRefIdeal.τ).loc Cert.FilterRefIdeal.main_arg1) = m ((c.tc : Thread Cert.FilterRefIdeal.nD Cert.FilterRefIdeal.τ).loc Cert.FilterRefIdeal.main_arg1)
      ∧ r.2.mem ((c.tc : Thread Cert.FilterRefIdeal.nD Cert.FilterRefIdeal.τ).loc Cert.FilterRefIdeal.main_arg2) = m ((c.tc : Thread Cert.FilterRefIdeal.nD Cert.FilterRefIdeal.τ).loc Cert.FilterRefIdeal.main_arg2)
      ∧ r.2.mem ((c.tc : Thread Cert.FilterRefIdeal.nD Cert.FilterRefIdeal.τ).loc Cert.FilterRefIdeal.main_arg3) = m ((c.tc : Thread Cert.FilterRefIdeal.nD Cert.FilterRefIdeal.τ).loc Cert.FilterRefIdeal.main_arg3)
      ∧ r.2.mem ((c.tc : Thread Cert.FilterRefIdeal.nD Cert.FilterRefIdeal.τ).loc Cert.FilterRefIdeal.main_arg4) = m ((c.tc : Thread Cert.FilterRefIdeal.nD Cert.FilterRefIdeal.τ).loc Cert.FilterRefIdeal.main_arg4)
      ∧ r.2.mem ((c.tc : Thread Cert.FilterRefIdeal.nD Cert.FilterRefIdeal.τ).loc Cert.FilterRefIdeal.main_arg5) = m ((c.tc : Thread Cert.FilterRefIdeal.nD Cert.FilterRefIdeal.τ).loc Cert.FilterRefIdeal.main_arg5)
      ∧ r.2.mem ((c.tc : Thread Cert.FilterRefIdeal.nD Cert.FilterRefIdeal.τ).loc Cert.FilterRefIdeal.main_arg6) = m ((c.tc : Thread Cert.FilterRefIdeal.nD Cert.FilterRefIdeal.τ).loc Cert.FilterRefIdeal.main_arg6))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Hyproj_HyprojIdeal : Prop :=
  True

def algebraic_HyprojIdeal_HyprojRefIdeal [hHyprojIdeal : Cert.HyprojIdeal.Facts] [hHyprojRefIdeal : Cert.HyprojRefIdeal.Facts] : Prop :=
  ∀ (m : (ℓ : Loc Cert.HyprojIdeal.nD Cert.HyprojIdeal.τ Cert.HyprojIdeal.sig) → Buf (Elt Ideal) ℓ) (g : Dev Cert.HyprojIdeal.nD → PrngReg)
    (m' : (ℓ : Loc Cert.HyprojRefIdeal.nD Cert.HyprojRefIdeal.τ Cert.HyprojRefIdeal.sig) → Buf (Elt Ideal) ℓ) (g' : Dev Cert.HyprojRefIdeal.nD → PrngReg), Pre_HyprojIdeal m →
    (∀ c : Dev Cert.HyprojIdeal.nD,
      m' ((c.tc : Thread Cert.HyprojRefIdeal.nD Cert.HyprojRefIdeal.τ).loc Cert.HyprojRefIdeal.main_arg0) = m ((c.tc : Thread Cert.HyprojIdeal.nD Cert.HyprojIdeal.τ).loc Cert.HyprojIdeal.main_arg0)
      ∧ m' ((c.tc : Thread Cert.HyprojRefIdeal.nD Cert.HyprojRefIdeal.τ).loc Cert.HyprojRefIdeal.main_arg1) = m ((c.tc : Thread Cert.HyprojIdeal.nD Cert.HyprojIdeal.τ).loc Cert.HyprojIdeal.main_arg1)
      ∧ m' ((c.tc : Thread Cert.HyprojRefIdeal.nD Cert.HyprojRefIdeal.τ).loc Cert.HyprojRefIdeal.main_arg2) = m ((c.tc : Thread Cert.HyprojIdeal.nD Cert.HyprojIdeal.τ).loc Cert.HyprojIdeal.main_arg2)
      ∧ m' ((c.tc : Thread Cert.HyprojRefIdeal.nD Cert.HyprojRefIdeal.τ).loc Cert.HyprojRefIdeal.main_arg3) = m ((c.tc : Thread Cert.HyprojIdeal.nD Cert.HyprojIdeal.τ).loc Cert.HyprojIdeal.main_arg3)) →
    ∃ (v0 : (c : Dev Cert.HyprojIdeal.nD) → Buf (Elt Ideal) ((c.tc : Thread Cert.HyprojIdeal.nD Cert.HyprojIdeal.τ).loc Cert.HyprojIdeal.main_v6)),
      θ_run (Cert.HyprojIdeal.defs (F := Ideal)) (onTc (τ := Cert.HyprojIdeal.τ) (Cert.HyprojIdeal.main (F := Ideal))) ⟨m, fun _ => 0, g⟩ (fun r => ∀ c : Dev Cert.HyprojIdeal.nD,
          r.2.mem ((c.tc : Thread Cert.HyprojIdeal.nD Cert.HyprojIdeal.τ).loc Cert.HyprojIdeal.main_v6) = v0 c
          ∧ r.2.mem ((c.tc : Thread Cert.HyprojIdeal.nD Cert.HyprojIdeal.τ).loc Cert.HyprojIdeal.main_arg0) = m ((c.tc : Thread Cert.HyprojIdeal.nD Cert.HyprojIdeal.τ).loc Cert.HyprojIdeal.main_arg0)
          ∧ r.2.mem ((c.tc : Thread Cert.HyprojIdeal.nD Cert.HyprojIdeal.τ).loc Cert.HyprojIdeal.main_arg1) = m ((c.tc : Thread Cert.HyprojIdeal.nD Cert.HyprojIdeal.τ).loc Cert.HyprojIdeal.main_arg1)
          ∧ r.2.mem ((c.tc : Thread Cert.HyprojIdeal.nD Cert.HyprojIdeal.τ).loc Cert.HyprojIdeal.main_arg2) = m ((c.tc : Thread Cert.HyprojIdeal.nD Cert.HyprojIdeal.τ).loc Cert.HyprojIdeal.main_arg2)
          ∧ r.2.mem ((c.tc : Thread Cert.HyprojIdeal.nD Cert.HyprojIdeal.τ).loc Cert.HyprojIdeal.main_arg3) = m ((c.tc : Thread Cert.HyprojIdeal.nD Cert.HyprojIdeal.τ).loc Cert.HyprojIdeal.main_arg3))
      ∧ θ_run (Cert.HyprojRefIdeal.defs (F := Ideal)) (onTc (τ := Cert.HyprojRefIdeal.τ) (Cert.HyprojRefIdeal.main (F := Ideal))) ⟨m', fun _ => 0, g'⟩ (fun r => ∀ c : Dev Cert.HyprojRefIdeal.nD,
          r.2.mem ((c.tc : Thread Cert.HyprojRefIdeal.nD Cert.HyprojRefIdeal.τ).loc Cert.HyprojRefIdeal.main_v31) = v0 c
          ∧ r.2.mem ((c.tc : Thread Cert.HyprojRefIdeal.nD Cert.HyprojRefIdeal.τ).loc Cert.HyprojRefIdeal.main_arg0) = m' ((c.tc : Thread Cert.HyprojRefIdeal.nD Cert.HyprojRefIdeal.τ).loc Cert.HyprojRefIdeal.main_arg0)
          ∧ r.2.mem ((c.tc : Thread Cert.HyprojRefIdeal.nD Cert.HyprojRefIdeal.τ).loc Cert.HyprojRefIdeal.main_arg1) = m' ((c.tc : Thread Cert.HyprojRefIdeal.nD Cert.HyprojRefIdeal.τ).loc Cert.HyprojRefIdeal.main_arg1)
          ∧ r.2.mem ((c.tc : Thread Cert.HyprojRefIdeal.nD Cert.HyprojRefIdeal.τ).loc Cert.HyprojRefIdeal.main_arg2) = m' ((c.tc : Thread Cert.HyprojRefIdeal.nD Cert.HyprojRefIdeal.τ).loc Cert.HyprojRefIdeal.main_arg2)
          ∧ r.2.mem ((c.tc : Thread Cert.HyprojRefIdeal.nD Cert.HyprojRefIdeal.τ).loc Cert.HyprojRefIdeal.main_arg3) = m' ((c.tc : Thread Cert.HyprojRefIdeal.nD Cert.HyprojRefIdeal.τ).loc Cert.HyprojRefIdeal.main_arg3))

def preserves_Pool_PoolIdeal : Prop :=
  True

def algebraic_PoolIdeal_PoolRefIdeal_pre_finite_weights [hPoolIdeal : Cert.PoolIdeal.Facts] [hPoolRefIdeal : Cert.PoolRefIdeal.Facts] [hPre_finite_weights : Cert.Pre_finite_weights.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_weights m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)) →
    ∃ (v0 : (c : Dev Cert.PoolIdeal.nD) → Buf (Elt Ideal) ((c.tc : Thread Cert.PoolIdeal.nD Cert.PoolIdeal.τ).loc Cert.PoolIdeal.main_v9_0)) (v1 : (c : Dev Cert.PoolIdeal.nD) → Buf (Elt Ideal) ((c.tc : Thread Cert.PoolIdeal.nD Cert.PoolIdeal.τ).loc Cert.PoolIdeal.main_v9_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v9_0) = v0 c
          ∧ r.2.mem ((c.tc : Thread Cert.PoolIdeal.nD Cert.PoolIdeal.τ).loc Cert.PoolIdeal.main_v9_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v169) = v0 c
          ∧ r.2.mem ((c.tc : Thread Cert.PoolRefIdeal.nD Cert.PoolRefIdeal.τ).loc Cert.PoolRefIdeal.main_v171) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4))

def preserves_Filter_FilterIdeal : Prop :=
  IdealRules.named_const.Statement Cert.FilterIdeal.κ "half_pi" .f32 0x3FC90FDB#32 (((1 / 2) * Real.pi : ℝ) : EReal)

def algebraic_FilterIdeal_FilterRefIdeal_pre_finite_taps [hFilterIdeal : Cert.FilterIdeal.Facts] [hFilterRefIdeal : Cert.FilterRefIdeal.Facts] [hPre_finite_taps : Cert.Pre_finite_taps.Facts] : Prop :=
  ∀ (m : (ℓ : Loc Cert.FilterIdeal.nD Cert.FilterIdeal.τ Cert.FilterIdeal.sig) → Buf (Elt Ideal) ℓ) (g : Dev Cert.FilterIdeal.nD → PrngReg)
    (m' : (ℓ : Loc Cert.FilterRefIdeal.nD Cert.FilterRefIdeal.τ Cert.FilterRefIdeal.sig) → Buf (Elt Ideal) ℓ) (g' : Dev Cert.FilterRefIdeal.nD → PrngReg), Pre_FilterIdeal_finite_taps m →
    (∀ c : Dev Cert.FilterIdeal.nD,
      m' ((c.tc : Thread Cert.FilterRefIdeal.nD Cert.FilterRefIdeal.τ).loc Cert.FilterRefIdeal.main_arg0) = m ((c.tc : Thread Cert.FilterIdeal.nD Cert.FilterIdeal.τ).loc Cert.FilterIdeal.main_arg0)
      ∧ m' ((c.tc : Thread Cert.FilterRefIdeal.nD Cert.FilterRefIdeal.τ).loc Cert.FilterRefIdeal.main_arg1) = m ((c.tc : Thread Cert.FilterIdeal.nD Cert.FilterIdeal.τ).loc Cert.FilterIdeal.main_arg1)
      ∧ m' ((c.tc : Thread Cert.FilterRefIdeal.nD Cert.FilterRefIdeal.τ).loc Cert.FilterRefIdeal.main_arg2) = m ((c.tc : Thread Cert.FilterIdeal.nD Cert.FilterIdeal.τ).loc Cert.FilterIdeal.main_arg2)
      ∧ m' ((c.tc : Thread Cert.FilterRefIdeal.nD Cert.FilterRefIdeal.τ).loc Cert.FilterRefIdeal.main_arg3) = m ((c.tc : Thread Cert.FilterIdeal.nD Cert.FilterIdeal.τ).loc Cert.FilterIdeal.main_arg3)
      ∧ m' ((c.tc : Thread Cert.FilterRefIdeal.nD Cert.FilterRefIdeal.τ).loc Cert.FilterRefIdeal.main_arg4) = m ((c.tc : Thread Cert.FilterIdeal.nD Cert.FilterIdeal.τ).loc Cert.FilterIdeal.main_arg4)
      ∧ m' ((c.tc : Thread Cert.FilterRefIdeal.nD Cert.FilterRefIdeal.τ).loc Cert.FilterRefIdeal.main_arg5) = m ((c.tc : Thread Cert.FilterIdeal.nD Cert.FilterIdeal.τ).loc Cert.FilterIdeal.main_arg5)
      ∧ m' ((c.tc : Thread Cert.FilterRefIdeal.nD Cert.FilterRefIdeal.τ).loc Cert.FilterRefIdeal.main_arg6) = m ((c.tc : Thread Cert.FilterIdeal.nD Cert.FilterIdeal.τ).loc Cert.FilterIdeal.main_arg6)) →
    ∃ (v0 : (c : Dev Cert.FilterIdeal.nD) → Buf (Elt Ideal) ((c.tc : Thread Cert.FilterIdeal.nD Cert.FilterIdeal.τ).loc Cert.FilterIdeal.main_v22_0)) (v1 : (c : Dev Cert.FilterIdeal.nD) → Buf (Elt Ideal) ((c.tc : Thread Cert.FilterIdeal.nD Cert.FilterIdeal.τ).loc Cert.FilterIdeal.main_v22_1)),
      θ_run (Cert.FilterIdeal.defs (F := Ideal)) (onTc (τ := Cert.FilterIdeal.τ) (Cert.FilterIdeal.main (F := Ideal))) ⟨m, fun _ => 0, g⟩ (fun r => ∀ c : Dev Cert.FilterIdeal.nD,
          r.2.mem ((c.tc : Thread Cert.FilterIdeal.nD Cert.FilterIdeal.τ).loc Cert.FilterIdeal.main_v22_0) = v0 c
          ∧ r.2.mem ((c.tc : Thread Cert.FilterIdeal.nD Cert.FilterIdeal.τ).loc Cert.FilterIdeal.main_v22_1) = v1 c
          ∧ r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
          ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
          ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
          ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
          ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
          ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
          ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6))
      ∧ θ_run (Cert.FilterRefIdeal.defs (F := Ideal)) (onTc (τ := Cert.FilterRefIdeal.τ) (Cert.FilterRefIdeal.main (F := Ideal))) ⟨m', fun _ => 0, g'⟩ (fun r => ∀ c : Dev Cert.FilterRefIdeal.nD,
          r.2.mem ((c.tc : Thread Cert.FilterRefIdeal.nD Cert.FilterRefIdeal.τ).loc Cert.FilterRefIdeal.main_v79) = v0 c
          ∧ r.2.mem ((c.tc : Thread Cert.FilterRefIdeal.nD Cert.FilterRefIdeal.τ).loc Cert.FilterRefIdeal.main_v82) = v1 c
          ∧ r.2.mem ((c.tc : Thread Cert.FilterRefIdeal.nD Cert.FilterRefIdeal.τ).loc Cert.FilterRefIdeal.main_arg0) = m' ((c.tc : Thread Cert.FilterRefIdeal.nD Cert.FilterRefIdeal.τ).loc Cert.FilterRefIdeal.main_arg0)
          ∧ r.2.mem ((c.tc : Thread Cert.FilterRefIdeal.nD Cert.FilterRefIdeal.τ).loc Cert.FilterRefIdeal.main_arg1) = m' ((c.tc : Thread Cert.FilterRefIdeal.nD Cert.FilterRefIdeal.τ).loc Cert.FilterRefIdeal.main_arg1)
          ∧ r.2.mem ((c.tc : Thread Cert.FilterRefIdeal.nD Cert.FilterRefIdeal.τ).loc Cert.FilterRefIdeal.main_arg2) = m' ((c.tc : Thread Cert.FilterRefIdeal.nD Cert.FilterRefIdeal.τ).loc Cert.FilterRefIdeal.main_arg2)
          ∧ r.2.mem ((c.tc : Thread Cert.FilterRefIdeal.nD Cert.FilterRefIdeal.τ).loc Cert.FilterRefIdeal.main_arg3) = m' ((c.tc : Thread Cert.FilterRefIdeal.nD Cert.FilterRefIdeal.τ).loc Cert.FilterRefIdeal.main_arg3)
          ∧ r.2.mem ((c.tc : Thread Cert.FilterRefIdeal.nD Cert.FilterRefIdeal.τ).loc Cert.FilterRefIdeal.main_arg4) = m' ((c.tc : Thread Cert.FilterRefIdeal.nD Cert.FilterRefIdeal.τ).loc Cert.FilterRefIdeal.main_arg4)
          ∧ r.2.mem ((c.tc : Thread Cert.FilterRefIdeal.nD Cert.FilterRefIdeal.τ).loc Cert.FilterRefIdeal.main_arg5) = m' ((c.tc : Thread Cert.FilterRefIdeal.nD Cert.FilterRefIdeal.τ).loc Cert.FilterRefIdeal.main_arg5)
          ∧ r.2.mem ((c.tc : Thread Cert.FilterRefIdeal.nD Cert.FilterRefIdeal.τ).loc Cert.FilterRefIdeal.main_arg6) = m' ((c.tc : Thread Cert.FilterRefIdeal.nD Cert.FilterRefIdeal.τ).loc Cert.FilterRefIdeal.main_arg6))

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hHyproj : Cert.Hyproj.Facts) (hHyprojIdeal : Cert.HyprojIdeal.Facts) (hHyprojRefIdeal : Cert.HyprojRefIdeal.Facts) (hPool : Cert.Pool.Facts) (hPoolIdeal : Cert.PoolIdeal.Facts) (hPoolRefIdeal : Cert.PoolRefIdeal.Facts) (hFilter : Cert.Filter.Facts) (hFilterIdeal : Cert.FilterIdeal.Facts) (hFilterRefIdeal : Cert.FilterRefIdeal.Facts) (hPre_finite_weights : Cert.Pre_finite_weights.Facts) (hPre_finite_taps : Cert.Pre_finite_taps.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Hyproj (hHyproj := hHyproj)
    ∧ quiescent_HyprojIdeal (hHyprojIdeal := hHyprojIdeal)
    ∧ quiescent_HyprojRefIdeal (hHyprojRefIdeal := hHyprojRefIdeal)
    ∧ quiescent_Pool (hPool := hPool)
    ∧ quiescent_PoolIdeal (hPoolIdeal := hPoolIdeal)
    ∧ quiescent_PoolIdeal_pre_finite_weights (hPoolIdeal := hPoolIdeal) (hPre_finite_weights := hPre_finite_weights)
    ∧ quiescent_PoolRefIdeal (hPoolRefIdeal := hPoolRefIdeal)
    ∧ quiescent_PoolRefIdeal_pre_finite_weights (hPoolRefIdeal := hPoolRefIdeal) (hPre_finite_weights := hPre_finite_weights)
    ∧ quiescent_Filter (hFilter := hFilter)
    ∧ quiescent_FilterIdeal (hFilterIdeal := hFilterIdeal)
    ∧ quiescent_FilterIdeal_pre_finite_taps (hFilterIdeal := hFilterIdeal) (hPre_finite_taps := hPre_finite_taps)
    ∧ quiescent_FilterRefIdeal (hFilterRefIdeal := hFilterRefIdeal)
    ∧ quiescent_FilterRefIdeal_pre_finite_taps (hFilterRefIdeal := hFilterRefIdeal) (hPre_finite_taps := hPre_finite_taps)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Hyproj_HyprojIdeal
    ∧ algebraic_HyprojIdeal_HyprojRefIdeal (hHyprojIdeal := hHyprojIdeal) (hHyprojRefIdeal := hHyprojRefIdeal)
    ∧ preserves_Pool_PoolIdeal
    ∧ algebraic_PoolIdeal_PoolRefIdeal_pre_finite_weights (hPoolIdeal := hPoolIdeal) (hPoolRefIdeal := hPoolRefIdeal) (hPre_finite_weights := hPre_finite_weights)
    ∧ preserves_Filter_FilterIdeal
    ∧ algebraic_FilterIdeal_FilterRefIdeal_pre_finite_taps (hFilterIdeal := hFilterIdeal) (hFilterRefIdeal := hFilterRefIdeal) (hPre_finite_taps := hPre_finite_taps)
-- ==== Pre_finite_taps.lean ====
abbrev S1x33x64 : Shape := ⟨3, ![1, 33, 64]⟩
abbrev S1x64 : Shape := ⟨2, ![1, 64]⟩
abbrev S1x64x64 : Shape := ⟨3, ![1, 64, 64]⟩
abbrev S1x64x4096 : Shape := ⟨3, ![1, 64, 4096]⟩
abbrev S_ : Shape := ⟨0, ![]⟩

class Facts : Prop where
  bcast_S_S1x64x4096 : S_.BroadcastsInDim S1x64x4096 (![] : Fin 0 → Fin S1x64x4096.rank)
  reducesTo_S1x64x4096_S_d0_1_2 : S1x64x4096.ReducesTo [0, 1, 2] S_
  h_S_ : 0 < S_.numel

variable [Facts]

def fn {F : FTy → Type} [FloatOps F] (main_arg0 : FVec F S1x33x64 .f32) (main_arg1 : FVec F S1x64 .f32) (main_arg2 : FVec F S1x64 .f32) (main_arg3 : FVec F S1x64x64 .f32) (main_arg4 : FVec F S1x64 .f32) (main_arg5 : FVec F S1x64 .f32) (main_arg6 : FVec F S1x64x4096 .f32) : IVec S_ 1 :=
  let main_v0 : FVec F S1x64x4096 .f32 := Host.absf main_arg6
  let main_cst : FVec F S_ .f32 := constant S_ .f32 0x7F800000#32
  let main_v1 : FVec F S1x64x4096 .f32 := broadcastInDim S1x64x4096 ![] bcast_S_S1x64x4096 main_cst
  let main_v2 : IVec S1x64x4096 1 := cmpf .olt main_v0 main_v1
  let main_c : IVec S_ 1 := constantI S_ 1 1#1
  let main_v3 : IVec S_ 1 := (fun x v => Host.reduce IntOp.andi x v reducesTo_S1x64x4096_S_d0_1_2 h_S_) main_v2 main_c
  main_v3
-- ==== Pre_finite_weights.lean ====
abbrev S32768x2048 : Shape := ⟨2, ![32768, 2048]⟩
abbrev S1x2048 : Shape := ⟨2, ![1, 2048]⟩
abbrev S1x2048x8192 : Shape := ⟨3, ![1, 2048, 8192]⟩
abbrev S1x4x256x256 : Shape := ⟨4, ![1, 4, 256, 256]⟩
abbrev S1x1024 : Shape := ⟨2, ![1, 1024]⟩
abbrev S_ : Shape := ⟨0, ![]⟩
abbrev S1x2048x1024 : Shape := ⟨3, ![1, 2048, 1024]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  slices_S1x2048x8192_S1x2048x1024_0_0_0 : S1x2048x8192.Slices ![0, 0, 0] S1x2048x1024
  bcast_S_S1x2048x1024 : S_.BroadcastsInDim S1x2048x1024 (![] : Fin 0 → Fin S1x2048x1024.rank)
  reducesTo_S1x2048x1024_S_d0_1_2 : S1x2048x1024.ReducesTo [0, 1, 2] S_

variable [Facts]

def fn {F : FTy → Type} [FloatOps F] (main_arg0 : FVec F S32768x2048 .f32) (main_arg1 : FVec F S1x2048 .f32) (main_arg2 : FVec F S1x2048x8192 .f32) (main_arg3 : FVec F S1x4x256x256 .f32) (main_arg4 : FVec F S1x1024 .f32) : IVec S_ 1 × IVec S_ 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048x1024 .f32 := (extractStridedSlice S1x2048x1024 ![0, 0, 0] · slices_S1x2048x8192_S1x2048x1024_0_0_0) main_arg2
  let main_v5 : FVec F S1x2048x1024 .f32 := Host.absf main_v4
  let main_cst_0 : FVec F S_ .f32 := constant S_ .f32 0x7F800000#32
  let main_v6 : FVec F S1x2048x1024 .f32 := broadcastInDim S1x2048x1024 ![] bcast_S_S1x2048x1024 main_cst_0
  let main_v7 : IVec S1x2048x1024 1 := cmpf .olt main_v5 main_v6
  let main_c_1 : IVec S_ 1 := constantI S_ 1 1#1
  let main_v8 : IVec S_ 1 := (fun x v => Host.reduce IntOp.andi x v reducesTo_S1x2048x1024_S_d0_1_2 h_S_) main_v7 main_c_1
  (main_v3, main_v8)
-- ==== Ffn.lean ====
abbrev S32768x2048 : Shape := ⟨2, ![32768, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 16
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S1x2048, .f32⟩
  | .hbm, ⟨14, _⟩ => ⟨S1x2048, .f32⟩
  | .hbm, ⟨15, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S32768x2048 : Shape := ⟨2, ![32768, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x5632 : Shape := ⟨2, ![2048, 5632]⟩
abbrev S32768x5632 : Shape := ⟨2, ![32768, 5632]⟩
abbrev S5632x2048 : Shape := ⟨2, ![5632, 2048]⟩

abbrev nBuf : Space → Nat
  | .hbm => 56
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S2048x5632, .f32⟩
  | .hbm, ⟨24, _⟩ => ⟨S32768x5632, .f32⟩
  | .hbm, ⟨25, _⟩ => ⟨S32768x5632, .f32⟩
  | .hbm, ⟨26, _⟩ => ⟨S32768x5632, .f32⟩
  | .hbm, ⟨27, _⟩ => ⟨S_, .f32⟩
  | .hbm, ⟨28, _⟩ => ⟨S32768x5632, .f32⟩
  | .hbm, ⟨29, _⟩ => ⟨S32768x5632, .f32⟩
  | .hbm, ⟨30, _⟩ => ⟨S_, .f32⟩
  | .hbm, ⟨31, _⟩ => ⟨S32768x5632, .f32⟩
  | .hbm, ⟨32, _⟩ => ⟨S32768x5632, .f32⟩
  | .hbm, ⟨33, _⟩ => ⟨S32768x5632, .f32⟩
  | .hbm, ⟨34, _⟩ => ⟨S2048x5632, .f32⟩
  | .hbm, ⟨35, _⟩ => ⟨S32768x5632, .f32⟩
  | .hbm, ⟨36, _⟩ => ⟨S32768x5632, .f32⟩
  | .hbm, ⟨37, _⟩ => ⟨S5632x2048, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x2048, .f32⟩
  | .hbm, ⟨52, _⟩ => ⟨S32768x2048, .f32⟩
  | .hbm, ⟨53, _⟩ => ⟨S1x2048, .f32⟩
  | .hbm, ⟨54, _⟩ => ⟨S32768x2048, .f32⟩
  | .hbm, ⟨55, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Merge.lean ====
abbrev S32768x2048 : Shape := ⟨2, ![32768, 2048]⟩
abbrev S32768x1024 : Shape := ⟨2, ![32768, 1024]⟩
abbrev S1x2048x8192 : Shape := ⟨3, ![1, 2048, 8192]⟩
abbrev S1x1024x2048 : Shape := ⟨3, ![1, 1024, 2048]⟩
abbrev S1x2048x2048 : Shape := ⟨3, ![1, 2048, 2048]⟩
abbrev S2048x8192 : Shape := ⟨2, ![2048, 8192]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 21
  | .vmem => 23
  | .smem => 0
  | _ => 0

abbrev bufTy : (tb : Table) → Fin (tcTables nBuf tb) → BufTy
  | .hbm, ⟨0, _⟩ => ⟨S32768x2048, .bf16⟩
  | .hbm, ⟨1, _⟩ => ⟨S32768x1024, .bf16⟩
  | .hbm, ⟨2, _⟩ => ⟨S32768x1024, .bf16⟩
  | .hbm, ⟨3, _⟩ => ⟨S32768x2048, .f32⟩
  | .hbm, ⟨4, _⟩ => ⟨S1x2048x8192, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S2048x8192, .f32⟩
  | .hbm, ⟨9, _⟩ => ⟨S2048x2048, .f32⟩
  | .hbm, ⟨10, _⟩ => ⟨S2048x2048, .bf16⟩
  | .hbm, ⟨11, _⟩ => ⟨S2048x8192, .f32⟩
  | .hbm, ⟨12, _⟩ => ⟨S2048x2048, .f32⟩
  | .hbm, ⟨13, _⟩ => ⟨S2048x2048, .bf16⟩
  | .hbm, ⟨14, _⟩ => ⟨S1024x2048, .f32⟩
  | .hbm, ⟨15, _⟩ => ⟨S1024x2048, .bf16⟩
  | .hbm, ⟨16, _⟩ => ⟨S1024x2048, .f32⟩
  | .hbm, ⟨17, _⟩ => ⟨S1024x2048, .bf16⟩
  | .hbm, ⟨18, _⟩ => ⟨S2048x2048, .f32⟩
  | .hbm, ⟨19, _⟩ => ⟨S2048x2048, .bf16⟩
  | .hbm, ⟨20, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .f32⟩
  | .local _ .vmem, ⟨19, _⟩ => ⟨S512x2048, .f32⟩
  | .local _ .vmem, ⟨20, _⟩ => ⟨S512x512, .bf16⟩
  | .local _ .vmem, ⟨21, _⟩ => ⟨S512x512, .bf16⟩
  | .local _ .vmem, ⟨22, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![257], ![false]⟩

def k0_cond2 (i : grid0.Coords) : BitVec 1 :=
  let arg0 : BitVec 32 := BitVec.ofNat 32 (i 0).val
  let c2_i32 : BitVec 32 := 2#32
  let c0_i32_8 : BitVec 32 := 0#32
  let v16 : BitVec 1 := Scalar.cmpi .eq c2_i32 c0_i32_8
  let c1_i32_9 : BitVec 32 := 1#32
  let v17 : BitVec 32 := Scalar.select v16 c1_i32_9 c2_i32
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c0_i32_13 : BitVec 32 := 0#32
  let v26 : BitVec 1 := Scalar.cmpi .eq v25 c0_i32_13
  let v27 : BitVec 32 := Scalar.extui v26
  let c0_i32_14 : BitVec 32 := 0#32
  let v28 : BitVec 1 := Scalar.cmpi .ne v27 c0_i32_14
  v28

def k0_cond3 (i : grid0.Coords) : BitVec 1 :=
  let arg0 : BitVec 32 := BitVec.ofNat 32 (i 0).val
  let c2_i32_15 : BitVec 32 := 2#32
  let c0_i32_16 : BitVec 32 := 0#32
  let v29 : BitVec 1 := Scalar.cmpi .eq c2_i32_15 c0_i32_16
  let c1_i32_17 : BitVec 32 := 1#32
  let v30 : BitVec 32 := Scalar.select v29 c1_i32_17 c2_i32_15
  let v31 : BitVec 32 := Scalar.remsi arg0 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c1_i32_21 : BitVec 32 := 1#32
  let v39 : BitVec 1 := Scalar.cmpi .eq v38 c1_i32_21
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let c255_i32 : BitVec 32 := 255#32
  let v0 : BitVec 32 := Scalar.minsi arg0 c255_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c255_i32 : BitVec 32 := 255#32
  let v0 : BitVec 32 := Scalar.minsi arg0 c255_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_2 (i : grid0.Coords) : Fin 2 → Nat :=
  let arg0 : BitVec 32 := BitVec.ofNat 32 (i 0).val
  let c255_i32 : BitVec 32 := 255#32
  let v0 : BitVec 32 := Scalar.minsi arg0 c255_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_4 (i : grid0.Coords) : Fin 2 → Nat :=
  let arg0 : BitVec 32 := BitVec.ofNat 32 (i 0).val
  let c255_i32 : BitVec 32 := 255#32
  let v0 : BitVec 32 := Scalar.minsi arg0 c255_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_5 (i : grid0.Coords) : Fin 2 → Nat :=
  let arg0 : BitVec 32 := BitVec.ofNat 32 (i 0).val
  let c255_i32 : BitVec 32 := 255#32
  let v0 : BitVec 32 := Scalar.minsi arg0 c255_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_6 (i : grid0.Coords) : Fin 2 → Nat :=
  let arg0 : BitVec 32 := BitVec.ofNat 32 (i 0).val
  let c255_i32 : BitVec 32 := 255#32
  let v0 : BitVec 32 := Scalar.minsi arg0 c255_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_7 (i : grid0.Coords) : Fin 2 → Nat :=
  let arg0 : BitVec 32 := BitVec.ofNat 32 (i 0).val
  let c255_i32 : BitVec 32 := 255#32
  let v0 : BitVec 32 := Scalar.minsi arg0 c255_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S32768x2048 : Shape := ⟨2, ![32768, 2048]⟩
abbrev S32768x1024 : Shape := ⟨2, ![32768, 1024]⟩
abbrev S1x2048x8192 : Shape := ⟨3, ![1, 2048, 8192]⟩
abbrev S1x1024x2048 : Shape := ⟨3, ![1, 1024, 2048]⟩
abbrev S1x2048x2048 : Shape := ⟨3, ![1, 2048, 2048]⟩
abbrev S2048x8192 : Shape := ⟨2, ![2048, 8192]⟩
abbrev S32768x8192 : Shape := ⟨2, ![32768, 8192]⟩
abbrev S_ : Shape := ⟨0, ![]⟩
abbrev S1024x2048 : Shape := ⟨2, ![1024, 2048]⟩
abbrev S2048x2048 : Shape := ⟨2, ![2048, 2048]⟩

abbrev nBuf : Space → Nat
  | .hbm => 41
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x1024, .bf16⟩
  | .hbm, ⟨2, _⟩ => ⟨S32768x1024, .bf16⟩
  | .hbm, ⟨3, _⟩ => ⟨S32768x2048, .f32⟩
  | .hbm, ⟨4, _⟩ => ⟨S1x2048x8192, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S32768x2048, .f32⟩
  | .hbm, ⟨9, _⟩ => ⟨S32768x1024, .f32⟩
  | .hbm, ⟨10, _⟩ => ⟨S32768x1024, .f32⟩
  | .hbm, ⟨11, _⟩ => ⟨S2048x8192, .f32⟩
  | .hbm, ⟨12, _⟩ => ⟨S32768x8192, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S32768x2048, .f32⟩
  | .hbm, ⟨22, _⟩ => ⟨S32768x2048, .f32⟩
  | .hbm, ⟨23, _⟩ => ⟨S1024x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x2048, .f32⟩
  | .hbm, ⟨30, _⟩ => ⟨S32768x2048, .f32⟩
  | .hbm, ⟨31, _⟩ => ⟨S_, .f32⟩
  | .hbm, ⟨32, _⟩ => ⟨S32768x2048, .f32⟩
  | .hbm, ⟨33, _⟩ => ⟨S32768x2048, .f32⟩
  | .hbm, ⟨34, _⟩ => ⟨S1024x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S2048x2048, .f32⟩
  | .hbm, ⟨39, _⟩ => ⟨S32768x2048, .f32⟩
  | .hbm, ⟨40, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Hyproj.lean ====
abbrev S32768x2048 : Shape := ⟨2, ![32768, 2048]⟩
abbrev S1x2048x8192 : Shape := ⟨3, ![1, 2048, 8192]⟩
abbrev S1x3x3072 : Shape := ⟨3, ![1, 3, 3072]⟩
abbrev S1x3072 : Shape := ⟨2, ![1, 3072]⟩
abbrev S2048x8192 : Shape := ⟨2, ![2048, 8192]⟩
abbrev S2048x3072 : Shape := ⟨2, ![2048, 3072]⟩
abbrev S3x3072 : Shape := ⟨2, ![3, 3072]⟩
abbrev S3072 : Shape := ⟨1, ![3072]⟩
abbrev S32768x3072 : Shape := ⟨2, ![32768, 3072]⟩
abbrev S16x2048 : Shape := ⟨2, ![16, 2048]⟩
abbrev S1024x2048 : Shape := ⟨2, ![1024, 2048]⟩
abbrev S2048x1024 : Shape := ⟨2, ![2048, 1024]⟩
abbrev S3x1024 : Shape := ⟨2, ![3, 1024]⟩
abbrev S1x1024 : Shape := ⟨2, ![1, 1024]⟩
abbrev S1024x1024 : Shape := ⟨2, ![1024, 1024]⟩
abbrev S1056x2048 : Shape := ⟨2, ![1056, 2048]⟩
abbrev S1056x1024 : Shape := ⟨2, ![1056, 1024]⟩

abbrev nBuf : Space → Nat
  | .hbm => 11
  | .vmem => 15
  | .smem => 0
  | _ => 0

abbrev bufTy : (tb : Table) → Fin (tcTables nBuf tb) → BufTy
  | .hbm, ⟨0, _⟩ => ⟨S32768x2048, .bf16⟩
  | .hbm, ⟨1, _⟩ => ⟨S1x2048x8192, .f32⟩
  | .hbm, ⟨2, _⟩ => ⟨S1x3x3072, .f32⟩
  | .hbm, ⟨3, _⟩ => ⟨S1x3072, .f32⟩
  | .hbm, ⟨4, _⟩ => ⟨S2048x8192, .f32⟩
  | .hbm, ⟨5, _⟩ => ⟨S2048x3072, .f32⟩
  | .hbm, ⟨6, _⟩ => ⟨S2048x3072, .bf16⟩
  | .hbm, ⟨7, _⟩ => ⟨S3x3072, .f32⟩
  | .hbm, ⟨8, _⟩ => ⟨S3072, .f32⟩
  | .hbm, ⟨9, _⟩ => ⟨S1x3072, .f32⟩
  | .hbm, ⟨10, _⟩ => ⟨S32768x3072, .f32⟩
  | .local _ .vmem, ⟨0, _⟩ => ⟨S16x2048, .bf16⟩
  | .local _ .vmem, ⟨1, _⟩ => ⟨S16x2048, .bf16⟩
  | .local _ .vmem, ⟨2, _⟩ => ⟨S1024x2048, .bf16⟩
  | .local _ .vmem, ⟨3, _⟩ => ⟨S1024x2048, .bf16⟩
  | .local _ .vmem, ⟨4, _⟩ => ⟨S16x2048, .bf16⟩
  | .local _ .vmem, ⟨5, _⟩ => ⟨S16x2048, .bf16⟩
  | .local _ .vmem, ⟨6, _⟩ => ⟨S2048x1024, .bf16⟩
  | .local _ .vmem, ⟨7, _⟩ => ⟨S2048x1024, .bf16⟩
  | .local _ .vmem, ⟨8, _⟩ => ⟨S3x1024, .f32⟩
  | .local _ .vmem, ⟨9, _⟩ => ⟨S3x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1056x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HyprojRefIdeal.lean ====
abbrev S32768x2048 : Shape := ⟨2, ![32768, 2048]⟩
abbrev S1x2048x8192 : Shape := ⟨3, ![1, 2048, 8192]⟩
abbrev S1x3x3072 : Shape := ⟨3, ![1, 3, 3072]⟩
abbrev S1x3072 : Shape := ⟨2, ![1, 3072]⟩
abbrev S4x8192x2048 : Shape := ⟨3, ![4, 8192, 2048]⟩
abbrev S2048x8192 : Shape := ⟨2, ![2048, 8192]⟩
abbrev S4x8192x8192 : Shape := ⟨3, ![4, 8192, 8192]⟩
abbrev S4x8192x3072 : Shape := ⟨3, ![4, 8192, 3072]⟩
abbrev S3x3072 : Shape := ⟨2, ![3, 3072]⟩
abbrev S3072 : Shape := ⟨1, ![3072]⟩
abbrev S_ : Shape := ⟨0, ![]⟩
abbrev S4x8194x3072 : Shape := ⟨3, ![4, 8194, 3072]⟩
abbrev S1x1x3072 : Shape := ⟨3, ![1, 1, 3072]⟩
abbrev S32768x3072 : Shape := ⟨2, ![32768, 3072]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x8192, .f32⟩
  | .hbm, ⟨2, _⟩ => ⟨S1x3x3072, .f32⟩
  | .hbm, ⟨3, _⟩ => ⟨S1x3072, .f32⟩
  | .hbm, ⟨4, _⟩ => ⟨S32768x2048, .f32⟩
  | .hbm, ⟨5, _⟩ => ⟨S4x8192x2048, .f32⟩
  | .hbm, ⟨6, _⟩ => ⟨S2048x8192, .f32⟩
  | .hbm, ⟨7, _⟩ => ⟨S4x8192x8192, .f32⟩
  | .hbm, ⟨8, _⟩ => ⟨S4x8192x3072, .f32⟩
  | .hbm, ⟨9, _⟩ => ⟨S3x3072, .f32⟩
  | .hbm, ⟨10, _⟩ => ⟨S3072, .f32⟩
  | .hbm, ⟨11, _⟩ => ⟨S_, .i32⟩
  | .hbm, ⟨12, _⟩ => ⟨S_, .f32⟩
  | .hbm, ⟨13, _⟩ => ⟨S4x8194x3072, .f32⟩
  | .hbm, ⟨14, _⟩ => ⟨S4x8192x3072, .f32⟩
  | .hbm, ⟨15, _⟩ => ⟨S1x3072, .f32⟩
  | .hbm, ⟨16, _⟩ => ⟨S3072, .f32⟩
  | .hbm, ⟨17, _⟩ => ⟨S1x1x3072, .f32⟩
  | .hbm, ⟨18, _⟩ => ⟨S4x8192x3072, .f32⟩
  | .hbm, ⟨19, _⟩ => ⟨S4x8192x3072, .f32⟩
  | .hbm, ⟨20, _⟩ => ⟨S4x8192x3072, .f32⟩
  | .hbm, ⟨21, _⟩ => ⟨S1x3072, .f32⟩
  | .hbm, ⟨22, _⟩ => ⟨S3072, .f32⟩
  | .hbm, ⟨23, _⟩ => ⟨S1x1x3072, .f32⟩
  | .hbm, ⟨24, _⟩ => ⟨S4x8192x3072, .f32⟩
  | .hbm, ⟨25, _⟩ => ⟨S4x8192x3072, .f32⟩
  | .hbm, ⟨26, _⟩ => ⟨S4x8192x3072, .f32⟩
  | .hbm, ⟨27, _⟩ => ⟨S4x8192x3072, .f32⟩
  | .hbm, ⟨28, _⟩ => ⟨S1x3072, .f32⟩
  | .hbm, ⟨29, _⟩ => ⟨S3072, .f32⟩
  | .hbm, ⟨30, _⟩ => ⟨S1x1x3072, .f32⟩
  | .hbm, ⟨31, _⟩ => ⟨S4x8192x3072, .f32⟩
  | .hbm, ⟨32, _⟩ => ⟨S4x8192x3072, .f32⟩
  | .hbm, ⟨33, _⟩ => ⟨S4x8192x3072, .f32⟩
  | .hbm, ⟨34, _⟩ => ⟨S1x1x3072, .f32⟩
  | .hbm, ⟨35, _⟩ => ⟨S4x8192x3072, .f32⟩
  | .hbm, ⟨36, _⟩ => ⟨S4x8192x3072, .f32⟩
  | .hbm, ⟨37, _⟩ => ⟨S32768x3072, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Pool.lean ====
abbrev S32768x2048 : Shape := ⟨2, ![32768, 2048]⟩
abbrev S1x2048 : Shape := ⟨2, ![1, 2048]⟩
abbrev S1x2048x8192 : Shape := ⟨3, ![1, 2048, 8192]⟩
abbrev S1x4x256x256 : Shape := ⟨4, ![1, 4, 256, 256]⟩
abbrev S1x1024 : Shape := ⟨2, ![1, 1024]⟩
abbrev S2048 : Shape := ⟨1, ![2048]⟩
abbrev S2048x8192 : Shape := ⟨2, ![2048, 8192]⟩
abbrev S2048x1024 : Shape := ⟨2, ![2048, 1024]⟩
abbrev S4x256x256 : Shape := ⟨3, ![4, 256, 256]⟩
abbrev S1024 : Shape := ⟨1, ![1024]⟩
abbrev S32768x1024 : Shape := ⟨2, ![32768, 1024]⟩
abbrev S16x2048 : Shape := ⟨2, ![16, 2048]⟩
abbrev S1024x2048 : Shape := ⟨2, ![1024, 2048]⟩
abbrev S1024x1024 : Shape := ⟨2, ![1024, 1024]⟩
abbrev S1056x2048 : Shape := ⟨2, ![1056, 2048]⟩
abbrev S4x4x256x512 : Shape := ⟨4, ![4, 4, 256, 512]⟩
abbrev S256x512 : Shape := ⟨2, ![256, 512]⟩
abbrev S1x1x256x512 : Shape := ⟨4, ![1, 1, 256, 512]⟩
abbrev S16 : Shape := ⟨1, ![16]⟩
abbrev S16x1 : Shape := ⟨2, ![16, 1]⟩
abbrev S1024x1 : Shape := ⟨2, ![1024, 1]⟩
abbrev S1056x1024 : Shape := ⟨2, ![1056, 1024]⟩
abbrev S512x256 : Shape := ⟨2, ![512, 256]⟩
abbrev S256x256 : Shape := ⟨2, ![256, 256]⟩
abbrev S1024x256 : Shape := ⟨2, ![1024, 256]⟩
abbrev S1x256x256 : Shape := ⟨3, ![1, 256, 256]⟩
abbrev S1x256 : Shape := ⟨2, ![1, 256]⟩

abbrev nBuf : Space → Nat
  | .hbm => 16
  | .vmem => 16
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x8192, .f32⟩
  | .hbm, ⟨3, _⟩ => ⟨S1x4x256x256, .f32⟩
  | .hbm, ⟨4, _⟩ => ⟨S1x1024, .f32⟩
  | .hbm, ⟨5, _⟩ => ⟨S2048, .f32⟩
  | .hbm, ⟨6, _⟩ => ⟨S2048x8192, .f32⟩
  | .hbm, ⟨7, _⟩ => ⟨S2048x1024, .f32⟩
  | .hbm, ⟨8, _⟩ => ⟨S2048x1024, .bf16⟩
  | .hbm, ⟨9, _⟩ => ⟨S4x256x256, .f32⟩
  | .hbm, ⟨10, _⟩ => ⟨S4x256x256, .bf16⟩
  | .hbm, ⟨11, _⟩ => ⟨S1024, .f32⟩
  | .hbm, ⟨12, _⟩ => ⟨S1x2048, .f32⟩
  | .hbm, ⟨13, _⟩ => ⟨S1x1024, .f32⟩
  | .hbm, ⟨14, _⟩ => ⟨S32768x1024, .bf16⟩
  | .hbm, ⟨15, _⟩ => ⟨S32768x2048, .bf16⟩
  | .local _ .vmem, ⟨0, _⟩ => ⟨S16x2048, .f32⟩
  | .local _ .vmem, ⟨1, _⟩ => ⟨S16x2048, .f32⟩
  | .local _ .vmem, ⟨2, _⟩ => ⟨S1024x2048, .f32⟩
  | .local _ .vmem, ⟨3, _⟩ => ⟨S1024x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S2048x1024, .bf16⟩
  | .local _ .vmem, ⟨8, _⟩ => ⟨S4x256x256, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x2048, .bf16⟩
  | .local _ .vmem, ⟨13, _⟩ => ⟨S1024x2048, .bf16⟩
  | .local _ .vmem, ⟨14, _⟩ => ⟨S1056x2048, .bf16⟩
  | .local _ .vmem, ⟨15, _⟩ => ⟨S4x4x256x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PoolRefIdeal.lean ====
abbrev S32768x2048 : Shape := ⟨2, ![32768, 2048]⟩
abbrev S1x2048 : Shape := ⟨2, ![1, 2048]⟩
abbrev S1x2048x8192 : Shape := ⟨3, ![1, 2048, 8192]⟩
abbrev S1x4x256x256 : Shape := ⟨4, ![1, 4, 256, 256]⟩
abbrev S1x1024 : Shape := ⟨2, ![1, 1024]⟩
abbrev S4x8192x2048 : Shape := ⟨3, ![4, 8192, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S2048x8192 : Shape := ⟨2, ![2048, 8192]⟩
abbrev S4x8192x8192 : Shape := ⟨3, ![4, 8192, 8192]⟩
abbrev S4x8192x1024 : Shape := ⟨3, ![4, 8192, 1024]⟩
abbrev S4x8192x4x256 : Shape := ⟨4, ![4, 8192, 4, 256]⟩
abbrev S4x8192x1x256 : Shape := ⟨4, ![4, 8192, 1, 256]⟩
abbrev S4x8192x256 : Shape := ⟨3, ![4, 8192, 256]⟩
abbrev S4x1x256 : Shape := ⟨3, ![4, 1, 256]⟩
abbrev S4x8193x256 : Shape := ⟨3, ![4, 8193, 256]⟩
abbrev S8192 : Shape := ⟨1, ![8192]⟩
abbrev S8192x1 : Shape := ⟨2, ![8192, 1]⟩
abbrev S1x8192x1 : Shape := ⟨3, ![1, 8192, 1]⟩
abbrev S4x256x256 : Shape := ⟨3, ![4, 256, 256]⟩
abbrev S4x256x4x8192 : Shape := ⟨4, ![4, 256, 4, 8192]⟩
abbrev S1024 : Shape := ⟨1, ![1024]⟩
abbrev S1x1x1024 : Shape := ⟨3, ![1, 1, 1024]⟩
abbrev S32768x1024 : Shape := ⟨2, ![32768, 1024]⟩

abbrev nBuf : Space → Nat
  | .hbm => 272
  | .vmem => 0
  | .smem => 0
  | _ => 0

abbrev hbmTy0_0 (i : Nat) : BufTy := match i % 128 with
  | 0 => ⟨S32768x2048, .f32⟩
  | 1 => ⟨S1x2048, .f32⟩
  | 2 => ⟨S1x2048x8192, .f32⟩
  | 3 => ⟨S1x4x256x256, .f32⟩
  | 4 => ⟨S1x1024, .f32⟩
  | 5 => ⟨S4x8192x2048, .f32⟩
  | 6 => ⟨S2048, .f32⟩
  | 7 => ⟨S4x8192x2048, .f32⟩
  | 8 => ⟨S_, .f32⟩
  | 9 => ⟨S4x8192, .f32⟩
  | 10 => ⟨S4x8192x1, .f32⟩
  | 11 => ⟨S_, .f32⟩
  | 12 => ⟨S4x8192x1, .f32⟩
  | 13 => ⟨S4x8192x1, .f32⟩
  | 14 => ⟨S_, .f32⟩
  | 15 => ⟨S4x8192x1, .f32⟩
  | 16 => ⟨S4x8192x1, .f32⟩
  | 17 => ⟨S4x8192x1, .f32⟩
  | 18 => ⟨S4x8192x2048, .f32⟩
  | 19 => ⟨S4x8192x2048, .f32⟩
  | 20 => ⟨S1x1x2048, .f32⟩
  | 21 => ⟨S4x8192x2048, .f32⟩
  | 22 => ⟨S4x8192x2048, .f32⟩
  | 23 => ⟨S2048x8192, .f32⟩
  | 24 => ⟨S4x8192x8192, .f32⟩
  | 25 => ⟨S4x8192x1024, .f32⟩
  | 26 => ⟨S4x8192x4x256, .f32⟩
  | 27 => ⟨S4x8192x1x256, .f32⟩
  | 28 => ⟨S4x8192x256, .f32⟩
  | 29 => ⟨S4x1x256, .f32⟩
  | 30 => ⟨S_, .f32⟩
  | 31 => ⟨S4x1x256, .f32⟩
  | 32 => ⟨S_, .f32⟩
  | 33 => ⟨S_, .f32⟩
  | 34 => ⟨S4x8192x256, .f32⟩
  | 35 => ⟨S4x8193x256, .f32⟩
  | 36 => ⟨S8192, .i32⟩
  | 37 => ⟨S_, .i32⟩
  | 38 => ⟨S8192, .i32⟩
  | 39 => ⟨S8192, .i32⟩
  | 40 => ⟨S_, .i32⟩
  | 41 => ⟨S_, .i32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S_, .i32⟩
  | 52 => ⟨S_, .i32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S8192, .i32⟩
  | 60 => ⟨S8192, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S4x8192x256, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S4x8192x256, .f32⟩
  | 79 => ⟨S4x8192x256, .f32⟩
  | 80 => ⟨S1x8192x1, .f32⟩
  | 81 => ⟨S4x8192x256, .f32⟩
  | 82 => ⟨S4x8192x256, .f32⟩
  | 83 => ⟨S4x8192x256, .f32⟩
  | 84 => ⟨S4x8192x1x256, .f32⟩
  | 85 => ⟨S4x8192x256, .f32⟩
  | 86 => ⟨S4x1x256, .f32⟩
  | 87 => ⟨S_, .f32⟩
  | 88 => ⟨S4x1x256, .f32⟩
  | 89 => ⟨S_, .f32⟩
  | 90 => ⟨S_, .f32⟩
  | 91 => ⟨S4x8192x256, .f32⟩
  | 92 => ⟨S4x8193x256, .f32⟩
  | 93 => ⟨S8192, .i32⟩
  | 94 => ⟨S_, .i32⟩
  | 95 => ⟨S8192, .i32⟩
  | 96 => ⟨S8192, .i32⟩
  | 97 => ⟨S_, .i32⟩
  | 98 => ⟨S_, .i32⟩
  | 99 => ⟨S_, .i32⟩
  | 100 => ⟨S8192, .i32⟩
  | 101 => ⟨S8192, .i32⟩
  | 102 => ⟨S_, .i32⟩
  | 103 => ⟨S8192, .i32⟩
  | 104 => ⟨S8192, .i32⟩
  | 105 => ⟨S_, .i32⟩
  | 106 => ⟨S8192, .i32⟩
  | 107 => ⟨S8192, .i32⟩
  | 108 => ⟨S_, .i32⟩
  | 109 => ⟨S_, .i32⟩
  | 110 => ⟨S_, .i32⟩
  | 111 => ⟨S8192, .i32⟩
  | 112 => ⟨S8192, .i32⟩
  | 113 => ⟨S_, .i32⟩
  | 114 => ⟨S8192, .i32⟩
  | 115 => ⟨S8192, .i32⟩
  | 116 => ⟨S8192, .i32⟩
  | 117 => ⟨S8192, .f32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S4x8192x256, .f32⟩
  | 127 => ⟨S_, .i32⟩
  | _ => ⟨S32768x2048, .f32⟩

abbrev hbmTy0_1 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S8192x1, .i32⟩
  | 7 => ⟨S4x8192x256, .f32⟩
  | 8 => ⟨S4x8192x256, .f32⟩
  | 9 => ⟨S1x8192x1, .f32⟩
  | 10 => ⟨S4x8192x256, .f32⟩
  | 11 => ⟨S4x8192x256, .f32⟩
  | 12 => ⟨S4x8192x256, .f32⟩
  | 13 => ⟨S4x8192x1x256, .f32⟩
  | 14 => ⟨S4x8192x256, .f32⟩
  | 15 => ⟨S4x1x256, .f32⟩
  | 16 => ⟨S_, .f32⟩
  | 17 => ⟨S4x1x256, .f32⟩
  | 18 => ⟨S_, .f32⟩
  | 19 => ⟨S_, .f32⟩
  | 20 => ⟨S4x8192x256, .f32⟩
  | 21 => ⟨S4x8193x256, .f32⟩
  | 22 => ⟨S8192, .i32⟩
  | 23 => ⟨S_, .i32⟩
  | 24 => ⟨S8192, .i32⟩
  | 25 => ⟨S8192, .i32⟩
  | 26 => ⟨S_, .i32⟩
  | 27 => ⟨S_, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S_, .i32⟩
  | 38 => ⟨S_, .i32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S8192, .i32⟩
  | 46 => ⟨S8192, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S4x8192x256, .f32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S4x8192x256, .f32⟩
  | 65 => ⟨S4x8192x256, .f32⟩
  | 66 => ⟨S1x8192x1, .f32⟩
  | 67 => ⟨S4x8192x256, .f32⟩
  | 68 => ⟨S4x8192x256, .f32⟩
  | 69 => ⟨S4x8192x256, .f32⟩
  | 70 => ⟨S4x8192x1x256, .f32⟩
  | 71 => ⟨S4x8192x256, .f32⟩
  | 72 => ⟨S4x1x256, .f32⟩
  | 73 => ⟨S_, .f32⟩
  | 74 => ⟨S4x1x256, .f32⟩
  | 75 => ⟨S_, .f32⟩
  | 76 => ⟨S_, .f32⟩
  | 77 => ⟨S4x8192x256, .f32⟩
  | 78 => ⟨S4x8193x256, .f32⟩
  | 79 => ⟨S8192, .i32⟩
  | 80 => ⟨S_, .i32⟩
  | 81 => ⟨S8192, .i32⟩
  | 82 => ⟨S8192, .i32⟩
  | 83 => ⟨S_, .i32⟩
  | 84 => ⟨S_, .i32⟩
  | 85 => ⟨S_, .i32⟩
  | 86 => ⟨S8192, .i32⟩
  | 87 => ⟨S8192, .i32⟩
  | 88 => ⟨S_, .i32⟩
  | 89 => ⟨S8192, .i32⟩
  | 90 => ⟨S8192, .i32⟩
  | 91 => ⟨S_, .i32⟩
  | 92 => ⟨S8192, .i32⟩
  | 93 => ⟨S8192, .i32⟩
  | 94 => ⟨S_, .i32⟩
  | 95 => ⟨S_, .i32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192, .i32⟩
  | 103 => ⟨S8192, .f32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S4x8192x256, .f32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S4x8192x256, .f32⟩
  | 122 => ⟨S4x8192x256, .f32⟩
  | 123 => ⟨S1x8192x1, .f32⟩
  | 124 => ⟨S4x8192x256, .f32⟩
  | 125 => ⟨S4x8192x256, .f32⟩
  | 126 => ⟨S4x8192x256, .f32⟩
  | 127 => ⟨S4x8192x1x256, .f32⟩
  | _ => ⟨S32768x2048, .f32⟩

abbrev hbmTy0_2 (i : Nat) : BufTy := match i % 128 with
  | 0 => ⟨S4x8192x1x256, .f32⟩
  | 1 => ⟨S4x8192x1x256, .f32⟩
  | 2 => ⟨S4x8192x1x256, .f32⟩
  | 3 => ⟨S4x8192x4x256, .f32⟩
  | 4 => ⟨S4x256x256, .f32⟩
  | 5 => ⟨S4x256x4x8192, .f32⟩
  | 6 => ⟨S4x8192x4x256, .f32⟩
  | 7 => ⟨S4x8192x1024, .f32⟩
  | 8 => ⟨S1024, .f32⟩
  | 9 => ⟨S1x1x1024, .f32⟩
  | 10 => ⟨S4x8192x1024, .f32⟩
  | 11 => ⟨S4x8192x1024, .f32⟩
  | 12 => ⟨S4x8192x1024, .bf16⟩
  | 13 => ⟨S32768x1024, .bf16⟩
  | 14 => ⟨S4x8192x2048, .bf16⟩
  | 15 => ⟨S32768x2048, .bf16⟩
  | _ => ⟨S32768x2048, .f32⟩

abbrev hbmTy (i : Nat) : BufTy := match i / 128 with
  | 0 => hbmTy0_0 i
  | 1 => hbmTy0_1 i
  | 2 => hbmTy0_2 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_call0_call0_cst : Ref sig .tc := ⟨.hbm, 32, rfl⟩
abbrev main_call0_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_c_7 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_v34 : Ref sig .tc := ⟨.hbm, 62, rfl⟩
abbrev main_v35 : Ref sig .tc := ⟨.hbm, 63, rfl⟩
abbrev main_c_9 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_10 : Ref sig .tc := ⟨.hbm, 70, rfl⟩
abbrev main_v41 : Ref sig .tc := ⟨.hbm, 71, rfl⟩
abbrev main_v42 : Ref sig .tc := ⟨.hbm, 72, rfl⟩
abbrev main_c_11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_call3_call0_cst : Ref sig .tc := ⟨.hbm, 89, rfl⟩
abbrev main_call3_call0_v0 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_c_14 : Ref sig .tc := ⟨.hbm, 97, rfl⟩
abbrev main_c_15 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v62 : Ref sig .tc := ⟨.hbm, 104, rfl⟩
abbrev main_c_16 : Ref sig .tc := ⟨.hbm, 105, rfl⟩
abbrev main_v63 : Ref sig .tc := ⟨.hbm, 106, rfl⟩
abbrev main_v64 : Ref sig .tc := ⟨.hbm, 107, rfl⟩
abbrev main_c_17 : Ref sig .tc := ⟨.hbm, 108, rfl⟩
abbrev main_c_18 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_c_19 : Ref sig .tc := ⟨.hbm, 118, rfl⟩
abbrev main_v68 : Ref sig .tc := ⟨.hbm, 119, rfl⟩
abbrev main_v69 : Ref sig .tc := ⟨.hbm, 120, rfl⟩
abbrev main_c_20 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_c_21 : Ref sig .tc := ⟨.hbm, 127, rfl⟩
abbrev main_v75 : Ref sig .tc := ⟨.hbm, 128, rfl⟩
abbrev main_v76 : Ref sig .tc := ⟨.hbm, 129, rfl⟩
abbrev main_c_22 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_23 : Ref sig .tc := ⟨.hbm, 144, rfl⟩
abbrev main_v90 : Ref sig .tc := ⟨.hbm, 145, rfl⟩
abbrev main_call6_call0_cst : Ref sig .tc := ⟨.hbm, 146, rfl⟩
abbrev main_call6_call0_v0 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_c_24 : Ref sig .tc := ⟨.hbm, 151, rfl⟩
abbrev main_v94 : Ref sig .tc := ⟨.hbm, 152, rfl⟩
abbrev main_v95 : Ref sig .tc := ⟨.hbm, 153, rfl⟩
abbrev main_c_25 : Ref sig .tc := ⟨.hbm, 154, rfl⟩
abbrev main_c_26 : Ref sig .tc := ⟨.hbm, 155, rfl⟩
abbrev main_call7_v0 : Ref sig .tc := ⟨.hbm, 156, rfl⟩
abbrev main_call7_v1 : Ref sig .tc := ⟨.hbm, 157, rfl⟩
abbrev main_call7_v2 : Ref sig .tc := ⟨.hbm, 158, rfl⟩
abbrev main_call7_v3 : Ref sig .tc := ⟨.hbm, 159, rfl⟩
abbrev main_call7_v4 : Ref sig .tc := ⟨.hbm, 160, rfl⟩
abbrev main_v96 : Ref sig .tc := ⟨.hbm, 161, rfl⟩
abbrev main_c_27 : Ref sig .tc := ⟨.hbm, 162, rfl⟩
abbrev main_v97 : Ref sig .tc := ⟨.hbm, 163, rfl⟩
abbrev main_v98 : Ref sig .tc := ⟨.hbm, 164, rfl⟩
abbrev main_c_28 : Ref sig .tc := ⟨.hbm, 165, rfl⟩
abbrev main_c_29 : Ref sig .tc := ⟨.hbm, 166, rfl⟩
abbrev main_call8_v0 : Ref sig .tc := ⟨.hbm, 167, rfl⟩
abbrev main_call8_v1 : Ref sig .tc := ⟨.hbm, 168, rfl⟩
abbrev main_call8_v2 : Ref sig .tc := ⟨.hbm, 169, rfl⟩
abbrev main_call8_v3 : Ref sig .tc := ⟨.hbm, 170, rfl⟩
abbrev main_call8_v4 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_c_30 : Ref sig .tc := ⟨.hbm, 175, rfl⟩
abbrev main_v102 : Ref sig .tc := ⟨.hbm, 176, rfl⟩
abbrev main_v103 : Ref sig .tc := ⟨.hbm, 177, rfl⟩
abbrev main_c_31 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_c_32 : Ref sig .tc := ⟨.hbm, 184, rfl⟩
abbrev main_v109 : Ref sig .tc := ⟨.hbm, 185, rfl⟩
abbrev main_v110 : Ref sig .tc := ⟨.hbm, 186, rfl⟩
abbrev main_c_33 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_cst_34 : Ref sig .tc := ⟨.hbm, 201, rfl⟩
abbrev main_v124 : Ref sig .tc := ⟨.hbm, 202, rfl⟩
abbrev main_call9_call0_cst : Ref sig .tc := ⟨.hbm, 203, rfl⟩
abbrev main_call9_call0_v0 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_c_35 : Ref sig .tc := ⟨.hbm, 208, rfl⟩
abbrev main_v128 : Ref sig .tc := ⟨.hbm, 209, rfl⟩
abbrev main_v129 : Ref sig .tc := ⟨.hbm, 210, rfl⟩
abbrev main_c_36 : Ref sig .tc := ⟨.hbm, 211, rfl⟩
abbrev main_c_37 : Ref sig .tc := ⟨.hbm, 212, rfl⟩
abbrev main_call10_v0 : Ref sig .tc := ⟨.hbm, 213, rfl⟩
abbrev main_call10_v1 : Ref sig .tc := ⟨.hbm, 214, rfl⟩
abbrev main_call10_v2 : Ref sig .tc := ⟨.hbm, 215, rfl⟩
abbrev main_call10_v3 : Ref sig .tc := ⟨.hbm, 216, rfl⟩
abbrev main_call10_v4 : Ref sig .tc := ⟨.hbm, 217, rfl⟩
abbrev main_v130 : Ref sig .tc := ⟨.hbm, 218, rfl⟩
abbrev main_c_38 : Ref sig .tc := ⟨.hbm, 219, rfl⟩
abbrev main_v131 : Ref sig .tc := ⟨.hbm, 220, rfl⟩
abbrev main_v132 : Ref sig .tc := ⟨.hbm, 221, rfl⟩
abbrev main_c_39 : Ref sig .tc := ⟨.hbm, 222, rfl⟩
abbrev main_c_40 : Ref sig .tc := ⟨.hbm, 223, rfl⟩
abbrev main_call11_v0 : Ref sig .tc := ⟨.hbm, 224, rfl⟩
abbrev main_call11_v1 : Ref sig .tc := ⟨.hbm, 225, rfl⟩
abbrev main_call11_v2 : Ref sig .tc := ⟨.hbm, 226, rfl⟩
abbrev main_call11_v3 : Ref sig .tc := ⟨.hbm, 227, rfl⟩
abbrev main_call11_v4 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_c_41 : Ref sig .tc := ⟨.hbm, 232, rfl⟩
abbrev main_v136 : Ref sig .tc := ⟨.hbm, 233, rfl⟩
abbrev main_v137 : Ref sig .tc := ⟨.hbm, 234, rfl⟩
abbrev main_c_42 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_c_43 : Ref sig .tc := ⟨.hbm, 241, rfl⟩
abbrev main_v143 : Ref sig .tc := ⟨.hbm, 242, rfl⟩
abbrev main_v144 : Ref sig .tc := ⟨.hbm, 243, rfl⟩
abbrev main_c_44 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩

abbrev nD : Nat := 1
abbrev τ : Topo := Topo.v7x

variable {F : FTy → Type} [FloatOps F]
-- ==== Filter.lean ====
abbrev S1x33x64 : Shape := ⟨3, ![1, 33, 64]⟩
abbrev S1x64 : Shape := ⟨2, ![1, 64]⟩
abbrev S1x64x64 : Shape := ⟨3, ![1, 64, 64]⟩
abbrev S1x64x4096 : Shape := ⟨3, ![1, 64, 4096]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S_ : Shape := ⟨0, ![]⟩
abbrev S128x64 : Shape := ⟨2, ![128, 64]⟩
abbrev S1 : Shape := ⟨1, ![1]⟩
abbrev S64x2x2x1024 : Shape := ⟨4, ![64, 2, 2, 1024]⟩
abbrev S2x64x2x1024 : Shape := ⟨4, ![2, 64, 2, 1024]⟩
abbrev S2x64x2048 : Shape := ⟨3, ![2, 64, 2048]⟩
abbrev S2x192x2048 : Shape := ⟨3, ![2, 192, 2048]⟩
abbrev S2x16384x1024 : Shape := ⟨3, ![2, 16384, 1024]⟩
abbrev S1x2048 : Shape := ⟨2, ![1, 2048]⟩
abbrev S2x512x1024 : Shape := ⟨3, ![2, 512, 1024]⟩
abbrev S512x1 : Shape := ⟨2, ![512, 1]⟩
abbrev S1x128 : Shape := ⟨2, ![1, 128]⟩
abbrev S512x128 : Shape := ⟨2, ![512, 128]⟩
abbrev S512x64 : Shape := ⟨2, ![512, 64]⟩
abbrev S512x192 : Shape := ⟨2, ![512, 192]⟩
abbrev S1x1024 : Shape := ⟨2, ![1, 1024]⟩
abbrev S512x1024 : Shape := ⟨2, ![512, 1024]⟩
abbrev S512x2048 : Shape := ⟨2, ![512, 2048]⟩
abbrev S1x192x2048 : Shape := ⟨3, ![1, 192, 2048]⟩
abbrev S192x2048 : Shape := ⟨2, ![192, 2048]⟩
abbrev S1x512x1024 : Shape := ⟨3, ![1, 512, 1024]⟩
abbrev S2048 : Shape := ⟨1, ![2048]⟩

abbrev nBuf : Space → Nat
  | .hbm => 33
  | .vmem => 10
  | .smem => 0
  | _ => 0

abbrev bufTy : (tb : Table) → Fin (tcTables nBuf tb) → BufTy
  | .hbm, ⟨0, _⟩ => ⟨S1x33x64, .f32⟩
  | .hbm, ⟨1, _⟩ => ⟨S1x64, .f32⟩
  | .hbm, ⟨2, _⟩ => ⟨S1x64, .f32⟩
  | .hbm, ⟨3, _⟩ => ⟨S1x64x64, .f32⟩
  | .hbm, ⟨4, _⟩ => ⟨S1x64, .f32⟩
  | .hbm, ⟨5, _⟩ => ⟨S1x64, .f32⟩
  | .hbm, ⟨6, _⟩ => ⟨S1x64x4096, .f32⟩
  | .hbm, ⟨7, _⟩ => ⟨S33x64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64x4096, .f32⟩
  | .hbm, ⟨14, _⟩ => ⟨S_, .f32⟩
  | .hbm, ⟨15, _⟩ => ⟨S128x64, .f32⟩
  | .hbm, ⟨16, _⟩ => ⟨S_, .i32⟩
  | .hbm, ⟨17, _⟩ => ⟨S1, .i32⟩
  | .hbm, ⟨18, _⟩ => ⟨S128x64, .f32⟩
  | .hbm, ⟨19, _⟩ => ⟨S64x2x2x1024, .f32⟩
  | .hbm, ⟨20, _⟩ => ⟨S2x64x2x1024, .f32⟩
  | .hbm, ⟨21, _⟩ => ⟨S2x64x2048, .f32⟩
  | .hbm, ⟨22, _⟩ => ⟨S2x64x2048, .bf16⟩
  | .hbm, ⟨23, _⟩ => ⟨S2x64x2048, .f32⟩
  | .hbm, ⟨24, _⟩ => ⟨S2x64x2048, .f32⟩
  | .hbm, ⟨25, _⟩ => ⟨S2x64x2048, .bf16⟩
  | .hbm, ⟨26, _⟩ => ⟨S2x192x2048, .bf16⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S2x16384x1024, .f32⟩
  | .hbm, ⟨32, _⟩ => ⟨S1x2048, .f32⟩
  | .local _ .vmem, ⟨0, _⟩ => ⟨S128x64, .f32⟩
  | .local _ .vmem, ⟨1, _⟩ => ⟨S1x64, .f32⟩
  | .local _ .vmem, ⟨2, _⟩ => ⟨S1x64, .f32⟩
  | .local _ .vmem, ⟨3, _⟩ => ⟨S64x64, .f32⟩
  | .local _ .vmem, ⟨4, _⟩ => ⟨S1x64, .f32⟩
  | .local _ .vmem, ⟨5, _⟩ => ⟨S1x64, .f32⟩
  | .local _ .vmem, ⟨6, _⟩ => ⟨S2x192x2048, .bf16⟩
  | .local _ .vmem, ⟨7, _⟩ => ⟨S2x512x1024, .f32⟩
  | .local _ .vmem, ⟨8, _⟩ => ⟨S2x512x1024, .f32⟩
  | .local _ .vmem, ⟨9, _⟩ => ⟨S1x2048, .f32⟩
  | _, _ => ⟨S1x33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_30 : BitVec 32 := 0#32
  let v107 : BitVec 1 := Scalar.cmpi .ne arg0 c0_i32_30
  let v108 : BitVec 32 := Scalar.extui v107
  let c0_i32_31 : BitVec 32 := 0#32
  let v109 : BitVec 1 := Scalar.cmpi .ne v108 c0_i32_31
  v109

def k0_off1 (i : grid0.Coords) : Fin 3 → Nat :=
  let arg0 : BitVec 32 := BitVec.ofNat 32 (i 0).val
  let c512_i32_32 : BitVec 32 := 512#32
  let v110 : BitVec 32 := Scalar.muli arg0 c512_i32_32
  let c8192_i32_33 : BitVec 32 := 8192#32
  let v111 : BitVec 1 := Scalar.cmpi .sge v110 c8192_i32_33
  let v112 : BitVec 32 := Scalar.extui v111
  let v113 : Index := Scalar.indexCast v112
  let c0_34 : Index := 0#32
  let c0_35 : Index := 0#32
  ![v113.toNat, 0, 0]
def k0_cond1 (i : grid0.Coords) : BitVec 1 :=
  let arg0 : BitVec 32 := BitVec.ofNat 32 (i 0).val
  let c0_i32_28 : BitVec 32 := 0#32
  let v104 : BitVec 1 := Scalar.cmpi .eq arg0 c0_i32_28
  let v105 : BitVec 32 := Scalar.extui v104
  let c0_i32_29 : BitVec 32 := 0#32
  let v106 : BitVec 1 := Scalar.cmpi .ne v105 c0_i32_29
  v106

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x192x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FilterIdeal.lean ====
variable {F : FTy → Type} [FloatOps F] [Named F]
def κ : String → Option EReal := fun
  | "half_pi" => some (((1 / 2) * Real.pi : ℝ) : EReal)
  | _ => none
-- ==== FilterRefIdeal.lean ====
abbrev S1x33x64 : Shape := ⟨3, ![1, 33, 64]⟩
abbrev S1x64 : Shape := ⟨2, ![1, 64]⟩
abbrev S1x64x64 : Shape := ⟨3, ![1, 64, 64]⟩
abbrev S1x64x4096 : Shape := ⟨3, ![1, 64, 4096]⟩
abbrev S8192 : Shape := ⟨1, ![8192]⟩
abbrev S_ : Shape := ⟨0, ![]⟩
abbrev S8192x1 : Shape := ⟨2, ![8192, 1]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S64 : Shape := ⟨1, ![64]⟩
abbrev S33x64 : Shape := ⟨2, ![33, 64]⟩
abbrev S8192x64 : Shape := ⟨2, ![8192, 64]⟩
abbrev S64x64 : Shape := ⟨2, ![64, 64]⟩
abbrev S64x4096 : Shape := ⟨2, ![64, 4096]⟩
abbrev S8192x4096 : Shape := ⟨2, ![8192, 4096]⟩
abbrev S8192x2x2x1024 : Shape := ⟨4, ![8192, 2, 2, 1024]⟩
abbrev S1024 : Shape := ⟨1, ![1024]⟩
abbrev S1x1024 : Shape := ⟨2, ![1, 1024]⟩
abbrev S8192x1024 : Shape := ⟨2, ![8192, 1024]⟩
abbrev S8192x1x1x1024 : Shape := ⟨4, ![8192, 1, 1, 1024]⟩
abbrev S8192x2x1x1024 : Shape := ⟨4, ![8192, 2, 1, 1024]⟩
abbrev S8192x2x1024 : Shape := ⟨3, ![8192, 2, 1024]⟩
abbrev S1x2x1024 : Shape := ⟨3, ![1, 2, 1024]⟩
abbrev S8191x2x1024 : Shape := ⟨3, ![8191, 2, 1024]⟩
abbrev S16384x2x1024 : Shape := ⟨3, ![16384, 2, 1024]⟩
abbrev S2x16384x1024 : Shape := ⟨3, ![2, 16384, 1024]⟩
abbrev S2x1024 : Shape := ⟨2, ![2, 1024]⟩
abbrev S1x2048 : Shape := ⟨2, ![1, 2048]⟩

abbrev nBuf : Space → Nat
  | .hbm => 99
  | .vmem => 0
  | .smem => 0
  | _ => 0

abbrev bufTy : (tb : Table) → Fin (tcTables nBuf tb) → BufTy
  | .hbm, ⟨0, _⟩ => ⟨S1x33x64, .f32⟩
  | .hbm, ⟨1, _⟩ => ⟨S1x64, .f32⟩
  | .hbm, ⟨2, _⟩ => ⟨S1x64, .f32⟩
  | .hbm, ⟨3, _⟩ => ⟨S1x64x64, .f32⟩
  | .hbm, ⟨4, _⟩ => ⟨S1x64, .f32⟩
  | .hbm, ⟨5, _⟩ => ⟨S1x64, .f32⟩
  | .hbm, ⟨6, _⟩ => ⟨S1x64x4096, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S1x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x33, .f32⟩
  | .hbm, ⟨38, _⟩ => ⟨S64, .f32⟩
  | .hbm, ⟨39, _⟩ => ⟨S33x64, .f32⟩
  | .hbm, ⟨40, _⟩ => ⟨S8192x64, .f32⟩
  | .hbm, ⟨41, _⟩ => ⟨S64, .f32⟩
  | .hbm, ⟨42, _⟩ => ⟨S1x64, .f32⟩
  | .hbm, ⟨43, _⟩ => ⟨S8192x64, .f32⟩
  | .hbm, ⟨44, _⟩ => ⟨S8192x64, .f32⟩
  | .hbm, ⟨45, _⟩ => ⟨S1x64, .f32⟩
  | .hbm, ⟨46, _⟩ => ⟨S8192x64, .f32⟩
  | .hbm, ⟨47, _⟩ => ⟨S8192x64, .f32⟩
  | .hbm, ⟨48, _⟩ => ⟨S8192x64, .f32⟩
  | .hbm, ⟨49, _⟩ => ⟨S64, .f32⟩
  | .hbm, ⟨50, _⟩ => ⟨S64x64, .f32⟩
  | .hbm, ⟨51, _⟩ => ⟨S8192x64, .f32⟩
  | .hbm, ⟨52, _⟩ => ⟨S64, .f32⟩
  | .hbm, ⟨53, _⟩ => ⟨S1x64, .f32⟩
  | .hbm, ⟨54, _⟩ => ⟨S8192x64, .f32⟩
  | .hbm, ⟨55, _⟩ => ⟨S8192x64, .f32⟩
  | .hbm, ⟨56, _⟩ => ⟨S1x64, .f32⟩
  | .hbm, ⟨57, _⟩ => ⟨S8192x64, .f32⟩
  | .hbm, ⟨58, _⟩ => ⟨S8192x64, .f32⟩
  | .hbm, ⟨59, _⟩ => ⟨S8192x64, .f32⟩
  | .hbm, ⟨60, _⟩ => ⟨S64x4096, .f32⟩
  | .hbm, ⟨61, _⟩ => ⟨S8192x4096, .f32⟩
  | .hbm, ⟨62, _⟩ => ⟨S8192x2x2x1024, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S8192x1, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1x1x1024, .f32⟩
  | .hbm, ⟨78, _⟩ => ⟨S8192x2x2x1024, .f32⟩
  | .hbm, ⟨79, _⟩ => ⟨S8192x2x2x1024, .f32⟩
  | .hbm, ⟨80, _⟩ => ⟨S8192x2x1x1024, .f32⟩
  | .hbm, ⟨81, _⟩ => ⟨S8192x2x1024, .f32⟩
  | .hbm, ⟨82, _⟩ => ⟨S8192x2x1x1024, .f32⟩
  | .hbm, ⟨83, _⟩ => ⟨S8192x2x1024, .f32⟩
  | .hbm, ⟨84, _⟩ => ⟨S1x2x1024, .f32⟩
  | .hbm, ⟨85, _⟩ => ⟨S1x2x1024, .f32⟩
  | .hbm, ⟨86, _⟩ => ⟨S1x2x1024, .f32⟩
  | .hbm, ⟨87, _⟩ => ⟨S8191x2x1024, .f32⟩
  | .hbm, ⟨88, _⟩ => ⟨S1x2x1024, .f32⟩
  | .hbm, ⟨89, _⟩ => ⟨S_, .f32⟩
  | .hbm, ⟨90, _⟩ => ⟨S1x2x1024, .f32⟩
  | .hbm, ⟨91, _⟩ => ⟨S8191x2x1024, .f32⟩
  | .hbm, ⟨92, _⟩ => ⟨S8191x2x1024, .f32⟩
  | .hbm, ⟨93, _⟩ => ⟨S16384x2x1024, .f32⟩
  | .hbm, ⟨94, _⟩ => ⟨S2x16384x1024, .f32⟩
  | .hbm, ⟨95, _⟩ => ⟨S16384x2x1024, .f32⟩
  | .hbm, ⟨96, _⟩ => ⟨S_, .f32⟩
  | .hbm, ⟨97, _⟩ => ⟨S2x1024, .f32⟩
  | .hbm, ⟨98, _⟩ => ⟨S1x2048, .f32⟩
  | _, _ => ⟨S1x33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_6 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_7 : Ref sig .tc := ⟨.hbm, 96, rfl⟩
abbrev main_v81 : Ref sig .tc := ⟨.hbm, 97, rfl⟩
abbrev main_v82 : Ref sig .tc := ⟨.hbm, 98, rfl⟩

abbrev nD : Nat := 1
abbrev τ : Topo := Topo.v7x

variable {F : FTy → Type} [FloatOps F]
-- ==== Proof.Ffn.Cases.lean ====
module

public import proofs.«01_k».proof.Proof.Gen.FfnIdeal.Value
public import Idealize.ShloMosaic.Lib.Pipeline.ValueKit
public import Idealize.ShloMosaic.Lib.Pipeline.ReadBack

@[expose] public section

set_option maxRecDepth 16384

noncomputable section

namespace Cert.FfnIdeal.Point

open Cert.FfnIdeal Cert.FfnIdeal.Gen Idealize.ShloMosaic Idealize.ShloMosaic.TcCoe Idealize.SL.Sem

variable {F : FTy → Type} [FloatOps F]
variable (m : (ℓ : Loc nD τ sig) → Buf (Elt F) ℓ)

/-- After the first point of a row tile: the scratch holds the normalised rows, the output the rows plus the first slab. -/
theorem after_A (c : Dev nD) (t : Fin cfg0.N) (h0 : t.val % 11 = 0) (h1 : ¬t.val % 11 = 10) :
    outsAt0 m c t.val t.isLt =
      (k0_pay2 (k0_pay1 (iblk m c 0 t) (iblk m c 1 t)) (iblk m c 2 t) (iblk m c 3 t) (iblk m c 0 t) (iblk m c 4 t),
        k0_pay1 (iblk m c 0 t) (iblk m c 1 t)) := by
  rw [outsAt0_A m c t h0 h1]
  frame_out

/-- After a middle point: the scratch is kept, the output has one more slab added. -/
theorem after_B (c : Dev nD) (t : Fin cfg0.N) (h0 : ¬t.val % 11 = 0) (h1 : ¬t.val % 11 = 10)
    (p : Vec F S1024x2048 .f32 × Vec F S1024x2048 .bf16)
    (hp : outsAt0 m c (t.val - 1) (Nat.lt_of_le_of_lt (Nat.sub_le _ _) t.isLt) = p) :
    outsAt0 m c t.val t.isLt =
      (k0_pay2 p.2 (iblk m c 2 t) (iblk m c 3 t) p.1 (iblk m c 4 t), p.2) := by
  rw [outsAt0_B m c t h0 h1, hp]
  frame_out
  simp only [read_unread_whole, sout0_B_0]

/-- After the last point of a row tile: the last slab is added and the sum normalised. -/
theorem after_C (c : Dev nD) (t : Fin cfg0.N) (h0 : ¬t.val % 11 = 0) (h1 : t.val % 11 = 10)
    (p : Vec F S1024x2048 .f32 × Vec F S1024x2048 .bf16)
    (hp : outsAt0 m c (t.val - 1) (Nat.lt_of_le_of_lt (Nat.sub_le _ _) t.isLt) = p) :
    outsAt0 m c t.val t.isLt =
      (k0_pay3 (k0_pay2 p.2 (iblk m c 2 t) (iblk m c 3 t) p.1 (iblk m c 4 t)) (iblk m c 5 t), p.2) := by
  rw [outsAt0_C m c t h0 h1, hp]
  frame_out
  simp only [read_unread_whole, sout0_C_0]

end Cert.FfnIdeal.Point

end
-- ==== Proof.Rows.lean ====
module

public import Idealize.ShloMosaic.Lib.Pipeline.ValueKit
public import Idealize.ShloMosaic.Lib.Pointwise
public import Idealize.ShloMosaic.PureOps.Ideal.Laws
public import Idealize.ShloMosaic.Lib.IdealHost

/-!
  The mathematics of the calls, row by row over the extended reals: what one row of the residual stream becomes.
-/

@[expose] public section

noncomputable section

namespace Cert.Rows

open Idealize.ShloMosaic

/-- The RMS norm of a row `x` with gains `g`, at channel `e`. -/
def rms (x g : Fin 2048 → EReal) (e : Fin 2048) : EReal :=
  x e * Ideal.rsqrt (Ideal.div (∑ k, x k * x k) (Ideal.ofBits FTy.f32 1157627904#32) + Ideal.ofBits FTy.f32 897988541#32)
    * g e

/-- One hidden unit of the gated feed-forward: `silu` of the gate times the up projection. -/
def unit (h : Fin 2048 → EReal) (wg wu : Fin 2048 → EReal) : EReal :=
  (∑ k, h k * wg k) * Ideal.logistic (∑ k, h k * wg k) * ∑ k, h k * wu k

/-- The row of the residual stream after `J` slabs of the feed-forward, at channel `e`; `d k e` is hidden unit `k` down. -/
def partialRow (x : Fin 2048 → EReal) (d : Fin 5632 → Fin 2048 → EReal) (J : ℕ) (e : Fin 2048) : EReal :=
  x e + ∑ s ∈ Finset.range J, ∑ f : Fin 512, d (Fin.ofNat 5632 (512 * s + f.val)) e

/-- The feed-forward part of the layer on one row: the gated hidden units of the normed row, added down, normed again. -/
def ffn (x g : Fin 2048 → EReal) (wg wu : Fin 2048 → Fin 5632 → EReal) (wd : Fin 5632 → Fin 2048 → EReal)
    (gf : Fin 2048 → EReal) : Fin 2048 → EReal :=
  rms (fun e => x e + ∑ f, unit (rms x g) (fun k => wg k f) (fun k => wu k f) * wd f e) gf

/-- The sum over `J` slabs of `n` terms each is the sum over the `J * n` terms. -/
theorem sum_slabs {J n K : ℕ} [NeZero K] (hK : J * n = K) (g : Fin K → EReal) :
    (∑ s ∈ Finset.range J, ∑ f : Fin n, g (Fin.ofNat K (n * s + f.val))) = ∑ k : Fin K, g k := by
  subst hK
  rw [← Fin.sum_univ_eq_sum_range (fun s => ∑ f : Fin n, g (Fin.ofNat (J * n) (n * s + f.val))) J,
    ← Fintype.sum_prod_type']
  refine Fintype.sum_equiv finProdFinEquiv _ _ fun p => ?_
  congr 1
  apply Fin.ext
  have h1 := (finProdFinEquiv p).isLt
  simp only [finProdFinEquiv_apply_val] at h1
  rw [Nat.add_comm] at h1
  simp only [Fin.val_ofNat, finProdFinEquiv_apply_val]
  rw [Nat.mod_eq_of_lt h1, Nat.add_comm]

/-- The logistic function as the hyperbolic tangent of the half. -/
theorem half_tanh (x : EReal) : Ideal.ofBits FTy.f32 1056964608#32
    * (Ideal.tanh (Ideal.ofBits FTy.f32 1056964608#32 * x) + Ideal.ofBits FTy.f32 1065353216#32) = Ideal.logistic x := by
  have hh : Ideal.ofBits FTy.f32 1056964608#32 = ((1 / 2 : ℝ) : EReal) := by
    simp [Ideal.ofBits, Ideal.ieee, -EReal.coe_mul]; norm_num
  have h1 : Ideal.ofBits FTy.f32 1065353216#32 = 1 := Ideal.ofBits_one_f32
  rw [hh, h1]
  induction x using EReal.rec with
  | bot =>
    rw [EReal.coe_mul_bot_of_pos (by norm_num), Ideal.tanh_bot, Ideal.logistic_bot,
      show (-1 + 1 : EReal) = 0 from by
        have : ((-1 : ℝ) : EReal) + ((1 : ℝ) : EReal) = 0 := by rw [← EReal.coe_add]; norm_num
        simpa using this, mul_zero]
  | top =>
    rw [EReal.coe_mul_top_of_pos (by norm_num), Ideal.tanh_top, Ideal.logistic_top]
    have : ((1 / 2 : ℝ) : EReal) * (((1 : ℝ) : EReal) + ((1 : ℝ) : EReal)) = ((1 : ℝ) : EReal) := by
      rw [← EReal.coe_add, ← EReal.coe_mul]; norm_num
    simpa using this
  | coe x =>
    rw [← EReal.coe_mul, Ideal.tanh_coe, Ideal.logistic_coe, ← EReal.coe_one, ← EReal.coe_add, ← EReal.coe_mul]
    congr 1
    rw [Real.tanh_eq_sinh_div_cosh, Real.sinh_eq, Real.cosh_eq]
    have e1 : Real.exp (-x) = Real.exp (-(1 / 2 * x)) * Real.exp (-(1 / 2 * x)) := by rw [← Real.exp_add]; congr 1; ring
    have e2 : Real.exp (1 / 2 * x) * Real.exp (-(1 / 2 * x)) = 1 := by rw [← Real.exp_add]; simp
    have p1 := Real.exp_pos (1 / 2 * x)
    have p2 := Real.exp_pos (-(1 / 2 * x))
    rw [e1]
    generalize Real.exp (1 / 2 * x) = u at *
    generalize Real.exp (-(1 / 2 * x)) = v at *
    have hn : (u + v) ≠ 0 := by positivity
    have hm : 1 + v * v ≠ 0 := by positivity
    field_simp
    linear_combination (2 * v) * e2

/-- One entry of the merged branches: each branch's projection times its gate. -/
def merge (h ga gb : Fin 2048 → EReal) (a wa b wb : Fin 1024 → EReal) : EReal :=
  Ideal.logistic (∑ k, h k * ga k) * (∑ k, a k * wa k) + Ideal.logistic (∑ k, h k * gb k) * ∑ k, b k * wb k

/-- A width-three filter along the rows of a sequence of 8192, zeros past its ends, at row `i`. -/
def filter3 (u : Fin 32768 → EReal) (w : Fin 3 → EReal) (b : EReal) (i : Fin 32768) : EReal :=
  (if i.val % 8192 = 0 then 0 else u (Fin.ofNat 32768 (i.val - 1))) * w 0 + u i * w 1
    + (if i.val % 8192 = 8191 then 0 else u (Fin.ofNat 32768 (i.val + 1))) * w 2 + b

end Cert.Rows

end
-- ==== Proof.Ffn.Pay.lean ====
module

public import proofs.«01_k».proof.Proof.Gen.FfnIdeal.Skeleton
public import proofs.«01_k».proof.Proof.Rows
public import Idealize.ShloMosaic.Lib.Pointwise
public import Idealize.ShloMosaic.PureOps.Ideal.Laws

@[expose] public section

set_option maxRecDepth 16384

noncomputable section

namespace Cert.FfnIdeal.Point

open Cert.FfnIdeal Cert.FfnIdeal.Gen Idealize.ShloMosaic Idealize.ShloMosaic.TcCoe Idealize.SL.Sem

/-- The first payload at row `r`: the norm of the row. -/
theorem pay1_apply (x : Vec Ideal S1024x2048 .f32) (g : Vec Ideal S1x2048 .f32) (r : Fin 1024) (e : Fin 2048) :
    k0_pay1 x g (ix2 r e) = Cert.Rows.rms (fun k => x (ix2 r k)) (fun k => g (ix2 0 k)) e := by
  unfold_payloads
  pointwise
  rfl

/-- The second payload: what the output held plus one slab of hidden units through the down projection. -/
theorem pay2_apply (h : Vec Ideal S1024x2048 .bf16) (wg wu : Vec Ideal S2048x512 .bf16) (o : Vec Ideal S1024x2048 .f32)
    (wd : Vec Ideal S512x2048 .bf16) (r : Fin 1024) (e : Fin 2048) :
    k0_pay2 h wg wu o wd (ix2 r e) = o (ix2 r e)
      + ∑ f : Fin 512, Cert.Rows.unit (fun k => h (ix2 r k)) (fun k => wg (ix2 k f)) (fun k => wu (ix2 k f)) * wd (ix2 f e) := by
  unfold_payloads
  pointwise
  rfl

/-- The third payload: the norm of the row that the output holds. -/
theorem pay3_apply (x : Vec Ideal S1024x2048 .f32) (g : Vec Ideal S1x2048 .f32) (r : Fin 1024) (e : Fin 2048) :
    k0_pay3 x g (ix2 r e) = Cert.Rows.rms (fun k => x (ix2 r k)) (fun k => g (ix2 0 k)) e := by
  unfold_payloads
  pointwise
  rfl

end Cert.FfnIdeal.Point

end
-- ==== Proof.Ffn.Blocks.lean ====
module

public import proofs.«01_k».proof.Proof.Gen.FfnIdeal.Value
public import Idealize.ShloMosaic.Lib.Pipeline.ValueKit
public import Idealize.ShloMosaic.Lib.Pointwise
public import Idealize.ShloMosaic.PureOps.Ideal.Laws

@[expose] public section

set_option maxRecDepth 16384

noncomputable section

namespace Cert.FfnIdeal.Point

open Cert.FfnIdeal Cert.FfnIdeal.Gen Idealize.ShloMosaic Idealize.ShloMosaic.TcCoe Idealize.SL.Sem

variable (m : (ℓ : Loc nD τ sig) → Buf (Elt Ideal) ℓ)

/-- The block index of every input window at every point. -/
theorem idx : ∀ t : Fin grid0.N, win0_0.index t = ![t.val / 11, 0] ∧ win0_1.index t = ![0, 0] ∧
    win0_2.index t = ![0, t.val % 11] ∧ win0_3.index t = ![0, t.val % 11] ∧ win0_4.index t = ![t.val % 11, 0] ∧
    win0_5.index t = ![0, 0] := by decide +kernel

/-- The row of the array that row `r` of point `t`'s block is. -/
def row (t : Fin cfg0.N) (r : Fin 1024) : Fin 32768 := Fin.ofNat 32768 (1024 * (t.val / 11) + r.val)
/-- The hidden unit that unit `f` of slab `s` is. -/
def col (s : ℕ) (f : Fin 512) : Fin 5632 := Fin.ofNat 5632 (512 * s + f.val)

theorem row_val (t : Fin cfg0.N) (r : Fin 1024) : (row t r).val = 1024 * (t.val / 11) + r.val := by
  have hN := lt_of_lt_of_eq t.isLt (show cfg0.N = 352 from N_0)
  have := r.isLt
  exact Nat.mod_eq_of_lt (by omega)

theorem col_val (t : Fin cfg0.N) (f : Fin 512) : (col (t.val % 11) f).val = 512 * (t.val % 11) + f.val := by
  have := f.isLt
  have := Nat.mod_lt t.val (show 11 > 0 by decide)
  exact Nat.mod_eq_of_lt (by omega)

theorem blk0 (c : Dev nD) (t : Fin cfg0.N) (r : Fin 1024) (e : Fin 2048) :
    (iblk m c 0 t : Vec Ideal S1024x2048 .f32) (ix2 r e) = (m ((c : Thread nD τ).loc main_arg0) : Vec Ideal S32768x2048 .f32) (ix2 (row t r) e) := by
  have hr := row_val t r
  blk_ext [iblk, V, idx t, hr]

theorem blk1 (c : Dev nD) (t : Fin cfg0.N) (e : Fin 2048) :
    (iblk m c 1 t : Vec Ideal S1x2048 .f32) (ix2 0 e) = (m ((c : Thread nD τ).loc main_arg1) : Vec Ideal S1x2048 .f32) (ix2 0 e) := by
  blk_ext! [iblk, V, idx t]

theorem blk2 (c : Dev nD) (t : Fin cfg0.N) (k : Fin 2048) (f : Fin 512) :
    (iblk m c 2 t : Vec Ideal S2048x512 .bf16) (ix2 k f) = (m ((c : Thread nD τ).loc main_arg2) : Vec Ideal S1x2048x5632 .f32) (ix3 0 k (col (t.val % 11) f)) := by
  have hc := col_val t f
  blk_ext! [iblk, V, idx t, hc]

theorem blk3 (c : Dev nD) (t : Fin cfg0.N) (k : Fin 2048) (f : Fin 512) :
    (iblk m c 3 t : Vec Ideal S2048x512 .bf16) (ix2 k f) = (m ((c : Thread nD τ).loc main_arg3) : Vec Ideal S1x2048x5632 .f32) (ix3 0 k (col (t.val % 11) f)) := by
  have hc := col_val t f
  blk_ext! [iblk, V, idx t, hc]

theorem blk4 (c : Dev nD) (t : Fin cfg0.N) (f : Fin 512) (e : Fin 2048) :
    (iblk m c 4 t : Vec Ideal S512x2048 .bf16) (ix2 f e) = (m ((c : Thread nD τ).loc main_arg4) : Vec Ideal S1x5632x2048 .f32) (ix3 0 (col (t.val % 11) f) e) := by
  have hc := col_val t f
  blk_ext! [iblk, V, idx t, hc]

theorem blk5 (c : Dev nD) (t : Fin cfg0.N) (e : Fin 2048) :
    (iblk m c 5 t : Vec Ideal S1x2048 .f32) (ix2 0 e) = (m ((c : Thread nD τ).loc main_arg5) : Vec Ideal S2048 .f32) (ix1 e) := by
  blk_ext! [iblk, V, idx t]

end Cert.FfnIdeal.Point

end
-- ==== Proof.Ffn.Result.lean ====
module

public import proofs.«01_k».proof.Proof.Ffn.Cases
public import proofs.«01_k».proof.Proof.Ffn.Pay
public import proofs.«01_k».proof.Proof.Ffn.Blocks
public import proofs.«01_k».proof.Proof.Rows

@[expose] public section

set_option maxRecDepth 16384

noncomputable section

namespace Cert.FfnIdeal.Point

open Cert.FfnIdeal Cert.FfnIdeal.Gen Idealize.ShloMosaic Idealize.ShloMosaic.TcCoe Idealize.SL.Sem
open Cert.Rows

variable (m : (ℓ : Loc nD τ sig) → Buf (Elt Ideal) ℓ)

/-- Row `i` of the residual stream, as launched. -/
def X (c : Dev nD) (i : Fin 32768) (e : Fin 2048) : EReal :=
  (m ((c : Thread nD τ).loc main_arg0) : Vec Ideal S32768x2048 .f32) (ix2 i e)
/-- The gains of the first norm. -/
def G (c : Dev nD) (e : Fin 2048) : EReal := (m ((c : Thread nD τ).loc main_arg1) : Vec Ideal S1x2048 .f32) (ix2 0 e)
/-- The gate weights. -/
def WG (c : Dev nD) (k : Fin 2048) (f : Fin 5632) : EReal :=
  (m ((c : Thread nD τ).loc main_arg2) : Vec Ideal S1x2048x5632 .f32) (ix3 0 k f)
/-- The up weights. -/
def WU (c : Dev nD) (k : Fin 2048) (f : Fin 5632) : EReal :=
  (m ((c : Thread nD τ).loc main_arg3) : Vec Ideal S1x2048x5632 .f32) (ix3 0 k f)
/-- The down weights. -/
def WD (c : Dev nD) (f : Fin 5632) (e : Fin 2048) : EReal :=
  (m ((c : Thread nD τ).loc main_arg4) : Vec Ideal S1x5632x2048 .f32) (ix3 0 f e)
/-- The gains of the final norm. -/
def GF (c : Dev nD) (e : Fin 2048) : EReal := (m ((c : Thread nD τ).loc main_arg5) : Vec Ideal S2048 .f32) (ix1 e)

/-- Hidden unit `f` of row `i`, taken down to channel `e`. -/
def D (c : Dev nD) (i : Fin 32768) (f : Fin 5632) (e : Fin 2048) : EReal :=
  unit (rms (X m c i) (G m c)) (fun k => WG m c k f) (fun k => WU m c k f) * WD m c f e

/-- The first payload over the blocks of point `t`: the norm of the tile's rows. -/
theorem pay1_blk (c : Dev nD) (t : Fin cfg0.N) (r : Fin 1024) (e : Fin 2048) :
    k0_pay1 (iblk m c 0 t) (iblk m c 1 t) (ix2 r e) = rms (X m c (row t r)) (G m c) e := by
  rw [pay1_apply]
  simp only [blk0, blk1]
  rfl

/-- The second payload over the blocks of point `t`, the scratch holding the normed rows. -/
theorem pay2_blk (c : Dev nD) (t : Fin cfg0.N) (h : Vec Ideal S1024x2048 .bf16) (o : Vec Ideal S1024x2048 .f32)
    (r : Fin 1024) (e : Fin 2048) (hh : ∀ k, h (ix2 r k) = rms (X m c (row t r)) (G m c) k) :
    k0_pay2 h (iblk m c 2 t) (iblk m c 3 t) o (iblk m c 4 t) (ix2 r e) = o (ix2 r e)
      + ∑ f : Fin 512, D m c (row t r) (Fin.ofNat 5632 (512 * (t.val % 11) + f.val)) e := by
  rw [pay2_apply]
  simp only [blk2, blk3, blk4, hh]
  rfl

/-- Two points of one tile have the same rows. -/
theorem row_congr (t u : Fin cfg0.N) (h : t.val / 11 = u.val / 11) (r : Fin 1024) : row t r = row u r := by
  unfold row; rw [h]

/-- What the output and the scratch hold after point `t`, before the last slab of its tile: the partial rows, the normed
    rows. -/
theorem after_eq (c : Dev nD) : ∀ (n : ℕ) (h : n < cfg0.N) (hn : n % 11 ≠ 10) (r : Fin 1024) (e : Fin 2048),
    (outsAt0 m c n h).1 (ix2 r e) = partialRow (X m c (row ⟨n, h⟩ r)) (D m c (row ⟨n, h⟩ r)) (n % 11 + 1) e ∧
    (outsAt0 m c n h).2 (ix2 r e) = rms (X m c (row ⟨n, h⟩ r)) (G m c) e := by
  intro n
  induction n with
  | zero =>
    intro h hn r e
    have hA := after_A m c ⟨0, h⟩ rfl (by show ¬ 0 % 11 = 10; decide)
    rw [show outsAt0 m c 0 h = _ from hA]
    refine ⟨?_, pay1_blk m c _ r e⟩
    refine (pay2_blk m c _ _ _ r e (fun k => pay1_blk m c _ r k)).trans ?_
    rw [blk0]
    unfold partialRow
    rw [Finset.sum_range_one]
    rfl
  | succ n ih =>
    intro h hn r e
    by_cases h0 : (n + 1) % 11 = 0
    · have hA := after_A m c ⟨n + 1, h⟩ h0 hn
      rw [show outsAt0 m c (n + 1) h = _ from hA]
      refine ⟨?_, pay1_blk m c _ r e⟩
      refine (pay2_blk m c _ _ _ r e (fun k => pay1_blk m c _ r k)).trans ?_
      rw [blk0]
      unfold partialRow
      rw [h0, Finset.sum_range_one]
      rfl
    · have hm : (n + 1) % 11 = n % 11 + 1 := by omega
      have hr : ∀ r, row ⟨n, Nat.lt_of_succ_lt h⟩ r = row ⟨n + 1, h⟩ r :=
        row_congr _ _ (by show n / 11 = (n + 1) / 11; omega)
      have hB := after_B m c ⟨n + 1, h⟩ h0 hn _ rfl
      rw [show outsAt0 m c (n + 1) h = _ from hB]
      have ih' := fun r e => ih (Nat.lt_of_succ_lt h) (by omega) r e
      simp only [hr] at ih'
      refine ⟨?_, (ih' r e).2⟩
      refine (pay2_blk m c _ _ _ r e (fun k => (ih' r k).2)).trans ?_
      show (outsAt0 m c n _).1 (ix2 r e) + _ = _
      rw [(ih' r e).1]
      unfold partialRow
      rw [hm, Finset.sum_range_succ _ (n % 11 + 1), add_assoc]

/-- After the last point of a tile the output holds the feed-forward's rows. -/
theorem after_last (c : Dev nD) (t : Fin cfg0.N) (ht : t.val % 11 = 10) (r : Fin 1024) (e : Fin 2048) :
    (outsAt0 m c t.val t.isLt).1 (ix2 r e)
      = ffn (X m c (row t r)) (G m c) (WG m c) (WU m c) (WD m c) (GF m c) e := by
  have hC := after_C m c t (by omega) ht _ rfl
  rw [hC]
  show k0_pay3 _ _ (ix2 r e) = _
  have hp : t.val - 1 < cfg0.N := Nat.lt_of_le_of_lt (Nat.sub_le _ _) t.isLt
  have hr : ∀ r, row ⟨t.val - 1, hp⟩ r = row t r := row_congr _ _ (by show (t.val - 1) / 11 = t.val / 11; omega)
  have ih := fun r e => after_eq m c (t.val - 1) hp (by omega) r e
  simp only [hr] at ih
  rw [pay3_apply]
  simp only [blk5]
  unfold ffn
  have hx : (fun k => k0_pay2 (outsAt0 m c (t.val - 1) hp).2 (iblk m c 2 t) (iblk m c 3 t) (outsAt0 m c (t.val - 1) hp).1
      (iblk m c 4 t) (ix2 r k)) = fun e => X m c (row t r) e + ∑ f, D m c (row t r) f e := by
    funext k
    rw [pay2_blk m c t _ _ r k (fun k => (ih r k).2), (ih r k).1]
    unfold partialRow
    rw [show (t.val - 1) % 11 + 1 = 10 by omega, ht, add_assoc]
    congr 1
    rw [← sum_slabs (J := 11) (n := 512) rfl (fun f => D m c (row t r) f k), Finset.sum_range_succ _ 10]
  exact congrFun (congrArg₂ rms hx rfl) e

/-- The array after the run: every row is the feed-forward of its row. -/
theorem result (c : Dev nD) (i : Fin 32768) (e : Fin 2048) :
    (Value.G6 m c : Vec Ideal S32768x2048 .f32) (ix2 i e)
      = ffn (X m c i) (G m c) (WG m c) (WU m c) (WD m c) (GF m c) e := by
  have hi := i.isLt
  have he := e.isLt
  have hpt : Value.pt6Of (ix2 i e) = 11 * (i.val / 1024) + 10 := by
    show 11 * (1 * (i.val / 1024 - 0) + 1 * (e.val / 2048 - 0)) + 10 = _
    omega
  have hlt : Value.pt6Of (ix2 i e) < cfg0.N := by rw [hpt, show cfg0.N = 352 from N_0]; omega
  unfold Value.G6
  rw [dif_pos hlt, ← Value.outsAt0_sweep m c _ hlt]
  have hloc : Value.loc6Of (ix2 i e) = ix2 ⟨i.val % 1024, Nat.mod_lt _ (by decide)⟩ e := by
    funext a
    apply Fin.ext
    match a with
    | ⟨0, _⟩ => rfl
    | ⟨1, _⟩ => show e.val % 2048 = e.val; omega
  rw [hloc, after_last m c ⟨_, hlt⟩ (by show Value.pt6Of (ix2 i e) % 11 = 10; omega)]
  have hrow : row ⟨Value.pt6Of (ix2 i e), hlt⟩ ⟨i.val % 1024, Nat.mod_lt _ (by decide)⟩ = i := by
    apply Fin.ext
    rw [row_val]
    show 1024 * (Value.pt6Of (ix2 i e) / 11) + i.val % 1024 = i.val
    omega
  rw [hrow]

end Cert.FfnIdeal.Point

end
-- ==== Proof.Ffn.Ref.lean ====
module

public import proofs.«01_k».proof.Proof.Gen.FfnRefIdeal.Read
public import proofs.«01_k».proof.Proof.Rows

@[expose] public section

set_option maxRecDepth 16384

noncomputable section

namespace Cert.FfnRefIdeal.Point

open Cert.FfnRefIdeal Cert.FfnRefIdeal.Gen Cert.FfnRefIdeal.Read Idealize.ShloMosaic Idealize.ShloMosaic.TcCoe Idealize.SL.Sem
open Cert.Rows

variable (x0 : Vec Ideal S32768x2048 .f32) (x1 : Vec Ideal S1x2048 .f32) (x2 x3 : Vec Ideal S1x2048x5632 .f32)
  (x4 : Vec Ideal S1x5632x2048 .f32) (x5 : Vec Ideal S2048 .f32)

/-- The normed rows. -/
theorem normed (i : Fin 32768) (k : Fin 2048) :
    val_main_v13 (F := Ideal) x0 x1 (ix2 i k) = rms (fun k => x0 (ix2 i k)) (fun k => x1 (ix2 0 k)) k := by
  unfold val_main_v13 val_main_v12 val_main_v11 val_main_v10 val_main_v9 val_main_v8 val_main_v7 val_main_v6 val_main_v5 val_main_v4
    val_main_v3 val_main_v2 val_main_v1 val_main_v0 val_main_cst val_main_cst_0 val_main_cst_1
  pointwise
  rfl

/-- The gate's product. -/
theorem gate (i : Fin 32768) (f : Fin 5632) : val_main_v15 (F := Ideal) x0 x1 x2 (ix2 i f)
    = ∑ k, val_main_v13 (F := Ideal) x0 x1 (ix2 i k) * x2 (ix3 0 k f) := by
  unfold val_main_v15 val_main_v14
  generalize val_main_v13 (F := Ideal) x0 x1 = y
  pointwise

/-- The up projection's product. -/
theorem up (i : Fin 32768) (f : Fin 5632) : val_main_v18 (F := Ideal) x0 x1 x3 (ix2 i f)
    = ∑ k, val_main_v13 (F := Ideal) x0 x1 (ix2 i k) * x3 (ix3 0 k f) := by
  unfold val_main_v18 val_main_v17
  generalize val_main_v13 (F := Ideal) x0 x1 = y
  pointwise

/-- The hidden units. -/
theorem hidden (i : Fin 32768) (f : Fin 5632) : val_main_v19 (F := Ideal) x0 x1 x2 x3 (ix2 i f)
    = val_main_v15 (F := Ideal) x0 x1 x2 (ix2 i f) * Ideal.logistic (val_main_v15 (F := Ideal) x0 x1 x2 (ix2 i f))
      * val_main_v18 (F := Ideal) x0 x1 x3 (ix2 i f) := by
  unfold val_main_v19 val_main_v16 val_main_call0_v5 val_main_call0_v4 val_main_call0_v3 val_main_call0_v2 val_main_call0_v1
    val_main_call0_v0 val_main_call0_cst val_main_call0_cst_0
  generalize val_main_v15 (F := Ideal) x0 x1 x2 = y
  generalize val_main_v18 (F := Ideal) x0 x1 x3 = z
  pointwise
  simp [Ideal.logistic]

/-- The residual stream after the feed-forward. -/
theorem stream (i : Fin 32768) (e : Fin 2048) : val_main_v22 (F := Ideal) x0 x1 x2 x3 x4 (ix2 i e)
    = x0 (ix2 i e) + ∑ f, val_main_v19 (F := Ideal) x0 x1 x2 x3 (ix2 i f) * x4 (ix3 0 f e) := by
  unfold val_main_v22 val_main_v21 val_main_v20
  generalize val_main_v19 (F := Ideal) x0 x1 x2 x3 = y
  pointwise

/-- The result's norm. -/
theorem outer (i : Fin 32768) (e : Fin 2048) : val_main_v35 (F := Ideal) x0 x1 x2 x3 x4 x5 (ix2 i e)
    = rms (fun k => val_main_v22 (F := Ideal) x0 x1 x2 x3 x4 (ix2 i k)) (fun k => x5 (ix1 k)) e := by
  unfold val_main_v35 val_main_v34 val_main_v33 val_main_v32 val_main_v31 val_main_v30 val_main_v29 val_main_v28 val_main_v27
    val_main_v26 val_main_v25 val_main_v24 val_main_v23 val_main_cst_2 val_main_cst_3 val_main_cst_4
  generalize val_main_v22 (F := Ideal) x0 x1 x2 x3 x4 = y
  pointwise
  rfl

/-- The reference at row `i`, channel `e`: the feed-forward of the row. -/
theorem result (i : Fin 32768) (e : Fin 2048) : val_main_v35 (F := Ideal) x0 x1 x2 x3 x4 x5 (ix2 i e)
    = ffn (fun k => x0 (ix2 i k)) (fun k => x1 (ix2 0 k)) (fun k f => x2 (ix3 0 k f)) (fun k f => x3 (ix3 0 k f))
      (fun f e => x4 (ix3 0 f e)) (fun k => x5 (ix1 k)) e := by
  rw [outer]
  simp only [stream, hidden, gate, up, normed]
  rfl

end Cert.FfnRefIdeal.Point

end
-- ==== Proof.Merge.Cases.lean ====
module

public import proofs.«01_k».proof.Proof.Gen.MergeIdeal.Value
public import Idealize.ShloMosaic.Lib.Pipeline.ValueKit
public import Idealize.ShloMosaic.Lib.Pipeline.ReadBack

@[expose] public section

set_option maxRecDepth 16384

noncomputable section

namespace Cert.MergeIdeal.Point

open Cert.MergeIdeal Cert.MergeIdeal.Gen Idealize.ShloMosaic Idealize.ShloMosaic.TcCoe Idealize.SL.Sem

/-- The kernel's test that a point is the first of its row of blocks, on the point's number. -/
def firstFlag (w : BitVec 32) : BitVec 1 :=
  let r := Scalar.remsi (Scalar.maxsi (Scalar.subi w 1#32) 0#32) 4#32
  Scalar.cmpi .eq (Scalar.select (Scalar.andi (Scalar.xori (Scalar.cmpi .slt r 0#32) 0#1) (Scalar.cmpi .ne r 0#32))
    (Scalar.addi r 4#32) r) 0#32

theorem firstFlag_eq : ∀ t : Fin grid0.N, firstFlag (BitVec.ofNat 32 (grid0.coords t 0).val)
    = if (t.val - 1) % 4 = 0 then 1#1 else 0#1 := by decide +kernel

variable {F : FTy → Type} [FloatOps F]
variable (m : (ℓ : Loc nD τ sig) → Buf (Elt F) ℓ)

theorem after_A (c : Dev nD) (t : Fin cfg0.N) (h0 : t.val % 257 = 0) (h1 : t.val % 2 = 0) (h2 : ¬t.val % 2 = 1) :
    outsAt0 m c t.val t.isLt = (k0_pay2 (firstFlag (BitVec.ofNat 32 (grid0.coords t 0).val)) (k0_pay10) (iblk m c 8 t) (iblk m c 3 t) k0_pay11,
      k0_pay12 (k0_pay4 (iblk m c 0 t) (iblk m c 4 t)) (k0_pay5 (iblk m c 0 t) (iblk m c 5 t)) (FloatOps.ofBits FTy.f32 1056964608#32) (iblk m c 1 t) (iblk m c 6 t) (iblk m c 2 t) (iblk m c 7 t),
      k0_pay10,
      k0_pay3 (firstFlag (BitVec.ofNat 32 (grid0.coords t 0).val)) (k0_pay10) (iblk m c 8 t) (iblk m c 3 t) k0_pay11) := by
  rw [outsAt0_A m c t h0 h1 h2]
  frame_out
  rfl

theorem after_B (c : Dev nD) (t : Fin cfg0.N) (h0 : ¬t.val % 257 = 0) (h1 : ¬t.val % 2 = 0) (h2 : t.val % 2 = 1)
    (p : Vec F S512x2048 .f32 × Vec F S512x512 .bf16 × Vec F S512x512 .bf16 × Vec F S512x2048 .f32)
    (hp : outsAt0 m c (t.val - 1) (Nat.lt_of_le_of_lt (Nat.sub_le _ _) t.isLt) = p) :
    outsAt0 m c t.val t.isLt = (k0_pay6 (firstFlag (BitVec.ofNat 32 (grid0.coords t 0).val)) (p.2.1) (iblk m c 8 t) (iblk m c 3 t) p.2.2.2,
      p.2.1,
      k0_pay1 (k0_pay8 (iblk m c 0 t) (iblk m c 4 t)) (k0_pay9 (iblk m c 0 t) (iblk m c 5 t)) (FloatOps.ofBits FTy.f32 1056964608#32) (iblk m c 1 t) (iblk m c 6 t) (iblk m c 2 t) (iblk m c 7 t),
      k0_pay7 (firstFlag (BitVec.ofNat 32 (grid0.coords t 0).val)) (p.2.1) (iblk m c 8 t) (iblk m c 3 t) p.2.2.2) := by
  rw [outsAt0_B m c t h0 h1 h2, hp]
  frame_out
  simp only [read_unread_whole, sout0_B_0]
  rfl

theorem after_C (c : Dev nD) (t : Fin cfg0.N) (h0 : ¬t.val % 257 = 0) (h1 : t.val % 2 = 0) (h2 : ¬t.val % 2 = 1)
    (p : Vec F S512x2048 .f32 × Vec F S512x512 .bf16 × Vec F S512x512 .bf16 × Vec F S512x2048 .f32)
    (hp : outsAt0 m c (t.val - 1) (Nat.lt_of_le_of_lt (Nat.sub_le _ _) t.isLt) = p) :
    outsAt0 m c t.val t.isLt = (k0_pay2 (firstFlag (BitVec.ofNat 32 (grid0.coords t 0).val)) (p.2.2.1) (iblk m c 8 t) (iblk m c 3 t) p.2.2.2,
      k0_pay12 (k0_pay4 (iblk m c 0 t) (iblk m c 4 t)) (k0_pay5 (iblk m c 0 t) (iblk m c 5 t)) (FloatOps.ofBits FTy.f32 1056964608#32) (iblk m c 1 t) (iblk m c 6 t) (iblk m c 2 t) (iblk m c 7 t),
      p.2.2.1,
      k0_pay3 (firstFlag (BitVec.ofNat 32 (grid0.coords t 0).val)) (p.2.2.1) (iblk m c 8 t) (iblk m c 3 t) p.2.2.2) := by
  rw [outsAt0_C m c t h0 h1 h2, hp]
  frame_out
  simp only [read_unread_whole, sout0_C_1]
  rfl

end Cert.MergeIdeal.Point

end
-- ==== Proof.Merge.Pay.lean ====
module

public import proofs.«01_k».proof.Proof.Gen.MergeIdeal.Skeleton
public import proofs.«01_k».proof.Proof.Rows
public import Idealize.ShloMosaic.Lib.Pointwise
public import Idealize.ShloMosaic.PureOps.Ideal.Laws

@[expose] public section

set_option maxRecDepth 16384

noncomputable section

namespace Cert.MergeIdeal.Point

open Cert.MergeIdeal Cert.MergeIdeal.Gen Idealize.ShloMosaic Idealize.ShloMosaic.TcCoe Idealize.SL.Sem

open Cert.Rows

/-- What the accumulator becomes: the residual row at a first point, else what it held, plus one slab through the output projection. -/
theorem pay2_apply (b : BitVec 1) (mo : Vec Ideal S512x512 .bf16) (wo : Vec Ideal S512x2048 .bf16) (x acc : Vec Ideal S512x2048 .f32)
    (r : Fin 512) (e : Fin 2048) :
    k0_pay2 b mo wo x acc (ix2 r e) = (Scalar.select b x acc : Vec Ideal S512x2048 .f32) (ix2 r e) + ∑ f : Fin 512, mo (ix2 r f) * wo (ix2 f e) := by
  unfold_payloads
  generalize (Scalar.select b x acc : Vec Ideal S512x2048 .f32) = y
  pointwise

/-- What the accumulator becomes: the residual row at a first point, else what it held, plus one slab through the output projection. -/
theorem pay6_apply (b : BitVec 1) (mo : Vec Ideal S512x512 .bf16) (wo : Vec Ideal S512x2048 .bf16) (x acc : Vec Ideal S512x2048 .f32)
    (r : Fin 512) (e : Fin 2048) :
    k0_pay6 b mo wo x acc (ix2 r e) = (Scalar.select b x acc : Vec Ideal S512x2048 .f32) (ix2 r e) + ∑ f : Fin 512, mo (ix2 r f) * wo (ix2 f e) := by
  unfold_payloads
  generalize (Scalar.select b x acc : Vec Ideal S512x2048 .f32) = y
  pointwise

/-- What the accumulator becomes: the residual row at a first point, else what it held, plus one slab through the output projection. -/
theorem pay3_apply (b : BitVec 1) (mo : Vec Ideal S512x512 .bf16) (wo : Vec Ideal S512x2048 .bf16) (x acc : Vec Ideal S512x2048 .f32)
    (r : Fin 512) (e : Fin 2048) :
    k0_pay3 b mo wo x acc (ix2 r e) = (Scalar.select b x acc : Vec Ideal S512x2048 .f32) (ix2 r e) + ∑ f : Fin 512, mo (ix2 r f) * wo (ix2 f e) := by
  unfold_payloads
  generalize (Scalar.select b x acc : Vec Ideal S512x2048 .f32) = y
  pointwise

/-- What the accumulator becomes: the residual row at a first point, else what it held, plus one slab through the output projection. -/
theorem pay7_apply (b : BitVec 1) (mo : Vec Ideal S512x512 .bf16) (wo : Vec Ideal S512x2048 .bf16) (x acc : Vec Ideal S512x2048 .f32)
    (r : Fin 512) (e : Fin 2048) :
    k0_pay7 b mo wo x acc (ix2 r e) = (Scalar.select b x acc : Vec Ideal S512x2048 .f32) (ix2 r e) + ∑ f : Fin 512, mo (ix2 r f) * wo (ix2 f e) := by
  unfold_payloads
  generalize (Scalar.select b x acc : Vec Ideal S512x2048 .f32) = y
  pointwise

/-- One entry of the merged tile. -/
theorem pay12_apply (h : Vec Ideal S512x2048 .bf16) (wga wgb : Vec Ideal S2048x512 .bf16) (a b : Vec Ideal S512x1024 .bf16)
    (wa wb : Vec Ideal S1024x512 .bf16) (r n : Fin 512) :
    k0_pay12 (F := Ideal) (k0_pay4 h wga) (k0_pay5 h wgb) (FloatOps.ofBits FTy.f32 1056964608#32) a wa b wb (ix2 r n)
      = merge (fun k => h (ix2 r k)) (fun k => wga (ix2 k n)) (fun k => wgb (ix2 k n)) (fun k => a (ix2 r k)) (fun k => wa (ix2 k n))
        (fun k => b (ix2 r k)) (fun k => wb (ix2 k n)) := by
  unfold merge
  rw [← half_tanh, ← half_tanh]
  unfold_payloads
  pointwise

/-- One entry of the merged tile. -/
theorem pay1_apply (h : Vec Ideal S512x2048 .bf16) (wga wgb : Vec Ideal S2048x512 .bf16) (a b : Vec Ideal S512x1024 .bf16)
    (wa wb : Vec Ideal S1024x512 .bf16) (r n : Fin 512) :
    k0_pay1 (F := Ideal) (k0_pay8 h wga) (k0_pay9 h wgb) (FloatOps.ofBits FTy.f32 1056964608#32) a wa b wb (ix2 r n)
      = merge (fun k => h (ix2 r k)) (fun k => wga (ix2 k n)) (fun k => wgb (ix2 k n)) (fun k => a (ix2 r k)) (fun k => wa (ix2 k n))
        (fun k => b (ix2 r k)) (fun k => wb (ix2 k n)) := by
  unfold merge
  rw [← half_tanh, ← half_tanh]
  unfold_payloads
  pointwise

end Cert.MergeIdeal.Point

end
-- ==== Proof.Merge.Blocks.lean ====
module

public import proofs.«01_k».proof.Proof.Merge.Cases
public import proofs.«01_k».proof.Proof.Rows
public import Idealize.ShloMosaic.Lib.Pointwise

@[expose] public section

set_option maxRecDepth 16384

noncomputable section

namespace Cert.MergeIdeal.Point

open Cert.MergeIdeal Cert.MergeIdeal.Gen Idealize.ShloMosaic Idealize.ShloMosaic.TcCoe Idealize.SL.Sem

open Cert.Rows

variable (m : (ℓ : Loc nD τ sig) → Buf (Elt Ideal) ℓ)

theorem idx : ∀ t : Fin grid0.N,
    win0_0.index t = ![min t.val 255 / 4, 0] ∧ win0_1.index t = ![min t.val 255 / 4, 0] ∧ win0_2.index t = ![min t.val 255 / 4, 0] ∧
    win0_3.index t = ![(t.val - 1) / 4, 0] ∧ win0_4.index t = ![0, min t.val 255 % 4] ∧ win0_5.index t = ![0, min t.val 255 % 4] ∧
    win0_6.index t = ![0, min t.val 255 % 4] ∧ win0_7.index t = ![0, min t.val 255 % 4] ∧ win0_8.index t = ![(t.val - 1) % 4, 0] ∧
    win0_9.index t = ![(t.val - 1) / 4, 0] := by decide +kernel

/-- Row `r` of tile `k` of the array. -/
def rowOf (k : ℕ) (r : Fin 512) : Fin 32768 := Fin.ofNat 32768 (512 * k + r.val)
/-- Column `f` of slab `k`. -/
def colOf (k : ℕ) (f : Fin 512) : Fin 2048 := Fin.ofNat 2048 (512 * k + f.val)
/-- The column of the input projection that gates column `n` of the first branch. -/
def gateA (n : Fin 2048) : Fin 8192 := ⟨4096 + n.val, by omega⟩
/-- The column of the input projection that gates column `n` of the second branch. -/
def gateB (n : Fin 2048) : Fin 8192 := ⟨6144 + n.val, by omega⟩

theorem rowOf_val (k : ℕ) (hk : k < 64) (r : Fin 512) : (rowOf k r).val = 512 * k + r.val := by
  have := r.isLt
  exact Nat.mod_eq_of_lt (by omega)
theorem colOf_val (k : ℕ) (hk : k < 4) (f : Fin 512) : (colOf k f).val = 512 * k + f.val := by
  have := f.isLt
  exact Nat.mod_eq_of_lt (by omega)
theorem cur_row (t : Fin cfg0.N) : min t.val 255 / 4 < 64 := by omega
theorem cur_col (t : Fin cfg0.N) : min t.val 255 % 4 < 4 := by omega
theorem pend_row (t : Fin cfg0.N) : (t.val - 1) / 4 < 64 := by
  have := lt_of_lt_of_eq t.isLt (show cfg0.N = 257 from N_0)
  omega
theorem pend_col (t : Fin cfg0.N) : (t.val - 1) % 4 < 4 := by omega

theorem blk0 (c : Dev nD) (t : Fin cfg0.N) (r : Fin 512) (k : Fin 2048) :
    (iblk m c 0 t : Vec Ideal S512x2048 .bf16) (ix2 r k) = (m ((c : Thread nD τ).loc main_arg0) : Vec Ideal S32768x2048 .bf16) (ix2 (rowOf (min t.val 255 / 4) r) k) := by
  have hr := rowOf_val _ (cur_row t) r
  blk_ext [iblk, V, idx t, hr]

theorem blk1 (c : Dev nD) (t : Fin cfg0.N) (r : Fin 512) (k : Fin 1024) :
    (iblk m c 1 t : Vec Ideal S512x1024 .bf16) (ix2 r k) = (m ((c : Thread nD τ).loc main_arg1) : Vec Ideal S32768x1024 .bf16) (ix2 (rowOf (min t.val 255 / 4) r) k) := by
  have hr := rowOf_val _ (cur_row t) r
  blk_ext [iblk, V, idx t, hr]

theorem blk2 (c : Dev nD) (t : Fin cfg0.N) (r : Fin 512) (k : Fin 1024) :
    (iblk m c 2 t : Vec Ideal S512x1024 .bf16) (ix2 r k) = (m ((c : Thread nD τ).loc main_arg2) : Vec Ideal S32768x1024 .bf16) (ix2 (rowOf (min t.val 255 / 4) r) k) := by
  have hr := rowOf_val _ (cur_row t) r
  blk_ext [iblk, V, idx t, hr]

theorem blk3 (c : Dev nD) (t : Fin cfg0.N) (r : Fin 512) (e : Fin 2048) :
    (iblk m c 3 t : Vec Ideal S512x2048 .f32) (ix2 r e) = (m ((c : Thread nD τ).loc main_arg3) : Vec Ideal S32768x2048 .f32) (ix2 (rowOf ((t.val - 1) / 4) r) e) := by
  have hr := rowOf_val _ (pend_row t) r
  blk_ext [iblk, V, idx t, hr]

theorem blk4 (c : Dev nD) (t : Fin cfg0.N) (k : Fin 2048) (n : Fin 512) :
    (iblk m c 4 t : Vec Ideal S2048x512 .bf16) (ix2 k n) = (m ((c : Thread nD τ).loc main_arg4) : Vec Ideal S1x2048x8192 .f32) (ix3 0 k (gateA (colOf (min t.val 255 % 4) n))) := by
  have hc := colOf_val _ (cur_col t) n
  have hg : (gateA (colOf (min t.val 255 % 4) n)).val = 4096 + (colOf (min t.val 255 % 4) n).val := rfl
  blk_ext! [iblk, V, idx t, hc, hg]

theorem blk5 (c : Dev nD) (t : Fin cfg0.N) (k : Fin 2048) (n : Fin 512) :
    (iblk m c 5 t : Vec Ideal S2048x512 .bf16) (ix2 k n) = (m ((c : Thread nD τ).loc main_arg4) : Vec Ideal S1x2048x8192 .f32) (ix3 0 k (gateB (colOf (min t.val 255 % 4) n))) := by
  have hc := colOf_val _ (cur_col t) n
  have hg : (gateB (colOf (min t.val 255 % 4) n)).val = 6144 + (colOf (min t.val 255 % 4) n).val := rfl
  blk_ext! [iblk, V, idx t, hc, hg]

theorem blk6 (c : Dev nD) (t : Fin cfg0.N) (k : Fin 1024) (n : Fin 512) :
    (iblk m c 6 t : Vec Ideal S1024x512 .bf16) (ix2 k n) = (m ((c : Thread nD τ).loc main_arg5) : Vec Ideal S1x1024x2048 .f32) (ix3 0 k (colOf (min t.val 255 % 4) n)) := by
  have hc := colOf_val _ (cur_col t) n
  blk_ext! [iblk, V, idx t, hc]

theorem blk7 (c : Dev nD) (t : Fin cfg0.N) (k : Fin 1024) (n : Fin 512) :
    (iblk m c 7 t : Vec Ideal S1024x512 .bf16) (ix2 k n) = (m ((c : Thread nD τ).loc main_arg6) : Vec Ideal S1x1024x2048 .f32) (ix3 0 k (colOf (min t.val 255 % 4) n)) := by
  have hc := colOf_val _ (cur_col t) n
  blk_ext! [iblk, V, idx t, hc]

theorem blk8 (c : Dev nD) (t : Fin cfg0.N) (f : Fin 512) (e : Fin 2048) :
    (iblk m c 8 t : Vec Ideal S512x2048 .bf16) (ix2 f e) = (m ((c : Thread nD τ).loc main_arg7) : Vec Ideal S1x2048x2048 .f32) (ix3 0 (colOf ((t.val - 1) % 4) f) e) := by
  have hc := colOf_val _ (pend_col t) f
  blk_ext! [iblk, V, idx t, hc]

end Cert.MergeIdeal.Point

end
-- ==== Proof.Merge.Result.lean ====
module

public import proofs.«01_k».proof.Proof.Merge.Cases
public import proofs.«01_k».proof.Proof.Merge.Pay
public import proofs.«01_k».proof.Proof.Merge.Blocks
public import Idealize.ShloMosaic.Lib.Pipeline.ValueKit

@[expose] public section

set_option maxRecDepth 16384

noncomputable section

namespace Cert.MergeIdeal.Point

open Cert.MergeIdeal Cert.MergeIdeal.Gen Idealize.ShloMosaic Idealize.ShloMosaic.TcCoe Idealize.SL.Sem

open Cert.Rows

variable (m : (ℓ : Loc nD τ sig) → Buf (Elt Ideal) ℓ)

/-- The residual stream, as launched. -/
def X (c : Dev nD) (i : Fin 32768) (e : Fin 2048) : EReal :=
  (m ((c : Thread nD τ).loc main_arg3) : Vec Ideal S32768x2048 .f32) (ix2 i e)
/-- The output projection. -/
def WO (c : Dev nD) (f : Fin 2048) (e : Fin 2048) : EReal :=
  (m ((c : Thread nD τ).loc main_arg7) : Vec Ideal S1x2048x2048 .f32) (ix3 0 f e)
/-- The merged branches of row `i`, at channel `n`. -/
def M (c : Dev nD) (i : Fin 32768) (n : Fin 2048) : EReal :=
  merge (fun k => (m ((c : Thread nD τ).loc main_arg0) : Vec Ideal S32768x2048 .bf16) (ix2 i k))
    (fun k => (m ((c : Thread nD τ).loc main_arg4) : Vec Ideal S1x2048x8192 .f32) (ix3 0 k (gateA n)))
    (fun k => (m ((c : Thread nD τ).loc main_arg4) : Vec Ideal S1x2048x8192 .f32) (ix3 0 k (gateB n)))
    (fun k => (m ((c : Thread nD τ).loc main_arg1) : Vec Ideal S32768x1024 .bf16) (ix2 i k))
    (fun k => (m ((c : Thread nD τ).loc main_arg5) : Vec Ideal S1x1024x2048 .f32) (ix3 0 k n))
    (fun k => (m ((c : Thread nD τ).loc main_arg2) : Vec Ideal S32768x1024 .bf16) (ix2 i k))
    (fun k => (m ((c : Thread nD τ).loc main_arg6) : Vec Ideal S1x1024x2048 .f32) (ix3 0 k n))
/-- The output's row after `J` slabs. -/
def part (c : Dev nD) (i : Fin 32768) (J : ℕ) (e : Fin 2048) : EReal :=
  X m c i e + ∑ s ∈ Finset.range J, ∑ f : Fin 512, M m c i (colOf s f) * WO m c (colOf s f) e

theorem new_A (c : Dev nD) (t : Fin cfg0.N) (r n : Fin 512) :
    k0_pay12 (F := Ideal) (k0_pay4 (iblk m c 0 t) (iblk m c 4 t)) (k0_pay5 (iblk m c 0 t) (iblk m c 5 t)) (FloatOps.ofBits FTy.f32 1056964608#32)
      (iblk m c 1 t) (iblk m c 6 t) (iblk m c 2 t) (iblk m c 7 t) (ix2 r n)
      = M m c (rowOf (min t.val 255 / 4) r) (colOf (min t.val 255 % 4) n) := by
  rw [pay12_apply]
  simp only [blk0, blk1, blk2, blk4, blk5, blk6, blk7]
  rfl

theorem new_B (c : Dev nD) (t : Fin cfg0.N) (r n : Fin 512) :
    k0_pay1 (F := Ideal) (k0_pay8 (iblk m c 0 t) (iblk m c 4 t)) (k0_pay9 (iblk m c 0 t) (iblk m c 5 t)) (FloatOps.ofBits FTy.f32 1056964608#32)
      (iblk m c 1 t) (iblk m c 6 t) (iblk m c 2 t) (iblk m c 7 t) (ix2 r n)
      = M m c (rowOf (min t.val 255 / 4) r) (colOf (min t.val 255 % 4) n) := by
  rw [pay1_apply]
  simp only [blk0, blk1, blk2, blk4, blk5, blk6, blk7]
  rfl

/-- One slab added: to the residual row at the first point of a row of tiles, to the running row elsewhere. -/
theorem step (c : Dev nD) (t : Fin cfg0.N) (mo : Vec Ideal S512x512 .bf16) (acc : Vec Ideal S512x2048 .f32)
    (r : Fin 512) (e : Fin 2048) (hmo : ∀ f, mo (ix2 r f) = M m c (rowOf ((t.val - 1) / 4) r) (colOf ((t.val - 1) % 4) f))
    (hacc : (t.val - 1) % 4 ≠ 0 → acc (ix2 r e) = part m c (rowOf ((t.val - 1) / 4) r) ((t.val - 1) % 4) e) :
    (Scalar.select (firstFlag (BitVec.ofNat 32 (grid0.coords t 0).val)) (iblk m c 3 t : Vec Ideal S512x2048 .f32) acc : Vec Ideal S512x2048 .f32) (ix2 r e)
      + ∑ f : Fin 512, mo (ix2 r f) * (iblk m c 8 t : Vec Ideal S512x2048 .bf16) (ix2 f e)
      = part m c (rowOf ((t.val - 1) / 4) r) ((t.val - 1) % 4 + 1) e := by
  rw [firstFlag_eq]
  simp only [hmo, blk8]
  by_cases h : (t.val - 1) % 4 = 0
  · rw [if_pos h]
    refine (congrArg (fun z : EReal => z + _) (blk3 m c t r e)).trans ?_
    rw [h]
    unfold part
    rw [Finset.sum_range_one]
    rfl
  · rw [if_neg h]
    refine (congrArg (fun z : EReal => z + _) (hacc h)).trans ?_
    unfold part
    rw [Finset.sum_range_succ _ ((t.val - 1) % 4), add_assoc]
    rfl

/-- What is held after point `n`: the merged tile of the point in the buffer of its parity, and, from the second point
    on, the running rows of the point before in the accumulator and in the output block. -/
theorem after_eq (c : Dev nD) : ∀ (n : ℕ) (h : n < cfg0.N),
    (n % 2 = 0 → ∀ r f, (outsAt0 m c n h).2.1 (ix2 r f) = M m c (rowOf (min n 255 / 4) r) (colOf (min n 255 % 4) f)) ∧
    (n % 2 = 1 → ∀ r f, (outsAt0 m c n h).2.2.1 (ix2 r f) = M m c (rowOf (min n 255 / 4) r) (colOf (min n 255 % 4) f)) ∧
    (1 ≤ n → ∀ r e, (outsAt0 m c n h).2.2.2 (ix2 r e) = part m c (rowOf ((n - 1) / 4) r) ((n - 1) % 4 + 1) e) ∧
    (1 ≤ n → ∀ r e, (outsAt0 m c n h).1 (ix2 r e) = part m c (rowOf ((n - 1) / 4) r) ((n - 1) % 4 + 1) e) := by
  intro n
  induction n with
  | zero =>
    intro h
    have hA := after_A m c ⟨0, h⟩ rfl rfl (by show ¬ 0 % 2 = 1; decide)
    rw [show outsAt0 m c 0 h = _ from hA]
    exact ⟨fun _ r f => new_A m c ⟨0, h⟩ r f, fun h => absurd h (by decide), fun h => absurd h (by decide), fun h => absurd h (by decide)⟩
  | succ n ih =>
    intro h
    have hN : n + 1 < 257 := lt_of_lt_of_eq h (show cfg0.N = 257 from N_0)
    obtain ⟨i0, i1, ia, -⟩ := ih (Nat.lt_of_succ_lt h)
    have hmin : min n 255 = n := by omega
    rw [hmin] at i0 i1
    have hacc : ∀ r e, n % 4 ≠ 0 → (outsAt0 m c n (Nat.lt_of_succ_lt h)).2.2.2 (ix2 r e) = part m c (rowOf (n / 4) r) (n % 4) e := by
      intro r e hn
      rw [ia (by omega) r e, show (n - 1) / 4 = n / 4 by omega, show (n - 1) % 4 + 1 = n % 4 by omega]
    by_cases hp : n % 2 = 0
    · have hB := after_B m c ⟨n + 1, h⟩ (by show ¬ (n + 1) % 257 = 0; omega) (by show ¬ (n + 1) % 2 = 0; omega) (by show (n + 1) % 2 = 1; omega) _ rfl
      rw [show outsAt0 m c (n + 1) h = _ from hB]
      refine ⟨fun h => absurd h (by omega), fun _ r f => new_B m c ⟨n + 1, h⟩ r f, fun _ r e => ?_, fun _ r e => ?_⟩
      · exact (pay7_apply _ _ _ _ _ r e).trans (step m c ⟨n + 1, h⟩ _ _ r e (fun f => i0 hp r f) (hacc r e))
      · exact (pay6_apply _ _ _ _ _ r e).trans (step m c ⟨n + 1, h⟩ _ _ r e (fun f => i0 hp r f) (hacc r e))
    · have hC := after_C m c ⟨n + 1, h⟩ (by show ¬ (n + 1) % 257 = 0; omega) (by show (n + 1) % 2 = 0; omega) (by show ¬ (n + 1) % 2 = 1; omega) _ rfl
      rw [show outsAt0 m c (n + 1) h = _ from hC]
      refine ⟨fun _ r f => new_A m c ⟨n + 1, h⟩ r f, fun h => absurd h (by omega), fun _ r e => ?_, fun _ r e => ?_⟩
      · exact (pay3_apply _ _ _ _ _ r e).trans (step m c ⟨n + 1, h⟩ _ _ r e (fun f => i1 (by omega) r f) (hacc r e))
      · exact (pay2_apply _ _ _ _ _ r e).trans (step m c ⟨n + 1, h⟩ _ _ r e (fun f => i1 (by omega) r f) (hacc r e))

/-- The rows the call leaves. -/
def out (c : Dev nD) (i : Fin 32768) (e : Fin 2048) : EReal := X m c i e + ∑ n, M m c i n * WO m c n e

theorem flush_val : ∀ t : Fin cfg0.N, (cfg0.win 9).flush t = true → t.val ≠ 0 ∧ t.val % 4 = 0 := by decide +kernel

/-- The output block after a point at which it is written back. -/
theorem after_last (c : Dev nD) (t : Fin cfg0.N) (hf : (cfg0.win 9).flush t = true) (r : Fin 512) (e : Fin 2048) :
    (outsAt0 m c t.val t.isLt).1 (ix2 r e) = out m c (rowOf ((t.val - 1) / 4) r) e := by
  obtain ⟨h0, h1⟩ := flush_val t hf
  rw [(after_eq m c t.val t.isLt).2.2.2 (by omega) r e, show (t.val - 1) % 4 + 1 = 4 by omega]
  exact congrArg (_ + ·) (sum_slabs (J := 4) (n := 512) rfl fun n => M m c _ n * WO m c n e)

/-- The array after the run. -/
theorem final (c : Dev nD) : (dats m 0 c).arrAt 9 cfg0.N
    = (fun i => out m c (i 0) (i 1) : Vec Ideal S32768x2048 .f32) := by
  refine (dats m 0 c).arrAt_eq_of_covers 9 _ (by decide +kernel) fun t hf y => ?_
  blk_simp
  rw [after0_9]
  have hr := rowOf_val _ (pend_row t) (y 0)
  have h0 : (win0_9.blk t).view.emb y 0 = rowOf ((t.val - 1) / 4) (y 0) := by
    apply Fin.ext
    blk_simp [idx t, hr]
    omega
  have h1 : (win0_9.blk t).view.emb y 1 = (y 1 : Fin 2048) := by
    apply Fin.ext
    blk_simp [idx t]
  rw [h0, h1]
  exact (congrArg (outsAt0 m c t.val t.isLt).1 (eq_ix2 (n0 := 512) (n1 := 2048) y)).trans (after_last m c t hf (y 0) (y 1))

end Cert.MergeIdeal.Point

end
-- ==== Proof.Merge.Ref.lean ====
module

public import proofs.«01_k».proof.Proof.Gen.MergeRefIdeal.Read
public import proofs.«01_k».proof.Proof.Rows
public import Idealize.ShloMosaic.Lib.Pointwise

@[expose] public section

set_option maxRecDepth 16384

noncomputable section

namespace Cert.MergeRefIdeal.Point

open Cert.MergeRefIdeal Cert.MergeRefIdeal.Gen Cert.MergeRefIdeal.Read Idealize.ShloMosaic Idealize.ShloMosaic.TcCoe Idealize.SL.Sem
open Cert.Rows

variable (x0 : Vec Ideal S32768x2048 .bf16) (x1 x2 : Vec Ideal S32768x1024 .bf16) (x3 : Vec Ideal S32768x2048 .f32)
  (x4 : Vec Ideal S1x2048x8192 .f32) (x5 x6 : Vec Ideal S1x1024x2048 .f32) (x7 : Vec Ideal S1x2048x2048 .f32)

/-- The gate of the first branch. -/
theorem gate_a (i : Fin 32768) (n : Fin 2048) : val_main_v12 (F := Ideal) x0 x4 (ix2 i n)
    = Ideal.logistic (∑ k, x0 (ix2 i k) * x4 (ix3 0 k ⟨4096 + n.val, by omega⟩)) := by
  unfold val_main_v12 val_main_v11 val_main_v10 val_main_v9 val_main_v8 val_main_v7 val_main_v5 val_main_v4 val_main_v3 val_main_v0
    val_main_cst val_main_cst_0
  pointwise
  simp [Ideal.logistic]

/-- The gate of the second branch. -/
theorem gate_b (i : Fin 32768) (n : Fin 2048) : val_main_v21 (F := Ideal) x0 x4 (ix2 i n)
    = Ideal.logistic (∑ k, x0 (ix2 i k) * x4 (ix3 0 k ⟨6144 + n.val, by omega⟩)) := by
  unfold val_main_v21 val_main_v20 val_main_v19 val_main_v18 val_main_v17 val_main_v16 val_main_v6 val_main_v4 val_main_v3 val_main_v0
    val_main_cst_1 val_main_cst_2
  pointwise
  simp [Ideal.logistic]

/-- The first branch's projection. -/
theorem branch_a (i : Fin 32768) (n : Fin 2048) : val_main_v14 (F := Ideal) x1 x5 (ix2 i n)
    = ∑ k, x1 (ix2 i k) * x5 (ix3 0 k n) := by
  unfold val_main_v14 val_main_v13 val_main_v1
  pointwise

/-- The second branch's projection. -/
theorem branch_b (i : Fin 32768) (n : Fin 2048) : val_main_v23 (F := Ideal) x2 x6 (ix2 i n)
    = ∑ k, x2 (ix2 i k) * x6 (ix3 0 k n) := by
  unfold val_main_v23 val_main_v22 val_main_v2
  pointwise

/-- The merged branches. -/
theorem merged (i : Fin 32768) (n : Fin 2048) : val_main_v25 (F := Ideal) x0 x1 x2 x4 x5 x6 (ix2 i n)
    = merge (fun k => x0 (ix2 i k)) (fun k => x4 (ix3 0 k ⟨4096 + n.val, by omega⟩)) (fun k => x4 (ix3 0 k ⟨6144 + n.val, by omega⟩))
      (fun k => x1 (ix2 i k)) (fun k => x5 (ix3 0 k n)) (fun k => x2 (ix2 i k)) (fun k => x6 (ix3 0 k n)) := by
  unfold merge
  rw [← gate_a, ← gate_b, ← branch_a, ← branch_b]
  rfl

/-- The output projection of the merged branches, added to the residual row. -/
theorem output (i : Fin 32768) (e : Fin 2048) : val_main_v28 (F := Ideal) x0 x1 x2 x3 x4 x5 x6 x7 (ix2 i e)
    = x3 (ix2 i e) + ∑ n, val_main_v25 (F := Ideal) x0 x1 x2 x4 x5 x6 (ix2 i n) * x7 (ix3 0 n e) := by
  unfold val_main_v28 val_main_v27 val_main_v26
  generalize val_main_v25 (F := Ideal) x0 x1 x2 x4 x5 x6 = y
  pointwise

/-- The reference at row `i`, channel `e`. -/
theorem result (i : Fin 32768) (e : Fin 2048) : val_main_v28 (F := Ideal) x0 x1 x2 x3 x4 x5 x6 x7 (ix2 i e)
    = x3 (ix2 i e) + ∑ n : Fin 2048, merge (fun k => x0 (ix2 i k)) (fun k => x4 (ix3 0 k ⟨4096 + n.val, by omega⟩))
        (fun k => x4 (ix3 0 k ⟨6144 + n.val, by omega⟩)) (fun k => x1 (ix2 i k)) (fun k => x5 (ix3 0 k n))
        (fun k => x2 (ix2 i k)) (fun k => x6 (ix3 0 k n)) * x7 (ix3 0 n e) := by
  rw [output]
  simp only [merged]

end Cert.MergeRefIdeal.Point

end
-- ==== Proof.Hyproj.Cases.lean ====
module

public import proofs.«01_k».proof.Proof.Gen.HyprojIdeal.Value
public import Idealize.ShloMosaic.Lib.Pipeline.ValueKit
public import Idealize.ShloMosaic.Lib.Pipeline.ReadBack

@[expose] public section

set_option maxRecDepth 16384

noncomputable section

namespace Cert.HyprojIdeal.Point

open Cert.HyprojIdeal Cert.HyprojIdeal.Gen Idealize.ShloMosaic Idealize.ShloMosaic.TcCoe Idealize.SL.Sem

variable {F : FTy → Type} [FloatOps F]
variable (m : (ℓ : Loc nD τ sig) → Buf (Elt F) ℓ)

/-- The rows held for a tile: the tile's own between the last rows of the tile before and the first of the tile after. -/
def held (c : Dev nD) (t : Fin cfg0.N) : Vec F S1056x2048 .bf16 :=
  View.canon [⟨Rect.unit ![1040, 0] ![16, 2048] inb_S1056x2048_S16x2048_1040_0, k0_pay4 (grid0.coords t) (iblk m c 2 t)⟩,
    ⟨Rect.unit ![16, 0] ![1024, 2048] inb_S1056x2048_S1024x2048_16_0, k0_pay3 (iblk m c 1 t)⟩,
    ⟨Rect.unit ![0, 0] ![16, 2048] inb_S1056x2048_S16x2048_0_0, k0_pay2 (grid0.coords t) (iblk m c 0 t)⟩]

/-- The output block from the held rows. -/
def filtered (c : Dev nD) (t : Fin cfg0.N) (h : Vec F S1056x2048 .bf16) : Vec F S1024x1024 .f32 :=
  k0_pay1 (k0_pay5 h (iblk m c 3 t) (View.ld (iblk m c 4 t) (Rect.unit ![0, 0] ![1, 1024] inb_S3x1024_S1x1024_0_0))
    (View.ld (iblk m c 4 t) (Rect.unit ![1, 0] ![1, 1024] inb_S3x1024_S1x1024_1_0))
    (View.ld (iblk m c 4 t) (Rect.unit ![2, 0] ![1, 1024] inb_S3x1024_S1x1024_2_0))) (iblk m c 5 t)

theorem after_A (c : Dev nD) (t : Fin cfg0.N) (h0 : t.val % 3 = 0) :
    outsAt0 m c t.val t.isLt = (filtered m c t (held m c t), held m c t) := by
  rw [outsAt0_A m c t h0]
  frame_out
  rw [View.readCov_eq_canon']
  refine congrArg₂ Prod.mk ?_ rfl
  refine congrArg (filtered m c t) ?_
  exact View.ld_unit_lit (S := S1056x2048) (off := ![0, 0]) inb_S1056x2048_S1056x2048_0_0 (held m c t) (by decide)

theorem after_B (c : Dev nD) (t : Fin cfg0.N) (h0 : ¬t.val % 3 = 0)
    (p : Vec F S1024x1024 .f32 × Vec F S1056x2048 .bf16)
    (hp : outsAt0 m c (t.val - 1) (Nat.lt_of_le_of_lt (Nat.sub_le _ _) t.isLt) = p) :
    outsAt0 m c t.val t.isLt = (filtered m c t p.2, p.2) := by
  rw [outsAt0_B m c t h0, hp]
  frame_out
  simp only [read_unread_whole, sout0_B_0]
  rfl

end Cert.HyprojIdeal.Point

end
-- ==== Proof.Hyproj.Pay.lean ====
module

public import proofs.«01_k».proof.Proof.Gen.HyprojIdeal.Skeleton
public import proofs.«01_k».proof.Proof.Rows
public import Idealize.ShloMosaic.Lib.Pointwise
public import Idealize.ShloMosaic.PureOps.Ideal.Laws

@[expose] public section

set_option maxRecDepth 16384

noncomputable section

namespace Cert.HyprojIdeal.Point

open Cert.HyprojIdeal Cert.HyprojIdeal.Gen Idealize.ShloMosaic Idealize.ShloMosaic.TcCoe Idealize.SL.Sem

/-- The offset of a tile in its sequence, on the tile's number. -/
def offset (w : BitVec 32) : BitVec 32 :=
  let v := Scalar.remsi (Scalar.muli w 1024#32) 8192#32
  Scalar.select (Scalar.andi (Scalar.xori (Scalar.cmpi .slt v 0#32) 0#1) (Scalar.cmpi .ne v 0#32)) (Scalar.addi v 8192#32) v

theorem keep_prev : ∀ t : Fin grid0.N, Scalar.cmpi .sgt (offset (BitVec.ofNat 32 (grid0.coords t 0).val)) 0#32
    = if t.val / 3 % 8 = 0 then 0#1 else 1#1 := by decide +kernel
theorem keep_next : ∀ t : Fin grid0.N,
    Scalar.cmpi .slt (Scalar.addi (offset (BitVec.ofNat 32 (grid0.coords t 0).val)) 1024#32) 8192#32
    = if t.val / 3 % 8 = 7 then 0#1 else 1#1 := by decide +kernel

/-- The rows before the tile, none before a sequence's first tile. -/
theorem pay2_apply (t : Fin grid0.N) (v : Vec Ideal S16x2048 .bf16) (r : Fin 16) (k : Fin 2048) :
    k0_pay2 (F := Ideal) (grid0.coords t) v (ix2 r k) = if t.val / 3 % 8 = 0 then 0 else v (ix2 r k) := by
  have h := keep_prev t
  generalize hz : (Scalar.cmpi .sgt (offset (BitVec.ofNat 32 (grid0.coords t 0).val)) 0#32) = z at h
  have e : k0_pay2 (F := Ideal) (grid0.coords t) v (ix2 r k) = Scalar.select z (v (ix2 r k)) 0 := by
    subst hz
    unfold_payloads
    pointwise
    rfl
  rw [e, h]
  split <;> rfl

/-- The rows after the tile, none after a sequence's last tile. -/
theorem pay4_apply (t : Fin grid0.N) (v : Vec Ideal S16x2048 .bf16) (r : Fin 16) (k : Fin 2048) :
    k0_pay4 (F := Ideal) (grid0.coords t) v (ix2 r k) = if t.val / 3 % 8 = 7 then 0 else v (ix2 r k) := by
  have h := keep_next t
  generalize hz : (Scalar.cmpi .slt (Scalar.addi (offset (BitVec.ofNat 32 (grid0.coords t 0).val)) 1024#32) 8192#32) = z at h
  have e : k0_pay4 (F := Ideal) (grid0.coords t) v (ix2 r k) = Scalar.select z (v (ix2 r k)) 0 := by
    subst hz
    unfold_payloads
    pointwise
    rfl
  rw [e, h]
  split <;> rfl

/-- The tile's own rows. -/
theorem pay3_apply (v : Vec Ideal S1024x2048 .bf16) (r : Fin 1024) (k : Fin 2048) :
    k0_pay3 (F := Ideal) v (ix2 r k) = v (ix2 r k) := by
  unfold_payloads
  pointwise

/-- One filtered entry from the rows held around it. -/
theorem pay_apply (v : Vec Ideal S1056x2048 .bf16) (w : Vec Ideal S2048x1024 .bf16) (c0 c1 c2 b : Vec Ideal S1x1024 .f32)
    (r n : Fin 1024) : k0_pay1 (k0_pay5 v w c0 c1 c2) b (ix2 r n)
      = (∑ x, v (ix2 ⟨15 + r.val, by omega⟩ x) * w (ix2 x n)) * c0 (ix2 0 n)
        + (∑ x, v (ix2 ⟨16 + r.val, by omega⟩ x) * w (ix2 x n)) * c1 (ix2 0 n)
        + (∑ x, v (ix2 ⟨17 + r.val, by omega⟩ x) * w (ix2 x n)) * c2 (ix2 0 n) + b (ix2 0 n) := by
  have e0 : (⟨15 + r.val, by omega⟩ : Fin 1056) = ⟨(16 + r.val + 1056 - 1) % 1056, Nat.mod_lt _ (by decide)⟩ := by
    apply Fin.ext; show 15 + r.val = (16 + r.val + 1056 - 1) % 1056; omega
  have e2 : (⟨17 + r.val, by omega⟩ : Fin 1056) = ⟨(16 + r.val + 1056 - 1055) % 1056, Nat.mod_lt _ (by decide)⟩ := by
    apply Fin.ext; show 17 + r.val = (16 + r.val + 1056 - 1055) % 1056; omega
  rw [e0, e2]
  unfold_payloads
  pointwise

end Cert.HyprojIdeal.Point

end
-- ==== Proof.Hyproj.Blocks.lean ====
module

public import proofs.«01_k».proof.Proof.Hyproj.Cases
public import proofs.«01_k».proof.Proof.Hyproj.Pay
public import Idealize.ShloMosaic.Lib.Pointwise

@[expose] public section

set_option maxRecDepth 16384

noncomputable section

namespace Cert.HyprojIdeal.Point

open Cert.HyprojIdeal Cert.HyprojIdeal.Gen Idealize.ShloMosaic Idealize.ShloMosaic.TcCoe Idealize.SL.Sem

variable (m : (ℓ : Loc nD τ sig) → Buf (Elt Ideal) ℓ)

theorem idx : ∀ t : Fin grid0.N,
    win0_0.index t = ![64 * (t.val / 3) - 1, 0] ∧ win0_1.index t = ![t.val / 3, 0] ∧ win0_2.index t = ![min (64 * (t.val / 3 + 1)) 2047, 0] ∧
    win0_3.index t = ![0, t.val % 3] ∧ win0_4.index t = ![0, t.val % 3] ∧ win0_5.index t = ![0, t.val % 3] ∧
    win0_6.index t = ![t.val / 3, t.val % 3] := by decide +kernel

/-- The row of the array that is held at place `p` for tile `i`. -/
def rowOf (i p : ℕ) : Fin 32768 := Fin.ofNat 32768 (1024 * i + p - 16)
/-- Column `n` of slab `j`. -/
def colOf (j : ℕ) (n : Fin 1024) : Fin 3072 := Fin.ofNat 3072 (1024 * j + n.val)
/-- The column of the input projection that is column `n` of the filtered projection. -/
def wide (n : Fin 3072) : Fin 8192 := ⟨1024 + n.val, by omega⟩

theorem rowOf_val (i p : ℕ) (hi : i < 32) (hp : p < 1040 ∨ (p < 1056 ∧ i < 31)) : (rowOf i p).val = 1024 * i + p - 16 :=
  Nat.mod_eq_of_lt (by omega)
theorem colOf_val (j : ℕ) (hj : j < 3) (n : Fin 1024) : (colOf j n).val = 1024 * j + n.val := by
  have := n.isLt
  exact Nat.mod_eq_of_lt (by omega)
theorem tile_lt (t : Fin cfg0.N) : t.val / 3 < 32 := by
  have := lt_of_lt_of_eq t.isLt (show cfg0.N = 96 from N_0)
  omega
theorem slab_lt (t : Fin cfg0.N) : t.val % 3 < 3 := by omega

theorem blk0 (c : Dev nD) (t : Fin cfg0.N) (hi : t.val / 3 % 8 ≠ 0) (r : Fin 16) (k : Fin 2048) :
    (iblk m c 0 t : Vec Ideal S16x2048 .bf16) (ix2 r k)
      = (m ((c : Thread nD τ).loc main_arg0) : Vec Ideal S32768x2048 .bf16) (ix2 (rowOf (t.val / 3) r.val) k) := by
  have hr := rowOf_val (t.val / 3) r.val (tile_lt t) (by omega)
  blk_ext [iblk, V, idx t, hr]

theorem blk1 (c : Dev nD) (t : Fin cfg0.N) (r : Fin 1024) (k : Fin 2048) :
    (iblk m c 1 t : Vec Ideal S1024x2048 .bf16) (ix2 r k)
      = (m ((c : Thread nD τ).loc main_arg0) : Vec Ideal S32768x2048 .bf16) (ix2 (rowOf (t.val / 3) (16 + r.val)) k) := by
  have hr := rowOf_val (t.val / 3) (16 + r.val) (tile_lt t) (by omega)
  blk_ext [iblk, V, idx t, hr]

theorem blk2 (c : Dev nD) (t : Fin cfg0.N) (hi : t.val / 3 % 8 ≠ 7) (r : Fin 16) (k : Fin 2048) :
    (iblk m c 2 t : Vec Ideal S16x2048 .bf16) (ix2 r k)
      = (m ((c : Thread nD τ).loc main_arg0) : Vec Ideal S32768x2048 .bf16) (ix2 (rowOf (t.val / 3) (1040 + r.val)) k) := by
  have h31 : t.val / 3 < 31 := by have := tile_lt t; omega
  have hr := rowOf_val (t.val / 3) (1040 + r.val) (tile_lt t) (by omega)
  have hm : min (64 * (t.val / 3 + 1)) 2047 = 64 * (t.val / 3 + 1) := by omega
  blk_ext [iblk, V, idx t, hr, hm]

theorem blk3 (c : Dev nD) (t : Fin cfg0.N) (k : Fin 2048) (n : Fin 1024) :
    (iblk m c 3 t : Vec Ideal S2048x1024 .bf16) (ix2 k n)
      = (m ((c : Thread nD τ).loc main_arg1) : Vec Ideal S1x2048x8192 .f32) (ix3 0 k (wide (colOf (t.val % 3) n))) := by
  have hc := colOf_val (t.val % 3) (slab_lt t) n
  have hw : (wide (colOf (t.val % 3) n)).val = 1024 + (colOf (t.val % 3) n).val := rfl
  blk_ext! [iblk, V, idx t, hc, hw]

theorem blk4 (c : Dev nD) (t : Fin cfg0.N) (k : Fin 3) (n : Fin 1024) :
    (iblk m c 4 t : Vec Ideal S3x1024 .f32) (ix2 k n)
      = (m ((c : Thread nD τ).loc main_arg2) : Vec Ideal S1x3x3072 .f32) (ix3 0 k (colOf (t.val % 3) n)) := by
  have hc := colOf_val (t.val % 3) (slab_lt t) n
  blk_ext! [iblk, V, idx t, hc]

theorem blk5 (c : Dev nD) (t : Fin cfg0.N) (n : Fin 1024) :
    (iblk m c 5 t : Vec Ideal S1x1024 .f32) (ix2 0 n)
      = (m ((c : Thread nD τ).loc main_arg3) : Vec Ideal S1x3072 .f32) (ix2 0 (colOf (t.val % 3) n)) := by
  have hc := colOf_val (t.val % 3) (slab_lt t) n
  blk_ext! [iblk, V, idx t, hc]

/-- What is held at place `p` for tile `i`: the row, or zeros outside the sequence. -/
def zrow (c : Dev nD) (i p : ℕ) (k : Fin 2048) : EReal :=
  if (p < 16 ∧ i % 8 = 0) ∨ (1040 ≤ p ∧ i % 8 = 7) then 0
  else (m ((c : Thread nD τ).loc main_arg0) : Vec Ideal S32768x2048 .bf16) (ix2 (rowOf i p) k)

theorem piece_prev (c : Dev nD) (t : Fin cfg0.N) (r : Fin 16) (k : Fin 2048) :
    k0_pay2 (F := Ideal) (grid0.coords t) (iblk m c 0 t) (ix2 r k) = zrow m c (t.val / 3) r.val k := by
  refine (pay2_apply t _ r k).trans ?_
  unfold zrow
  by_cases h : t.val / 3 % 8 = 0
  · rw [if_pos h, if_pos (Or.inl ⟨r.isLt, h⟩)]
  · rw [if_neg h, if_neg (by omega)]
    exact blk0 m c t h r k

theorem piece_own (c : Dev nD) (t : Fin cfg0.N) (r : Fin 1024) (k : Fin 2048) :
    k0_pay3 (F := Ideal) (iblk m c 1 t) (ix2 r k) = zrow m c (t.val / 3) (16 + r.val) k := by
  refine (pay3_apply _ r k).trans ?_
  unfold zrow
  rw [if_neg (by omega)]
  exact blk1 m c t r k

theorem piece_next (c : Dev nD) (t : Fin cfg0.N) (r : Fin 16) (k : Fin 2048) :
    k0_pay4 (F := Ideal) (grid0.coords t) (iblk m c 2 t) (ix2 r k) = zrow m c (t.val / 3) (1040 + r.val) k := by
  refine (pay4_apply t _ r k).trans ?_
  unfold zrow
  by_cases h : t.val / 3 % 8 = 7
  · rw [if_pos h, if_pos (Or.inr ⟨by omega, h⟩)]
  · rw [if_neg h, if_neg (by omega)]
    exact blk2 m c t h r k

/-- What is held for a tile, as one array. -/
def heldRows (c : Dev nD) (t : Fin cfg0.N) (y : S1056x2048.Idx) : EReal := zrow m c (t.val / 3) (y 0).val (y 1)

/-- Three pieces of one array, covering it, are the array. -/
theorem three_pieces (G : S1056x2048.Idx → EReal) (a b : Vec Ideal S16x2048 .bf16) (w : Vec Ideal S1024x2048 .bf16)
    (ha : ∀ x : S16x2048.Idx, a x = G ((Rect.unit (s := S1056x2048) ![1040, 0] ![16, 2048] inb_S1056x2048_S16x2048_1040_0).emb x))
    (hw : ∀ x : S1024x2048.Idx, w x = G ((Rect.unit (s := S1056x2048) ![16, 0] ![1024, 2048] inb_S1056x2048_S1024x2048_16_0).emb x))
    (hb : ∀ x : S16x2048.Idx, b x = G ((Rect.unit (s := S1056x2048) ![0, 0] ![16, 2048] inb_S1056x2048_S16x2048_0_0).emb x))
    (p : Fin 1056) (k : Fin 2048) :
    (View.canon (Val := Elt Ideal) (e := .bf16) [⟨Rect.unit ![1040, 0] ![16, 2048] inb_S1056x2048_S16x2048_1040_0, a⟩,
      ⟨Rect.unit ![16, 0] ![1024, 2048] inb_S1056x2048_S1024x2048_16_0, w⟩,
      ⟨Rect.unit ![0, 0] ![16, 2048] inb_S1056x2048_S16x2048_0_0, b⟩] : Vec Ideal S1056x2048 .bf16) (ix2 p k) = G (ix2 p k) := by
  refine View.canon_apply_of_pieces (Val := Elt Ideal) (e := .bf16) (S := S1056x2048) G _ ?_ (ix2 p k) ?_
  · exact List.forall_mem_cons.mpr ⟨ha, List.forall_mem_cons.mpr ⟨hw, List.forall_mem_cons.mpr ⟨hb, fun q hq => absurd hq List.not_mem_nil⟩⟩⟩
  · have hp := p.isLt
    have hk := k.isLt
    by_cases h1 : p.val < 16
    · refine ⟨_, List.mem_cons_of_mem _ (List.mem_cons_of_mem _ (List.mem_cons_self)), (Rect.mem_set_unit (inb := inb_S1056x2048_S16x2048_0_0)).mpr fun a => ?_⟩
      match a with
      | ⟨0, _⟩ => show 0 ≤ p.val ∧ p.val < 0 + 16; omega
      | ⟨1, _⟩ => show 0 ≤ k.val ∧ k.val < 0 + 2048; omega
    · by_cases h2 : p.val < 1040
      · refine ⟨_, List.mem_cons_of_mem _ (List.mem_cons_self), (Rect.mem_set_unit (inb := inb_S1056x2048_S1024x2048_16_0)).mpr fun a => ?_⟩
        match a with
        | ⟨0, _⟩ => show 16 ≤ p.val ∧ p.val < 16 + 1024; omega
        | ⟨1, _⟩ => show 0 ≤ k.val ∧ k.val < 0 + 2048; omega
      · refine ⟨_, List.mem_cons_self, (Rect.mem_set_unit (inb := inb_S1056x2048_S16x2048_1040_0)).mpr fun a => ?_⟩
        match a with
        | ⟨0, _⟩ => show 1040 ≤ p.val ∧ p.val < 1040 + 16; omega
        | ⟨1, _⟩ => show 0 ≤ k.val ∧ k.val < 0 + 2048; omega

theorem at_prev (c : Dev nD) (t : Fin cfg0.N) (x : S16x2048.Idx) :
    k0_pay2 (F := Ideal) (grid0.coords t) (iblk m c 0 t) x = heldRows m c t ((Rect.unit (s := S1056x2048) ![0, 0] ![16, 2048] inb_S1056x2048_S16x2048_0_0).emb x) := by
  refine ((congrArg (k0_pay2 (F := Ideal) (grid0.coords t) (iblk m c 0 t)) (eq_ix2 x)).trans (piece_prev m c t (x 0) (x 1))).trans ?_
  refine congrArg₂ (zrow m c (t.val / 3)) ?_ (Fin.ext ?_)
  · show (x 0).val = 0 + 1 * (x 0).val; omega
  · show (x 1).val = 0 + 1 * (x 1).val; omega

theorem at_own (c : Dev nD) (t : Fin cfg0.N) (x : S1024x2048.Idx) :
    k0_pay3 (F := Ideal) (iblk m c 1 t) x = heldRows m c t ((Rect.unit (s := S1056x2048) ![16, 0] ![1024, 2048] inb_S1056x2048_S1024x2048_16_0).emb x) := by
  refine ((congrArg (k0_pay3 (F := Ideal) (iblk m c 1 t)) (eq_ix2 x)).trans (piece_own m c t (x 0) (x 1))).trans ?_
  refine congrArg₂ (zrow m c (t.val / 3)) ?_ (Fin.ext ?_)
  · show 16 + (x 0).val = 16 + 1 * (x 0).val; omega
  · show (x 1).val = 0 + 1 * (x 1).val; omega

theorem at_next (c : Dev nD) (t : Fin cfg0.N) (x : S16x2048.Idx) :
    k0_pay4 (F := Ideal) (grid0.coords t) (iblk m c 2 t) x = heldRows m c t ((Rect.unit (s := S1056x2048) ![1040, 0] ![16, 2048] inb_S1056x2048_S16x2048_1040_0).emb x) := by
  refine ((congrArg (k0_pay4 (F := Ideal) (grid0.coords t) (iblk m c 2 t)) (eq_ix2 x)).trans (piece_next m c t (x 0) (x 1))).trans ?_
  refine congrArg₂ (zrow m c (t.val / 3)) ?_ (Fin.ext ?_)
  · show 1040 + (x 0).val = 1040 + 1 * (x 0).val; omega
  · show (x 1).val = 0 + 1 * (x 1).val; omega

/-- The held rows, place by place. -/
theorem held_apply (c : Dev nD) (t : Fin cfg0.N) (p : Fin 1056) (k : Fin 2048) :
    held m c t (ix2 p k) = zrow m c (t.val / 3) p.val k :=
  three_pieces (heldRows m c t) _ _ _ (at_next m c t) (at_own m c t) (at_prev m c t) p k

end Cert.HyprojIdeal.Point

end
-- ==== Proof.Hyproj.Result.lean ====
module

public import proofs.«01_k».proof.Proof.Hyproj.Cases
public import proofs.«01_k».proof.Proof.Hyproj.Pay
public import proofs.«01_k».proof.Proof.Hyproj.Blocks
public import proofs.«01_k».proof.Proof.Rows
public import Idealize.ShloMosaic.Lib.Pipeline.ValueKit

@[expose] public section

set_option maxRecDepth 16384

noncomputable section

namespace Cert.HyprojIdeal.Point

open Cert.HyprojIdeal Cert.HyprojIdeal.Gen Idealize.ShloMosaic Idealize.ShloMosaic.TcCoe Idealize.SL.Sem

variable (m : (ℓ : Loc nD τ sig) → Buf (Elt Ideal) ℓ)

/-- Row `i` of the input, as launched. -/
def H (c : Dev nD) (i : Fin 32768) (k : Fin 2048) : EReal :=
  (m ((c : Thread nD τ).loc main_arg0) : Vec Ideal S32768x2048 .bf16) (ix2 i k)
/-- The projection's weights. -/
def W (c : Dev nD) (k : Fin 2048) (n : Fin 3072) : EReal :=
  (m ((c : Thread nD τ).loc main_arg1) : Vec Ideal S1x2048x8192 .f32) (ix3 0 k (wide n))
/-- The filter's taps. -/
def T (c : Dev nD) (k : Fin 3) (n : Fin 3072) : EReal :=
  (m ((c : Thread nD τ).loc main_arg2) : Vec Ideal S1x3x3072 .f32) (ix3 0 k n)
/-- The filter's bias. -/
def Bias (c : Dev nD) (n : Fin 3072) : EReal := (m ((c : Thread nD τ).loc main_arg3) : Vec Ideal S1x3072 .f32) (ix2 0 n)
/-- The projection of row `i`, at column `n`. -/
def U (c : Dev nD) (i : Fin 32768) (n : Fin 3072) : EReal := ∑ k, H m c i k * W m c k n
/-- The filtered projection of row `i`, at column `n`. -/
def out (c : Dev nD) (i : Fin 32768) (n : Fin 3072) : EReal :=
  Cert.Rows.filter3 (fun i => U m c i n) (fun k => T m c k n) (Bias m c n) i

theorem sum_zrow (c : Dev nD) (i p : ℕ) (n : Fin 3072) :
    ∑ k, zrow m c i p k * W m c k n
      = if (p < 16 ∧ i % 8 = 0) ∨ (1040 ≤ p ∧ i % 8 = 7) then 0 else U m c (rowOf i p) n := by
  unfold zrow U
  split
  · simp
  · rfl

theorem blk3' (c : Dev nD) (t : Fin cfg0.N) (k : Fin 2048) (n : Fin 1024) :
    (iblk m c 3 t : Vec Ideal S2048x1024 .bf16) (ix2 k n) = W m c k (colOf (t.val % 3) n) := blk3 m c t k n

theorem tap0 (c : Dev nD) (t : Fin cfg0.N) (n : Fin 1024) :
    (View.ld (iblk m c 4 t : Vec Ideal S3x1024 .f32) (Rect.unit ![0, 0] ![1, 1024] inb_S3x1024_S1x1024_0_0) : Vec Ideal S1x1024 .f32) (ix2 0 n)
      = T m c 0 (colOf (t.val % 3) n) :=
  Eq.trans (b := (iblk m c 4 t : Vec Ideal S3x1024 .f32) (ix2 0 n)) (by pointwise) (blk4 m c t 0 n)
theorem tap1 (c : Dev nD) (t : Fin cfg0.N) (n : Fin 1024) :
    (View.ld (iblk m c 4 t : Vec Ideal S3x1024 .f32) (Rect.unit ![1, 0] ![1, 1024] inb_S3x1024_S1x1024_1_0) : Vec Ideal S1x1024 .f32) (ix2 0 n)
      = T m c 1 (colOf (t.val % 3) n) :=
  Eq.trans (b := (iblk m c 4 t : Vec Ideal S3x1024 .f32) (ix2 1 n)) (by pointwise) (blk4 m c t 1 n)
theorem tap2 (c : Dev nD) (t : Fin cfg0.N) (n : Fin 1024) :
    (View.ld (iblk m c 4 t : Vec Ideal S3x1024 .f32) (Rect.unit ![2, 0] ![1, 1024] inb_S3x1024_S1x1024_2_0) : Vec Ideal S1x1024 .f32) (ix2 0 n)
      = T m c 2 (colOf (t.val % 3) n) :=
  Eq.trans (b := (iblk m c 4 t : Vec Ideal S3x1024 .f32) (ix2 2 n)) (by pointwise) (blk4 m c t 2 n)

/-- The output block at one entry, the held rows being those of the tile. -/
theorem filtered_apply (c : Dev nD) (t : Fin cfg0.N) (h : Vec Ideal S1056x2048 .bf16)
    (hh : ∀ p k, h (ix2 p k) = zrow m c (t.val / 3) p.val k) (r n : Fin 1024) :
    filtered m c t h (ix2 r n) = out m c (rowOf (t.val / 3) (16 + r.val)) (colOf (t.val % 3) n) := by
  have ht := tile_lt t
  have hr := r.isLt
  refine (pay_apply h _ _ _ _ _ r n).trans ?_
  refine (congrArg₂ (· + ·) (congrArg₂ (· + ·) (congrArg₂ (· + ·) (congrArg (_ * ·) (tap0 m c t n)) (congrArg (_ * ·) (tap1 m c t n)))
    (congrArg (_ * ·) (tap2 m c t n))) (blk5 m c t n)).trans ?_
  simp only [hh, blk3', sum_zrow]
  unfold out Cert.Rows.filter3
  have v : (rowOf (t.val / 3) (16 + r.val)).val = 1024 * (t.val / 3) + (16 + r.val) - 16 := rowOf_val _ _ ht (by omega)
  rw [v, if_neg (show ¬ (((16 + r.val) < 16 ∧ t.val / 3 % 8 = 0) ∨ (1040 ≤ 16 + r.val ∧ t.val / 3 % 8 = 7)) by omega)]
  congr 1
  congr 1
  · congr 1
    congr 1
    by_cases hz : 15 + r.val < 16 ∧ t.val / 3 % 8 = 0
    · rw [if_pos (Or.inl hz), if_pos (by omega)]
    · rw [if_neg (by omega), if_neg (by omega)]
      refine congrArg (U m c · _) (Fin.ext ?_)
      rw [rowOf_val _ _ ht (by omega)]
      show _ = (1024 * (t.val / 3) + (16 + r.val) - 16 - 1) % 32768
      omega
  · congr 1
    by_cases hz : 1040 ≤ 17 + r.val ∧ t.val / 3 % 8 = 7
    · rw [if_pos (Or.inr hz), if_pos (by omega)]
    · rw [if_neg (by omega), if_neg (by omega)]
      refine congrArg (U m c · _) (Fin.ext ?_)
      rw [rowOf_val _ _ ht (by omega)]
      show _ = (1024 * (t.val / 3) + (16 + r.val) - 16 + 1) % 32768
      omega

theorem fst_A (c : Dev nD) (t : Fin cfg0.N) (h0 : t.val % 3 = 0) :
    (outsAt0 m c t.val t.isLt).1 = filtered m c t (held m c t) := by rw [after_A m c t h0]
theorem snd_A (c : Dev nD) (t : Fin cfg0.N) (h0 : t.val % 3 = 0) :
    (outsAt0 m c t.val t.isLt).2 = held m c t := by rw [after_A m c t h0]
theorem fst_B (c : Dev nD) (t : Fin cfg0.N) (h0 : ¬t.val % 3 = 0) : (outsAt0 m c t.val t.isLt).1
    = filtered m c t (outsAt0 m c (t.val - 1) (Nat.lt_of_le_of_lt (Nat.sub_le _ _) t.isLt)).2 := by
  rw [after_B m c t h0 _ rfl]
theorem snd_B (c : Dev nD) (t : Fin cfg0.N) (h0 : ¬t.val % 3 = 0) : (outsAt0 m c t.val t.isLt).2
    = (outsAt0 m c (t.val - 1) (Nat.lt_of_le_of_lt (Nat.sub_le _ _) t.isLt)).2 := by
  rw [after_B m c t h0 _ rfl]

/-- The rows held after a point are those of its tile. -/
theorem held_eq (c : Dev nD) (n : ℕ) : ∀ t : Fin cfg0.N, t.val = n → ∀ p k,
    (outsAt0 m c t.val t.isLt).2 (ix2 p k) = zrow m c (t.val / 3) p.val k := by
  induction n with
  | zero =>
    intro t ht p k
    rw [snd_A m c t (by omega)]
    exact held_apply m c t p k
  | succ n ih =>
    intro t ht p k
    by_cases h0 : t.val % 3 = 0
    · rw [snd_A m c t h0]
      exact held_apply m c t p k
    · rw [snd_B m c t h0]
      refine (ih ⟨t.val - 1, Nat.lt_of_le_of_lt (Nat.sub_le _ _) t.isLt⟩ (by show t.val - 1 = n; omega) p k).trans ?_
      show zrow m c ((t.val - 1) / 3) p.val k = _
      rw [show (t.val - 1) / 3 = t.val / 3 by omega]

/-- The output block after a point. -/
theorem after_eq (c : Dev nD) (t : Fin cfg0.N) (r : Fin 1024) (e : Fin 1024) : (outsAt0 m c t.val t.isLt).1 (ix2 r e)
    = out m c (rowOf (t.val / 3) (16 + r.val)) (colOf (t.val % 3) e) := by
  by_cases h0 : t.val % 3 = 0
  · rw [fst_A m c t h0]
    exact filtered_apply m c t _ (held_apply m c t) r e
  · rw [fst_B m c t h0, ← snd_B m c t h0]
    exact filtered_apply m c t _ (held_eq m c t.val t rfl) r e

/-- The array after the run. -/
theorem final (c : Dev nD) : (dats m 0 c).arrAt 6 cfg0.N
    = (fun i => out m c (i 0) (i 1) : Vec Ideal S32768x3072 .f32) := by
  refine (dats m 0 c).arrAt_eq_of_covers 6 _ (by decide +kernel) fun t hf y => ?_
  blk_simp
  rw [after0_6]
  have hy : (y 0 : Fin 1024).val < 1024 := (y 0 : Fin 1024).isLt
  have hr := rowOf_val (t.val / 3) (16 + (y 0 : Fin 1024).val) (tile_lt t) (by omega)
  have hc := colOf_val (t.val % 3) (slab_lt t) (y 1)
  have h0 : (win0_6.blk t).view.emb y 0 = rowOf (t.val / 3) (16 + (y 0 : Fin 1024).val) := by
    apply Fin.ext
    rw [hr]
    blk_simp [idx t]
    omega
  have h1 : (win0_6.blk t).view.emb y 1 = colOf (t.val % 3) (y 1) := by
    apply Fin.ext
    rw [hc]
    blk_simp [idx t]
    omega
  rw [h0, h1]
  exact (congrArg (outsAt0 m c t.val t.isLt).1 (eq_ix2 (n0 := 1024) (n1 := 1024) y)).trans (after_eq m c t (y 0) (y 1))

end Cert.HyprojIdeal.Point

end
-- ==== Proof.Hyproj.Ref.lean ====
module

public import proofs.«01_k».proof.Proof.Gen.HyprojRefIdeal.Read
public import proofs.«01_k».proof.Proof.Rows
public import Idealize.ShloMosaic.Lib.Pointwise

@[expose] public section

set_option maxRecDepth 16384

noncomputable section

namespace Cert.HyprojRefIdeal.Point

open Cert.HyprojRefIdeal Cert.HyprojRefIdeal.Gen Cert.HyprojRefIdeal.Read Idealize.ShloMosaic Idealize.ShloMosaic.TcCoe Idealize.SL.Sem
open Cert.Rows

variable (x0 : Vec Ideal S32768x2048 .bf16) (x1 : Vec Ideal S1x2048x8192 .f32) (x2 : Vec Ideal S1x3x3072 .f32) (x3 : Vec Ideal S1x3072 .f32)

/-- The projection of a row. -/
def U (i : Fin 32768) (n : Fin 3072) : EReal := ∑ k, x0 (ix2 i k) * x1 (ix3 0 k ⟨1024 + n.val, by omega⟩)

theorem proj (b : Fin 4) (s : Fin 8192) (n : Fin 3072) : val_main_v4 (F := Ideal) x0 x1 (ix3 b s n)
    = U x0 x1 ⟨b.val * 8192 + s.val, by omega⟩ n := by
  unfold val_main_v4 val_main_v3 val_main_v2 val_main_v1 val_main_v0
  pointwise
  rfl

/-- The projection, a row of zeros before each sequence and one after. -/
theorem padded (b : Fin 4) (s : Fin 8194) (n : Fin 3072) : val_main_v7 (F := Ideal) x0 x1 (ix3 b s n)
    = if h : 1 ≤ s.val ∧ s.val - 1 < 8192 then U x0 x1 ⟨b.val * 8192 + (s.val - 1), by omega⟩ n else 0 := by
  have e : val_main_v7 (F := Ideal) x0 x1 (ix3 b s n)
      = if h : 1 ≤ s.val ∧ s.val - 1 < 8192 then val_main_v4 (F := Ideal) x0 x1 (ix3 b ⟨s.val - 1, h.2⟩ n)
        else FloatOps.sitofp (F := Ideal) FTy.f32 (val_main_c (F := Ideal) (Shape.Idx.first h_S_)) := by
    unfold val_main_v7 val_main_call0_v0
    generalize val_main_v4 (F := Ideal) x0 x1 = y
    pointwise
  rw [e]
  split
  · exact proj x0 x1 b _ n
  · show (((0#32 : BitVec 32).toInt : ℝ) : EReal) = 0
    norm_num

/-- The filter over the padded projection. -/
theorem filtered (b : Fin 4) (s : Fin 8192) (n : Fin 3072) : val_main_v30 (F := Ideal) x0 x1 x2 x3 (ix3 b s n)
    = val_main_v7 (F := Ideal) x0 x1 (ix3 b ⟨s.val, by omega⟩ n) * x2 (ix3 0 0 n)
      + val_main_v7 (F := Ideal) x0 x1 (ix3 b ⟨1 + s.val, by omega⟩ n) * x2 (ix3 0 1 n)
      + val_main_v7 (F := Ideal) x0 x1 (ix3 b ⟨2 + s.val, by omega⟩ n) * x2 (ix3 0 2 n) + x3 (ix2 0 n) := by
  unfold val_main_v30 val_main_v29 val_main_v28 val_main_v27 val_main_v26 val_main_v25 val_main_v24 val_main_v23 val_main_v22
    val_main_v21 val_main_v20 val_main_v19 val_main_v18 val_main_v17 val_main_v16 val_main_v15 val_main_v14 val_main_v13
    val_main_v12 val_main_v11 val_main_v10 val_main_v9 val_main_v8 val_main_v6 val_main_v5
  generalize val_main_v7 (F := Ideal) x0 x1 = y
  pointwise

theorem rows (i : Fin 32768) (n : Fin 3072) : val_main_v31 (F := Ideal) x0 x1 x2 x3 (ix2 i n)
    = val_main_v30 (F := Ideal) x0 x1 x2 x3 (ix3 ⟨i.val / 8192, by omega⟩ ⟨i.val % 8192, by omega⟩ n) := by
  unfold val_main_v31
  generalize val_main_v30 (F := Ideal) x0 x1 x2 x3 = y
  pointwise

/-- The reference at row `i`, column `n`. -/
theorem result (i : Fin 32768) (n : Fin 3072) : val_main_v31 (F := Ideal) x0 x1 x2 x3 (ix2 i n)
    = Cert.Rows.filter3 (U x0 x1 · n) (fun k => x2 (ix3 0 k n)) (x3 (ix2 0 n)) i := by
  have hi := i.isLt
  rw [rows, filtered, padded, padded, padded]
  unfold Cert.Rows.filter3
  rw [dif_pos (show 1 ≤ 1 + i.val % 8192 ∧ 1 + i.val % 8192 - 1 < 8192 by omega)]
  congr 1
  congr 1
  · congr 1
    · congr 1
      by_cases h : i.val % 8192 = 0
      · rw [if_pos h, dif_neg (by show ¬ (1 ≤ i.val % 8192 ∧ i.val % 8192 - 1 < 8192); omega)]
      · rw [if_neg h, dif_pos (by show 1 ≤ i.val % 8192 ∧ i.val % 8192 - 1 < 8192; omega)]
        refine congrArg (U x0 x1 · n) (Fin.ext ?_)
        show i.val / 8192 * 8192 + (i.val % 8192 - 1) = (i.val - 1) % 32768
        omega
    · congr 1
      refine congrArg (U x0 x1 · n) (Fin.ext ?_)
      show i.val / 8192 * 8192 + (1 + i.val % 8192 - 1) = i.val
      omega
  · congr 1
    by_cases h : i.val % 8192 = 8191
    · rw [if_pos h, dif_neg (by show ¬ (1 ≤ 2 + i.val % 8192 ∧ 2 + i.val % 8192 - 1 < 8192); omega)]
    · rw [if_neg h, dif_pos (by show 1 ≤ 2 + i.val % 8192 ∧ 2 + i.val % 8192 - 1 < 8192; omega)]
      refine congrArg (U x0 x1 · n) (Fin.ext ?_)
      show i.val / 8192 * 8192 + (2 + i.val % 8192 - 1) = (i.val + 1) % 32768
      omega

end Cert.HyprojRefIdeal.Point

end
-- ==== Proof.Pool.Cases.lean ====
module

public import proofs.«01_k».proof.Proof.Gen.PoolIdeal.Frame
public import Idealize.ShloMosaic.Lib.Pipeline.ValueKit
public import Idealize.ShloMosaic.Lib.Pipeline.ReadBack

@[expose] public section

set_option maxRecDepth 16384

noncomputable section

namespace Cert.PoolIdeal.Point

open Cert.PoolIdeal Cert.PoolIdeal.Gen Idealize.ShloMosaic Idealize.ShloMosaic.TcCoe Idealize.SL.Sem

variable {F : FTy → Type} [FloatOps F]
variable (m : (ℓ : Loc nD τ sig) → Buf (Elt F) ℓ)

/-- The position in its sequence of a tile's first row. -/
def first (t : Fin cfg0.N) : BitVec 32 :=
  let s : BitVec 32 := Scalar.remsi (Scalar.muli (BitVec.ofNat 32 (grid0.coords t 0).val) 1024#32) 8192#32
  Scalar.select (Scalar.andi (Scalar.xori (Scalar.cmpi .slt s 0#32) 0#1) (Scalar.cmpi .ne s 0#32)) (Scalar.addi s 8192#32) s

/-- The rows held for a tile: the tile's own between the last rows of the tile before and the first of the tile after. -/
def held (c : Dev nD) (t : Fin cfg0.N) : Vec F S1056x2048 .bf16 :=
  View.canon [⟨Rect.unit ![1040, 0] ![16, 2048] inb_S1056x2048_S16x2048_1040_0,
      k0_pay32 (k0_pay31 (Scalar.cmpi .slt (Scalar.addi (first t) 1024#32) 8192#32) (iblk m c 2 t) (iblk m c 3 t))⟩,
    ⟨Rect.unit ![16, 0] ![1024, 2048] inb_S1056x2048_S1024x2048_16_0, k0_pay30 (iblk m c 1 t) (iblk m c 3 t)⟩,
    ⟨Rect.unit ![0, 0] ![16, 2048] inb_S1056x2048_S16x2048_0_0, k0_pay29 (k0_pay28 (grid0.coords t) (iblk m c 0 t) (iblk m c 3 t))⟩]

/-- The weights that pick the window of a row out of the rows around it: one where the offset lies in the window, else zero. -/
def blade (o r n d : BitVec 32) : FVec F S1x1x256x512 .bf16 :=
  let x : IVec S256x512 32 := subi (addi (iota .tc S256x512 32 [1] iota_S256x512_d1_w32) (broadcast S256x512 o))
    (addi (iota .tc S256x512 32 [0] iota_S256x512_d0_w32) (broadcast S256x512 r))
  shapeCast S1x1x256x512 (truncf .bf16 (select (andi (cmpi .sge x (broadcast S256x512 n)) (cmpi .slt x (broadcast S256x512 d)))
    (broadcast S256x512 (Scalar.ofBits .f32 0x3F800000#32 : F .f32)) (broadcast S256x512 (Scalar.ofBits .f32 0x00000000#32 : F .f32))) bitsLt_bf16_f32)
    shapeCasts_S256x512_S1x1x256x512

/-- The sixteen sets of weights: four windows, four strips of rows each. -/
def weights : Vec F S4x4x256x512 .bf16 :=
  View.canon [
    ⟨Rect.unit ![3, 3, 0, 0] ![1, 1, 256, 512] inb_S4x4x256x512_S1x1x256x512_3_3_0_0, blade 528#32 768#32 4294967288#32 8#32⟩,
    ⟨Rect.unit ![3, 2, 0, 0] ![1, 1, 256, 512] inb_S4x4x256x512_S1x1x256x512_3_2_0_0, blade 496#32 512#32 4294967288#32 8#32⟩,
    ⟨Rect.unit ![3, 1, 0, 0] ![1, 1, 256, 512] inb_S4x4x256x512_S1x1x256x512_3_1_0_0, blade 240#32 256#32 4294967288#32 8#32⟩,
    ⟨Rect.unit ![3, 0, 0, 0] ![1, 1, 256, 512] inb_S4x4x256x512_S1x1x256x512_3_0_0_0, blade 4294967280#32 0#32 4294967288#32 8#32⟩,
    ⟨Rect.unit ![2, 3, 0, 0] ![1, 1, 256, 512] inb_S4x4x256x512_S1x1x256x512_2_3_0_0, blade 528#32 768#32 4294967292#32 4#32⟩,
    ⟨Rect.unit ![2, 2, 0, 0] ![1, 1, 256, 512] inb_S4x4x256x512_S1x1x256x512_2_2_0_0, blade 496#32 512#32 4294967292#32 4#32⟩,
    ⟨Rect.unit ![2, 1, 0, 0] ![1, 1, 256, 512] inb_S4x4x256x512_S1x1x256x512_2_1_0_0, blade 240#32 256#32 4294967292#32 4#32⟩,
    ⟨Rect.unit ![2, 0, 0, 0] ![1, 1, 256, 512] inb_S4x4x256x512_S1x1x256x512_2_0_0_0, blade 4294967280#32 0#32 4294967292#32 4#32⟩,
    ⟨Rect.unit ![1, 3, 0, 0] ![1, 1, 256, 512] inb_S4x4x256x512_S1x1x256x512_1_3_0_0, blade 528#32 768#32 4294967294#32 2#32⟩,
    ⟨Rect.unit ![1, 2, 0, 0] ![1, 1, 256, 512] inb_S4x4x256x512_S1x1x256x512_1_2_0_0, blade 496#32 512#32 4294967294#32 2#32⟩,
    ⟨Rect.unit ![1, 1, 0, 0] ![1, 1, 256, 512] inb_S4x4x256x512_S1x1x256x512_1_1_0_0, blade 240#32 256#32 4294967294#32 2#32⟩,
    ⟨Rect.unit ![1, 0, 0, 0] ![1, 1, 256, 512] inb_S4x4x256x512_S1x1x256x512_1_0_0_0, blade 4294967280#32 0#32 4294967294#32 2#32⟩,
    ⟨Rect.unit ![0, 3, 0, 0] ![1, 1, 256, 512] inb_S4x4x256x512_S1x1x256x512_0_3_0_0, blade 528#32 768#32 4294967295#32 1#32⟩,
    ⟨Rect.unit ![0, 2, 0, 0] ![1, 1, 256, 512] inb_S4x4x256x512_S1x1x256x512_0_2_0_0, blade 496#32 512#32 4294967295#32 1#32⟩,
    ⟨Rect.unit ![0, 1, 0, 0] ![1, 1, 256, 512] inb_S4x4x256x512_S1x1x256x512_0_1_0_0, blade 240#32 256#32 4294967295#32 1#32⟩,
    ⟨Rect.unit ![0, 0, 0, 0] ![1, 1, 256, 512] inb_S4x4x256x512_S1x1x256x512_0_0_0_0, blade 4294967280#32 0#32 4294967295#32 1#32⟩]

/-- The weighted sum of one strip: the weights against the high parts, and against what the high parts leave. -/
def strip (r g : ℕ) (h : S1056x1024.Slices ![r, g] S512x256) (hi lo : FVec F S1056x1024 .bf16) (b : Vec F S1x1x256x512 .bf16) : FVec F S256x256 .f32 :=
  addf (matmul dot_S256x512_S512x256_S256x256_1_0_0_1_n_n none (shapeCast S256x512 b shapeCasts_S1x1x256x512_S256x512)
      (extractStridedSlice S512x256 ![r, g] hi h) (constant S256x256 .f32 0x00000000#32))
    (matmul dot_S256x512_S512x256_S256x256_1_0_0_1_n_n none (shapeCast S256x512 b shapeCasts_S1x1x256x512_S256x512)
      (extractStridedSlice S512x256 ![r, g] lo h) (constant S256x256 .f32 0x00000000#32))

/-- How many rows the window of each row holds. -/
def counts (d : BitVec 32) (x : IVec S1024x1 32) : FVec F S1024x1 .f32 :=
  sitofp .f32 (subi (minsi (addi x (broadcast S1024x1 d)) (broadcast S1024x1 8192#32))
    (maxsi (subi x (broadcast S1024x1 d)) (broadcast S1024x1 0#32)))

/-- One window's columns of the output: the centred means less the rows, through that window's matrix, scaled. -/
def slab (g : ℕ) (d : BitVec 32) (h0 : S1056x1024.Slices ![0, g] S512x256) (h1 : S1056x1024.Slices ![256, g] S512x256)
    (h2 : S1056x1024.Slices ![512, g] S512x256) (h3 : S1056x1024.Slices ![544, g] S512x256) (hm : S1056x1024.Slices ![16, g] S1024x256)
    (p : FVec F S1056x1024 .f32) (hi lo : FVec F S1056x1024 .bf16) (x : IVec S1024x1 32) (b0 b1 b2 b3 : Vec F S1x1x256x512 .bf16)
    (w : Vec F S1x256x256 .bf16) (s : Vec F S1x256 .f32) : FVec F S1024x256 .bf16 :=
  truncf .bf16 (mulf
    (matmul dot_S1024x256_S256x256_S1024x256_1_0_0_1_n_n none
      (truncf .bf16 (subf
        (divf (concatenate S1024x256 0 [⟨S256x256, strip 0 g h0 hi lo b0⟩, ⟨S256x256, strip 256 g h1 hi lo b1⟩, ⟨S256x256, strip 512 g h2 hi lo b2⟩, ⟨S256x256, strip 544 g h3 hi lo b3⟩] concatenates_S256x256_S256x256_S256x256_S256x256_S1024x256_d0)
          (broadcastTo S1024x256 (counts d x) broadcasts_S1024x1_S1024x256))
        (extractStridedSlice S1024x256 ![16, g] p hm)) bitsLt_bf16_f32)
      (shapeCast S256x256 w shapeCasts_S1x256x256_S256x256) (constant S1024x256 .f32 0x00000000#32))
    (broadcastTo S1024x256 (shapeCast S1x256 s shapeCasts_S1x256_S1x256) broadcasts_S1x256_S1024x256)) bitsLt_bf16_f32

/-- The output block from the held rows and the weights. -/
def pooled (c : Dev nD) (t : Fin cfg0.N) (h : Vec F S1056x2048 .bf16) (b : Vec F S4x4x256x512 .bf16) : Vec F S1024x1024 .bf16 :=
  View.canon [
    ⟨Rect.unit ![0, 768] ![1024, 256] inb_S1024x1024_S1024x256_0_768,
      slab 768 8#32 slices_S1056x1024_o0_768_S512x256 slices_S1056x1024_o256_768_S512x256 slices_S1056x1024_o512_768_S512x256 slices_S1056x1024_o544_768_S512x256 slices_S1056x1024_o16_768_S1024x256
        (k0_pay33 h (iblk m c 4 t)) (k0_pay34 h (iblk m c 4 t)) (k0_pay35 h (iblk m c 4 t)) (k0_pay36 (first t))
        (View.ld b (Rect.unit ![3, 0, 0, 0] ![1, 1, 256, 512] inb_S4x4x256x512_S1x1x256x512_3_0_0_0)) (View.ld b (Rect.unit ![3, 1, 0, 0] ![1, 1, 256, 512] inb_S4x4x256x512_S1x1x256x512_3_1_0_0)) (View.ld b (Rect.unit ![3, 2, 0, 0] ![1, 1, 256, 512] inb_S4x4x256x512_S1x1x256x512_3_2_0_0)) (View.ld b (Rect.unit ![3, 3, 0, 0] ![1, 1, 256, 512] inb_S4x4x256x512_S1x1x256x512_3_3_0_0))
        (View.ld (iblk m c 5 t) (Rect.unit ![3, 0, 0] ![1, 256, 256] inb_S4x256x256_S1x256x256_3_0_0))
        (View.ld (iblk m c 6 t) (Rect.unit ![0, 768] ![1, 256] inb_S1x1024_S1x256_0_768))⟩,
    ⟨Rect.unit ![0, 512] ![1024, 256] inb_S1024x1024_S1024x256_0_512,
      slab 512 4#32 slices_S1056x1024_o0_512_S512x256 slices_S1056x1024_o256_512_S512x256 slices_S1056x1024_o512_512_S512x256 slices_S1056x1024_o544_512_S512x256 slices_S1056x1024_o16_512_S1024x256
        (k0_pay33 h (iblk m c 4 t)) (k0_pay34 h (iblk m c 4 t)) (k0_pay35 h (iblk m c 4 t)) (k0_pay36 (first t))
        (View.ld b (Rect.unit ![2, 0, 0, 0] ![1, 1, 256, 512] inb_S4x4x256x512_S1x1x256x512_2_0_0_0)) (View.ld b (Rect.unit ![2, 1, 0, 0] ![1, 1, 256, 512] inb_S4x4x256x512_S1x1x256x512_2_1_0_0)) (View.ld b (Rect.unit ![2, 2, 0, 0] ![1, 1, 256, 512] inb_S4x4x256x512_S1x1x256x512_2_2_0_0)) (View.ld b (Rect.unit ![2, 3, 0, 0] ![1, 1, 256, 512] inb_S4x4x256x512_S1x1x256x512_2_3_0_0))
        (View.ld (iblk m c 5 t) (Rect.unit ![2, 0, 0] ![1, 256, 256] inb_S4x256x256_S1x256x256_2_0_0))
        (View.ld (iblk m c 6 t) (Rect.unit ![0, 512] ![1, 256] inb_S1x1024_S1x256_0_512))⟩,
    ⟨Rect.unit ![0, 256] ![1024, 256] inb_S1024x1024_S1024x256_0_256,
      slab 256 2#32 slices_S1056x1024_o0_256_S512x256 slices_S1056x1024_o256_256_S512x256 slices_S1056x1024_o512_256_S512x256 slices_S1056x1024_o544_256_S512x256 slices_S1056x1024_o16_256_S1024x256
        (k0_pay33 h (iblk m c 4 t)) (k0_pay34 h (iblk m c 4 t)) (k0_pay35 h (iblk m c 4 t)) (k0_pay36 (first t))
        (View.ld b (Rect.unit ![1, 0, 0, 0] ![1, 1, 256, 512] inb_S4x4x256x512_S1x1x256x512_1_0_0_0)) (View.ld b (Rect.unit ![1, 1, 0, 0] ![1, 1, 256, 512] inb_S4x4x256x512_S1x1x256x512_1_1_0_0)) (View.ld b (Rect.unit ![1, 2, 0, 0] ![1, 1, 256, 512] inb_S4x4x256x512_S1x1x256x512_1_2_0_0)) (View.ld b (Rect.unit ![1, 3, 0, 0] ![1, 1, 256, 512] inb_S4x4x256x512_S1x1x256x512_1_3_0_0))
        (View.ld (iblk m c 5 t) (Rect.unit ![1, 0, 0] ![1, 256, 256] inb_S4x256x256_S1x256x256_1_0_0))
        (View.ld (iblk m c 6 t) (Rect.unit ![0, 256] ![1, 256] inb_S1x1024_S1x256_0_256))⟩,
    ⟨Rect.unit ![0, 0] ![1024, 256] inb_S1024x1024_S1024x256_0_0,
      slab 0 1#32 slices_S1056x1024_o0_0_S512x256 slices_S1056x1024_o256_0_S512x256 slices_S1056x1024_o512_0_S512x256 slices_S1056x1024_o544_0_S512x256 slices_S1056x1024_o16_0_S1024x256
        (k0_pay33 h (iblk m c 4 t)) (k0_pay34 h (iblk m c 4 t)) (k0_pay35 h (iblk m c 4 t)) (k0_pay36 (first t))
        (View.ld b (Rect.unit ![0, 0, 0, 0] ![1, 1, 256, 512] inb_S4x4x256x512_S1x1x256x512_0_0_0_0)) (View.ld b (Rect.unit ![0, 1, 0, 0] ![1, 1, 256, 512] inb_S4x4x256x512_S1x1x256x512_0_1_0_0)) (View.ld b (Rect.unit ![0, 2, 0, 0] ![1, 1, 256, 512] inb_S4x4x256x512_S1x1x256x512_0_2_0_0)) (View.ld b (Rect.unit ![0, 3, 0, 0] ![1, 1, 256, 512] inb_S4x4x256x512_S1x1x256x512_0_3_0_0))
        (View.ld (iblk m c 5 t) (Rect.unit ![0, 0, 0] ![1, 256, 256] inb_S4x256x256_S1x256x256_0_0_0))
        (View.ld (iblk m c 6 t) (Rect.unit ![0, 0] ![1, 256] inb_S1x1024_S1x256_0_0))⟩]

/-- The tile's own rows of the held ones. -/
def own (h : Vec F S1056x2048 .bf16) : Vec F S1024x2048 .bf16 :=
  View.ld h (Rect.unit ![16, 0] ![1024, 2048] inb_S1056x2048_S1024x2048_16_0)

section

variable (h : Vec F S1056x2048 .bf16) (w : Vec F S2048x1024 .bf16) (x : BitVec 32) (b0 b1 b2 b3 : Vec F S1x1x256x512 .bf16)
  (v : Vec F S1x256x256 .bf16) (s : Vec F S1x256 .f32)

theorem slab_0 : k0_pay40 (k0_pay33 h w) (k0_pay39 (k0_pay34 h w) (k0_pay35 h w) (k0_pay36 x) (k0_pay37 h w b0 b0) (k0_pay38 h w b1) b1 b2 b2 b3 b3) v s
    = slab 0 1#32 slices_S1056x1024_o0_0_S512x256 slices_S1056x1024_o256_0_S512x256 slices_S1056x1024_o512_0_S512x256 slices_S1056x1024_o544_0_S512x256 slices_S1056x1024_o16_0_S1024x256 (k0_pay33 h w) (k0_pay34 h w) (k0_pay35 h w) (k0_pay36 x) b0 b1 b2 b3 v s := rfl

theorem slab_1 : k0_pay44 (k0_pay43 (k0_pay33 h w) (k0_pay34 h w) (k0_pay35 h w) (k0_pay36 x) (k0_pay41 (k0_pay34 h w) (k0_pay35 h w) b0 b0) (k0_pay42 (k0_pay34 h w) (k0_pay35 h w) b1 b1) b2 b2 b3 b3) v s
    = slab 256 2#32 slices_S1056x1024_o0_256_S512x256 slices_S1056x1024_o256_256_S512x256 slices_S1056x1024_o512_256_S512x256 slices_S1056x1024_o544_256_S512x256 slices_S1056x1024_o16_256_S1024x256 (k0_pay33 h w) (k0_pay34 h w) (k0_pay35 h w) (k0_pay36 x) b0 b1 b2 b3 v s := rfl

theorem slab_2 : k0_pay50 (k0_pay49 (k0_pay33 h w) (k0_pay34 h w) (k0_pay35 h w) (k0_pay36 x) (k0_pay45 (k0_pay34 h w) (k0_pay35 h w) b0 b0) (k0_pay46 (k0_pay34 h w) (k0_pay35 h w) b1 b1) (k0_pay47 b2) (k0_pay48 (k0_pay34 h w)) b2 b3 b3 v) s
    = slab 512 4#32 slices_S1056x1024_o0_512_S512x256 slices_S1056x1024_o256_512_S512x256 slices_S1056x1024_o512_512_S512x256 slices_S1056x1024_o544_512_S512x256 slices_S1056x1024_o16_512_S1024x256 (k0_pay33 h w) (k0_pay34 h w) (k0_pay35 h w) (k0_pay36 x) b0 b1 b2 b3 v s := rfl

theorem slab_3 : k0_pay54 (k0_pay33 h w) (k0_pay34 h w) (k0_pay35 h w) (k0_pay36 x) (k0_pay51 (k0_pay34 h w) (k0_pay35 h w) b0 b0) (k0_pay52 (k0_pay34 h w) (k0_pay35 h w) b1 b1) (k0_pay53 (k0_pay34 h w) b2) b2 b3 b3 v s
    = slab 768 8#32 slices_S1056x1024_o0_768_S512x256 slices_S1056x1024_o256_768_S512x256 slices_S1056x1024_o512_768_S512x256 slices_S1056x1024_o544_768_S512x256 slices_S1056x1024_o16_768_S1024x256 (k0_pay33 h w) (k0_pay34 h w) (k0_pay35 h w) (k0_pay36 x) b0 b1 b2 b3 v s := rfl

end

/-- The pieces the rows are held in. -/
theorem held_eq (c : Dev nD) (t : Fin cfg0.N) : View.canon [⟨Rect.unit ![1040, 0] ![16, 2048] inb_S1056x2048_S16x2048_1040_0,
      k0_pay32 (k0_pay31 (Scalar.cmpi .slt (Scalar.addi (first t) 1024#32) 8192#32) (iblk m c 2 t) (iblk m c 3 t))⟩,
    ⟨Rect.unit ![16, 0] ![1024, 2048] inb_S1056x2048_S1024x2048_16_0, k0_pay30 (iblk m c 1 t) (iblk m c 3 t)⟩,
    ⟨Rect.unit ![0, 0] ![16, 2048] inb_S1056x2048_S16x2048_0_0, k0_pay29 (k0_pay28 (grid0.coords t) (iblk m c 0 t) (iblk m c 3 t))⟩] = held m c t := rfl

/-- The held rows read back whole. -/
theorem held_whole (h : Vec F S1056x2048 .bf16) : (fun j => h ((Rect.unit (s := S1056x2048) ![0, 0] ![1056, 2048] inb_S1056x2048_S1056x2048_0_0).idx j)) = h :=
  View.ld_unit_lit (S := S1056x2048) (off := ![0, 0]) inb_S1056x2048_S1056x2048_0_0 h (by decide)

theorem after_A (c : Dev nD) (t : Fin cfg0.N) (h0 : t.val % 32 = 0) :
    outsAt0 m c t.val t.isLt = (pooled m c t (held m c t) (weights (F := F)), own (held m c t), weights (F := F)) := by
  obtain ⟨q, hq⟩ : ∃ q : Vec F S1024x1024 .bf16 × Vec F S1024x2048 .bf16 × Vec F S4x4x256x512 .bf16, q = (pooled m c t (held m c t) (weights (F := F)), own (held m c t), weights (F := F)) := ⟨_, rfl⟩
  have e := held_eq m c t
  simp only [first] at e
  rw [← hq, outsAt0_A m c t h0]
  frame_out
  simp only [View.readCov_eq_canon', e, held_whole, slab_0, slab_1, slab_2, slab_3]
  rw [hq]
  generalize held m c t = h
  rfl

theorem after_B (c : Dev nD) (t : Fin cfg0.N) (h0 : ¬t.val % 32 = 0)
    (p : Vec F S1024x1024 .bf16 × Vec F S1024x2048 .bf16 × Vec F S4x4x256x512 .bf16)
    (hp : outsAt0 m c (t.val - 1) (Nat.lt_of_le_of_lt (Nat.sub_le _ _) t.isLt) = p) :
    outsAt0 m c t.val t.isLt = (pooled m c t (held m c t) p.2.2, own (held m c t), p.2.2) := by
  obtain ⟨q, hq⟩ : ∃ q : Vec F S1024x1024 .bf16 × Vec F S1024x2048 .bf16 × Vec F S4x4x256x512 .bf16, q = (pooled m c t (held m c t) p.2.2, own (held m c t), p.2.2) := ⟨_, rfl⟩
  have e := held_eq m c t
  simp only [first] at e
  rw [← hq, outsAt0_B m c t h0, hp]
  frame_out
  simp only [read_unread_whole, sout0_B_1, View.readCov_eq_canon', e, held_whole, slab_0, slab_1, slab_2, slab_3]
  rw [hq]
  generalize held m c t = h
  rfl

end Cert.PoolIdeal.Point

end
-- ==== Proof.Pool.Window.lean ====
module

public import Idealize.ShloMosaic.Lib.Pipeline.ValueKit
public import Idealize.ShloMosaic.Lib.Pointwise
public import Idealize.ShloMosaic.PureOps.Ideal.Laws

/-!
  The windows of the pool mixer: which rows each holds, on their positions as words and as sums over the extended reals.
-/

@[expose] public section

noncomputable section

namespace Cert.Rows

open Idealize.ShloMosaic

theorem toInt_small (z : ℤ) (h : -2147483648 ≤ z) (h' : z < 2147483648) : (BitVec.ofInt 32 z).toInt = z := by
  rw [BitVec.toInt_ofInt]
  exact Int.bmod_eq_of_le (by norm_num; omega) (by norm_num; omega)

theorem toInt_nat (n : ℕ) (h : n < 2147483648) : (BitVec.ofNat 32 n).toInt = n := by
  rw [← BitVec.ofInt_natCast]
  exact toInt_small _ (by omega) (by omega)

/-- The sum of the rows a window holds, picked out of `N` rows by weights one and zero. -/
theorem sum_window (N a e : ℕ) (h : a + e ≤ N) (f : ℕ → EReal) :
    (∑ s : Fin N, (if a ≤ s.val ∧ s.val < a + e then (1 : EReal) else 0) * f s.val) = ∑ k ∈ Finset.range e, f (a + k) := by
  rw [Fin.sum_univ_eq_sum_range (fun s => (if a ≤ s ∧ s < a + e then (1 : EReal) else 0) * f s) N]
  simp only [ite_mul, one_mul, zero_mul]
  rw [← Finset.sum_filter]
  have hs : (Finset.range N).filter (fun s => a ≤ s ∧ s < a + e) = Finset.Ico a (a + e) := by
    ext s
    simp only [Finset.mem_filter, Finset.mem_range, Finset.mem_Ico]
    omega
  rw [hs, Finset.sum_Ico_eq_sum_range]
  simp only [Nat.add_sub_cancel_left]

/-- A sequence of 8192 rows between sixteen rows of zeros. -/
def padded (v : ℕ → EReal) (q : ℕ) : EReal := if 16 ≤ q ∧ q < 8208 then v (q - 16) else 0

/-- A finite sum of real numbers is one. -/
theorem real_sum (v : ℕ → EReal) (hv : ∀ i, ∃ r : ℝ, v i = r) (s : Finset ℕ) : ∃ r : ℝ, (∑ i ∈ s, v i) = r := by
  choose f hf using hv
  refine ⟨∑ i ∈ s, f i, ?_⟩
  induction s using Finset.cons_induction with
  | empty => simp
  | cons a s ha ih => rw [Finset.sum_cons, Finset.sum_cons, ih, hf, EReal.coe_add]

/-- The difference of two running sums is the sum over the window between them. -/
theorem window_diff (v : ℕ → EReal) (hv : ∀ i, ∃ r : ℝ, v i = r) (t d : ℕ) (ht : t < 8192) (hd : d ≤ 16) :
    (∑ i ∈ Finset.range (min (t + d) 8192), v i) - (∑ i ∈ Finset.range (t - d), v i)
      = ∑ k ∈ Finset.range (2 * d), padded v (t + 16 - d + k) := by
  have e1 : (∑ i ∈ Finset.range (min (t + d) 8192), v i)
      = (∑ i ∈ Finset.range (t - d), v i) + ∑ i ∈ Finset.Ico (t - d) (min (t + d) 8192), v i :=
    (Finset.sum_range_add_sum_Ico v (by omega)).symm
  have e2 : (∑ i ∈ Finset.Ico (t - d) (min (t + d) 8192), v i)
      = ∑ k ∈ Finset.range (2 * d), padded v (t + 16 - d + k) := by
    have e3 : (∑ k ∈ Finset.range (2 * d), padded v (t + 16 - d + k)) = ∑ q ∈ Finset.Ico (t + 16 - d) (t + 16 + d), padded v q := by
      rw [Finset.sum_Ico_eq_sum_range]
      have : t + 16 + d - (t + 16 - d) = 2 * d := by omega
      rw [this]
    rw [e3]
    unfold padded
    rw [← Finset.sum_filter]
    have hs : (Finset.Ico (t + 16 - d) (t + 16 + d)).filter (fun q => 16 ≤ q ∧ q < 8208) = Finset.Ico (t - d + 16) (min (t + d) 8192 + 16) := by
      ext q
      simp only [Finset.mem_filter, Finset.mem_Ico]
      omega
    rw [hs, ← Finset.sum_Ico_add']
    simp only [Nat.add_sub_cancel]
  rw [e1, e2]
  obtain ⟨a, ha⟩ := real_sum v hv (Finset.range (t - d))
  obtain ⟨b, hb⟩ := real_sum v hv (Finset.Ico (t - d) (min (t + d) 8192))
  rw [← e2, ha, hb, ← EReal.coe_add, ← EReal.coe_sub]
  congr 1
  ring

theorem addi_word (a b : ℤ) : IntOp.addi (BitVec.ofInt 32 a) (BitVec.ofInt 32 b) = BitVec.ofInt 32 (a + b) := (BitVec.ofInt_add a b).symm

theorem subi_word (a b : ℤ) : IntOp.subi (BitVec.ofInt 32 a) (BitVec.ofInt 32 b) = BitVec.ofInt 32 (a - b) := by
  rw [Int.sub_eq_add_neg, BitVec.ofInt_add, BitVec.ofInt_neg]
  exact BitVec.sub_eq_add_neg _ _

theorem slt_word (a b : ℤ) (ha : -2147483648 ≤ a) (ha' : a < 2147483648) (hb : -2147483648 ≤ b) (hb' : b < 2147483648) :
    (BitVec.ofInt 32 a).slt (BitVec.ofInt 32 b) = decide (a < b) := by
  unfold BitVec.slt
  rw [toInt_small a ha ha', toInt_small b hb hb']

theorem sle_word (a b : ℤ) (ha : -2147483648 ≤ a) (ha' : a < 2147483648) (hb : -2147483648 ≤ b) (hb' : b < 2147483648) :
    (BitVec.ofInt 32 a).sle (BitVec.ofInt 32 b) = decide (a ≤ b) := by
  unfold BitVec.sle
  rw [toInt_small a ha ha', toInt_small b hb hb']

theorem minsi_word (a b : ℤ) (ha : -2147483648 ≤ a) (ha' : a < 2147483648) (hb : -2147483648 ≤ b) (hb' : b < 2147483648) :
    IntOp.minsi (BitVec.ofInt 32 a) (BitVec.ofInt 32 b) = BitVec.ofInt 32 (min a b) := by
  unfold IntOp.minsi
  rw [slt_word a b ha ha' hb hb']
  by_cases h : a < b
  · rw [if_pos (decide_eq_true h), min_eq_left h.le]
  · rw [if_neg (by simpa using h), min_eq_right (not_lt.mp h)]

theorem maxsi_word (a b : ℤ) (ha : -2147483648 ≤ a) (ha' : a < 2147483648) (hb : -2147483648 ≤ b) (hb' : b < 2147483648) :
    IntOp.maxsi (BitVec.ofInt 32 a) (BitVec.ofInt 32 b) = BitVec.ofInt 32 (max a b) := by
  unfold IntOp.maxsi
  rw [slt_word b a hb hb' ha ha']
  by_cases h : b < a
  · rw [if_pos (decide_eq_true h), max_eq_left h.le]
  · rw [if_neg (by simpa using h), max_eq_right (not_lt.mp h)]

/-- Where the window of row `t` ends, at most the sequence's end. -/
theorem end_word (t d : ℕ) (ht : t < 8192) (hd : d ≤ 8) :
    IntOp.minsi (IntOp.addi (BitVec.ofNat 32 t) (BitVec.ofNat 32 d)) 8192#32 = BitVec.ofNat 32 (min (t + d) 8192) := by
  rw [← BitVec.ofInt_natCast 32 t, ← BitVec.ofInt_natCast 32 d, addi_word, show (8192#32 : BitVec 32) = BitVec.ofInt 32 8192 from rfl,
    minsi_word _ _ (by omega) (by omega) (by omega) (by omega), ← BitVec.ofInt_natCast]
  congr 1
  omega

/-- Where the window of row `t` starts, at least the sequence's start. -/
theorem start_word (t d : ℕ) (ht : t < 8192) (hd : d ≤ 8) :
    IntOp.maxsi (IntOp.subi (BitVec.ofNat 32 t) (BitVec.ofNat 32 d)) 0#32 = BitVec.ofNat 32 (t - d) := by
  rw [← BitVec.ofInt_natCast 32 t, ← BitVec.ofInt_natCast 32 d, subi_word, show (0#32 : BitVec 32) = BitVec.ofInt 32 0 from rfl,
    maxsi_word _ _ (by omega) (by omega) (by omega) (by omega), ← BitVec.ofInt_natCast]
  congr 1
  omega

/-- The end of the window of row `t` kept within the sequence on both sides. -/
theorem end_clip (t d : ℕ) (ht : t < 8192) (hd : d ≤ 8) :
    IntOp.minsi 8192#32 (IntOp.maxsi 0#32 (IntOp.addi (BitVec.ofNat 32 t) (BitVec.ofNat 32 d))) = BitVec.ofNat 32 (min (t + d) 8192) := by
  rw [← BitVec.ofInt_natCast 32 t, ← BitVec.ofInt_natCast 32 d, addi_word, show (8192#32 : BitVec 32) = BitVec.ofInt 32 8192 from rfl,
    show (0#32 : BitVec 32) = BitVec.ofInt 32 0 from rfl, maxsi_word _ _ (by omega) (by omega) (by omega) (by omega),
    minsi_word _ _ (by omega) (by omega) (by omega) (by omega), ← BitVec.ofInt_natCast]
  congr 1
  omega

/-- The start of the window of row `t` kept within the sequence on both sides. -/
theorem start_clip (t d : ℕ) (ht : t < 8192) (hd : d ≤ 8) :
    IntOp.minsi 8192#32 (IntOp.maxsi 0#32 (IntOp.subi (BitVec.ofNat 32 t) (BitVec.ofNat 32 d))) = BitVec.ofNat 32 (t - d) := by
  rw [← BitVec.ofInt_natCast 32 t, ← BitVec.ofInt_natCast 32 d, subi_word, show (8192#32 : BitVec 32) = BitVec.ofInt 32 8192 from rfl,
    show (0#32 : BitVec 32) = BitVec.ofInt 32 0 from rfl, maxsi_word _ _ (by omega) (by omega) (by omega) (by omega),
    minsi_word _ _ (by omega) (by omega) (by omega) (by omega), ← BitVec.ofInt_natCast]
  congr 1
  omega

/-- A position in the sequence is taken as it is. -/
theorem wrap_word (n : ℕ) (hn : n ≤ 8192) :
    Scalar.select (IntOp.cmpi .slt (BitVec.ofNat 32 n) 0#32) (IntOp.addi (BitVec.ofNat 32 n) 8193#32) (BitVec.ofNat 32 n) = BitVec.ofNat 32 n := by
  have h : IntOp.cmpi .slt (BitVec.ofNat 32 n) 0#32 = 0#1 := by
    unfold IntOp.cmpi
    rw [← BitVec.ofInt_natCast 32 n, show (0#32 : BitVec 32) = BitVec.ofInt 32 0 from rfl]
    rw [slt_word _ _ (by omega) (by omega) (by omega) (by omega), decide_eq_false (by omega)]
    rfl
  rw [h]
  rfl

/-- The weight of one row in another's window: one if their distance, `z`, is in the window, else zero. -/
theorem weight_word (j o i r d : ℤ) (hj : 0 ≤ j ∧ j < 10000) (ho : -10000 ≤ o ∧ o < 10000) (hi : 0 ≤ i ∧ i < 10000) (hr : 0 ≤ r ∧ r < 10000)
    (hd : 0 ≤ d ∧ d < 10000) :
    (Scalar.select (IntOp.andi
      (IntOp.cmpi .sge (IntOp.subi (IntOp.addi (BitVec.ofInt 32 j) (BitVec.ofInt 32 o)) (IntOp.addi (BitVec.ofInt 32 i) (BitVec.ofInt 32 r))) (BitVec.ofInt 32 (-d)))
      (IntOp.cmpi .slt (IntOp.subi (IntOp.addi (BitVec.ofInt 32 j) (BitVec.ofInt 32 o)) (IntOp.addi (BitVec.ofInt 32 i) (BitVec.ofInt 32 r))) (BitVec.ofInt 32 d)))
      (1 : EReal) 0) = if -d ≤ j + o - (i + r) ∧ j + o - (i + r) < d then 1 else 0 := by
  rw [addi_word, addi_word, subi_word]
  unfold IntOp.cmpi
  dsimp only
  rw [sle_word _ _ (by omega) (by omega) (by omega) (by omega), slt_word _ _ (by omega) (by omega) (by omega) (by omega)]
  by_cases h1 : -d ≤ j + o - (i + r) <;> by_cases h2 : j + o - (i + r) < d <;> simp only [h1, h2] <;> rfl

/-- How many rows a window holds, as the division takes it. -/
def count (d t : ℕ) : EReal :=
  FloatOps.sitofp (F := Ideal) FTy.f32 (IntOp.subi (BitVec.ofNat 32 (min (t + d) 8192)) (BitVec.ofNat 32 (t - d)))

/-- The pooling mixer at a row, at column `n` of window `g`: the mean of the projected rows in the row's window less the row's own
    projection, through the window's matrix, scaled. -/
def poolAt (U : Fin 32768 → Fin 1024 → EReal) (M : Fin 4 → Fin 256 → Fin 256 → EReal) (S : Fin 1024 → EReal) (i : Fin 32768) (g : Fin 4) (n : Fin 256) : EReal :=
  (∑ k : Fin 256, (Ideal.div (∑ j ∈ Finset.range (2 * 2 ^ g.val),
      padded (fun s => U (Fin.ofNat 32768 (i.val / 8192 * 8192 + s)) ⟨256 * g.val + k.val, by omega⟩) (i.val % 8192 + 16 - 2 ^ g.val + j)) (count (2 ^ g.val) (i.val % 8192))
    - U i ⟨256 * g.val + k.val, by omega⟩) * M g k n) * S ⟨256 * g.val + n.val, by omega⟩

/-- The pooling mixer at a row and a column. -/
def pool (U : Fin 32768 → Fin 1024 → EReal) (M : Fin 4 → Fin 256 → Fin 256 → EReal) (S : Fin 1024 → EReal) (i : Fin 32768) (n : Fin 1024) : EReal :=
  poolAt U M S i (Fin.ofNat 4 (n.val / 256)) (Fin.ofNat 256 (n.val % 256))

end Cert.Rows

end
-- ==== Proof.Pool.Pay.lean ====
module

public import proofs.«01_k».proof.Proof.Pool.Cases
public import proofs.«01_k».proof.Proof.Rows
public import proofs.«01_k».proof.Proof.Pool.Window
public import Idealize.ShloMosaic.Lib.Pointwise
public import Idealize.ShloMosaic.PureOps.Ideal.Laws

@[expose] public section

set_option maxRecDepth 16384

noncomputable section

namespace Cert.PoolIdeal.Point

open Cert.PoolIdeal Cert.PoolIdeal.Gen Idealize.ShloMosaic Idealize.ShloMosaic.TcCoe Idealize.SL.Sem

/-- A tile begins at its own place in its sequence. -/
theorem first_eq : ∀ t : Fin grid0.N, first t = BitVec.ofNat 32 (1024 * (t.val % 8)) := by decide +kernel

/-- Rows lie before a tile unless it is its sequence's first. -/
theorem keep_prev : ∀ t : Fin grid0.N, Scalar.cmpi .sgt (first t) 0#32
    = if t.val % 8 = 0 then 0#1 else 1#1 := by decide +kernel
/-- Rows lie after a tile unless it is its sequence's last. -/
theorem keep_next : ∀ t : Fin grid0.N, Scalar.cmpi .slt (Scalar.addi (first t) 1024#32) 8192#32
    = if t.val % 8 = 7 then 0#1 else 1#1 := by decide +kernel

/-- The rows before the tile normed, none before a sequence's first tile. -/
theorem pay28_apply (t : Fin grid0.N) (v : Vec Ideal S16x2048 .f32) (g : Vec Ideal S1x2048 .f32) (r : Fin 16) (k : Fin 2048) :
    k0_pay29 (k0_pay28 (F := Ideal) (grid0.coords t) v g) (ix2 r k)
      = if t.val % 8 = 0 then 0 else Rows.rms (fun k => v (ix2 r k)) (fun k => g (ix2 0 k)) k := by
  have h := keep_prev t
  generalize hz : (Scalar.cmpi .sgt (first t) 0#32) = z at h
  have e : k0_pay29 (k0_pay28 (F := Ideal) (grid0.coords t) v g) (ix2 r k)
      = Scalar.select z (Rows.rms (fun k => v (ix2 r k)) (fun k => g (ix2 0 k)) k) 0 := by
    subst hz
    unfold_payloads
    pointwise
    rfl
  rw [e, h]
  split <;> rfl

/-- The rows after the tile normed, none after a sequence's last tile. -/
theorem pay31_apply (t : Fin grid0.N) (v : Vec Ideal S16x2048 .f32) (g : Vec Ideal S1x2048 .f32) (r : Fin 16) (k : Fin 2048) :
    k0_pay32 (k0_pay31 (F := Ideal) (Scalar.cmpi .slt (Scalar.addi (first t) 1024#32) 8192#32) v g) (ix2 r k)
      = if t.val % 8 = 7 then 0 else Rows.rms (fun k => v (ix2 r k)) (fun k => g (ix2 0 k)) k := by
  rw [keep_next t]
  generalize hz : (if t.val % 8 = 7 then 0#1 else 1#1) = z
  have e : k0_pay32 (k0_pay31 (F := Ideal) z v g) (ix2 r k)
      = Scalar.select z (Rows.rms (fun k => v (ix2 r k)) (fun k => g (ix2 0 k)) k) 0 := by
    unfold_payloads
    pointwise
    rfl
  rw [e, ← hz]
  split <;> rfl

/-- The tile's own rows normed. -/
theorem pay30_apply (v : Vec Ideal S1024x2048 .f32) (g : Vec Ideal S1x2048 .f32) (r : Fin 1024) (k : Fin 2048) :
    k0_pay30 (F := Ideal) v g (ix2 r k) = Rows.rms (fun k => v (ix2 r k)) (fun k => g (ix2 0 k)) k := by
  unfold_payloads
  pointwise
  rfl

/-- The projected rows. -/
theorem pay33_apply (h : Vec Ideal S1056x2048 .bf16) (w : Vec Ideal S2048x1024 .bf16) (r : Fin 1056) (n : Fin 1024) :
    k0_pay33 (F := Ideal) h w (ix2 r n) = ∑ k, h (ix2 r k) * w (ix2 k n) := by
  unfold_payloads
  pointwise

theorem pay34_apply (h : Vec Ideal S1056x2048 .bf16) (w : Vec Ideal S2048x1024 .bf16) (r : Fin 1056) (n : Fin 1024) :
    k0_pay34 (F := Ideal) h w (ix2 r n) = ∑ k, h (ix2 r k) * w (ix2 k n) := by
  unfold_payloads
  pointwise

theorem pay35_apply (h : Vec Ideal S1056x2048 .bf16) (w : Vec Ideal S2048x1024 .bf16) (r : Fin 1056) (n : Fin 1024) :
    k0_pay35 (F := Ideal) h w (ix2 r n) = (∑ k, h (ix2 r k) * w (ix2 k n)) - ∑ k, h (ix2 r k) * w (ix2 k n) := by
  unfold_payloads
  pointwise

/-- The position of each row in its sequence. -/
theorem pay36_apply (x : BitVec 32) (r : Fin 1024) :
    k0_pay36 x (ix2 r 0) = x + BitVec.ofNat 32 r.val := by
  unfold_payloads
  pointwise
  rfl

/-- A block of weights is one inside its window and zero outside. -/
theorem blade_apply (o : ℤ) (r n d : ℕ) (ho : -1000 ≤ o ∧ o ≤ 1000) (hr : r ≤ 1000) (hd : d ≤ 1000) (i : Fin 256) (j : Fin 512) :
    blade (F := Ideal) (BitVec.ofInt 32 o) (BitVec.ofNat 32 r) (BitVec.ofInt 32 (-(d : ℤ))) (BitVec.ofNat 32 d) (ix4 0 0 i j)
      = if -(d : ℤ) ≤ (j.val : ℤ) + o - (i.val + r) ∧ (j.val : ℤ) + o - (i.val + r) < d then 1 else 0 := by
  unfold blade
  pointwise
  have h := Rows.weight_word j.val o i.val r d (by omega) (by omega) (by omega) (by omega) (by omega)
  rw [BitVec.ofInt_natCast, BitVec.ofInt_natCast, BitVec.ofInt_natCast, BitVec.ofInt_natCast] at h
  exact h

/-- A strip of window sums. -/
theorem strip_apply (r g : ℕ) (h : S1056x1024.Slices ![r, g] S512x256) (hr : r + 512 ≤ 1056) (hg : g + 256 ≤ 1024) (hi lo : FVec Ideal S1056x1024 .bf16) (b : Vec Ideal S1x1x256x512 .bf16)
    (i : Fin 256) (j : Fin 256) :
    strip (F := Ideal) r g h hi lo b (ix2 i j)
      = (∑ x : Fin 512, b (ix4 0 0 i x) * hi (ix2 ⟨r + x.val, by omega⟩ ⟨g + j.val, by omega⟩))
        + ∑ x : Fin 512, b (ix4 0 0 i x) * lo (ix2 ⟨r + x.val, by omega⟩ ⟨g + j.val, by omega⟩) := by
  unfold strip
  pointwise

/-- How many rows a row's window holds. -/
theorem counts_apply (d : ℕ) (hd : d ≤ 8) (x : IVec S1024x1 32) (r : Fin 1024) (t : ℕ) (ht : t < 8192) (hx : x (ix2 r 0) = BitVec.ofNat 32 t) :
    counts (F := Ideal) (BitVec.ofNat 32 d) x (ix2 r 0)
      = Rows.count d t := by
  unfold counts
  pointwise
  rw [hx, Rows.end_word t d ht hd, Rows.start_word t d ht hd]
  rfl

/-- One window's columns of the output. -/
theorem slab_apply (g : ℕ) (hg : g + 256 ≤ 1024) (d : BitVec 32) (h0 : S1056x1024.Slices ![0, g] S512x256) (h1 : S1056x1024.Slices ![256, g] S512x256)
    (h2 : S1056x1024.Slices ![512, g] S512x256) (h3 : S1056x1024.Slices ![544, g] S512x256) (hm : S1056x1024.Slices ![16, g] S1024x256)
    (p : FVec Ideal S1056x1024 .f32) (hi lo : FVec Ideal S1056x1024 .bf16) (x : IVec S1024x1 32) (b0 b1 b2 b3 : Vec Ideal S1x1x256x512 .bf16)
    (w : Vec Ideal S1x256x256 .bf16) (s : Vec Ideal S1x256 .f32) (r : Fin 1024) (n : Fin 256) :
    slab (F := Ideal) g d h0 h1 h2 h3 hm p hi lo x b0 b1 b2 b3 w s (ix2 r n)
      = (∑ k : Fin 256, (Ideal.div
          (if h : r.val < 256 then strip 0 g h0 hi lo b0 (ix2 ⟨r.val, h⟩ k)
            else if h' : r.val - 256 < 256 then strip 256 g h1 hi lo b1 (ix2 ⟨r.val - 256, h'⟩ k)
            else if h'' : r.val - 256 - 256 < 256 then strip 512 g h2 hi lo b2 (ix2 ⟨r.val - 256 - 256, h''⟩ k)
            else strip 544 g h3 hi lo b3 (ix2 ⟨r.val - 256 - 256 - 256, by omega⟩ k))
          (counts (F := Ideal) d x (ix2 r 0) : EReal) - p (ix2 ⟨16 + r.val, by omega⟩ ⟨g + k.val, by omega⟩)) * w (ix3 0 k n)) * s (ix2 0 n) := by
  unfold slab
  generalize strip (F := Ideal) 0 g h0 hi lo b0 = s0
  generalize strip (F := Ideal) 256 g h1 hi lo b1 = s1
  generalize strip (F := Ideal) 512 g h2 hi lo b2 = s2
  generalize strip (F := Ideal) 544 g h3 hi lo b3 = s3
  generalize counts (F := Ideal) d x = k
  pointwise

end Cert.PoolIdeal.Point

end
-- ==== Proof.Pool.Weights.lean ====
module

public import proofs.«01_k».proof.Proof.Pool.Cases
public import proofs.«01_k».proof.Proof.Pool.Pay
public import Idealize.ShloMosaic.Lib.Pointwise

@[expose] public section

set_option maxRecDepth 16384

noncomputable section

namespace Cert.PoolIdeal.Point

open Cert.PoolIdeal Cert.PoolIdeal.Gen Idealize.ShloMosaic Idealize.ShloMosaic.TcCoe Idealize.SL.Sem

/-- The first held row that strip `c` reads. -/
def top (c : Fin 4) : ℕ := if c.val = 3 then 544 else 256 * c.val

/-- The weight of held row `top c + x` in the window of row `256 c + i`, for window `g`. -/
def weight (g c i x : ℕ) (o : ℤ) : EReal :=
  if -((2 ^ g : ℕ) : ℤ) ≤ (x : ℤ) + o - ((i : ℤ) + ((256 * c : ℕ) : ℤ)) ∧ (x : ℤ) + o - ((i : ℤ) + ((256 * c : ℕ) : ℤ)) < ((2 ^ g : ℕ) : ℤ) then 1 else 0

/-- Where strip `c` begins against the tile. -/
def start (c : ℕ) : ℤ := if c = 3 then 528 else 256 * c - 16

/-- All the weights, as one array. -/
def table (y : S4x4x256x512.Idx) : EReal := weight (y 0).val (y 1).val (y 2).val (y 3).val (start (y 1).val)

theorem piece (g c : Fin 4) (inb : ∀ a, (![g.val, c.val, 0, 0] : Fin 4 → ℕ) a + (![1, 1, 256, 512] : Fin 4 → ℕ) a ≤ S4x4x256x512.size a)
    {o r n d : BitVec 32} (ho : o = BitVec.ofInt 32 (start c.val)) (hr : r = BitVec.ofNat 32 (256 * c.val)) (hn : n = BitVec.ofInt 32 (-((2 ^ g.val : ℕ) : ℤ)))
    (hd : d = BitVec.ofNat 32 (2 ^ g.val)) (x : S1x1x256x512.Idx) :
    blade (F := Ideal) o r n d x = table ((Rect.unit (s := S4x4x256x512) ![g.val, c.val, 0, 0] ![1, 1, 256, 512] inb).emb x) := by
  subst ho hr hn hd
  have hg : 2 ^ g.val ≤ 8 := (Nat.pow_le_pow_right (by omega) (show g.val ≤ 3 by omega)).trans (by norm_num)
  have hs : -1000 ≤ start c.val ∧ start c.val ≤ 1000 := by unfold start; split <;> omega
  have h0 : (x 0).val = 0 := Nat.lt_one_iff.mp (show (x 0).val < 1 from (x 0).isLt)
  have h1 : (x 1).val = 0 := Nat.lt_one_iff.mp (show (x 1).val < 1 from (x 1).isLt)
  have e : x = (ix4 0 0 (x 2) (x 3) : S1x1x256x512.Idx) := by
    funext a
    refine Fin.ext ?_
    match a with
    | ⟨0, _⟩ => exact h0
    | ⟨1, _⟩ => exact h1
    | ⟨2, _⟩ => rfl
    | ⟨3, _⟩ => rfl
  refine (congrArg (blade (F := Ideal) _ _ _ _) e).trans ((blade_apply (start c.val) (256 * c.val) (2 ^ g.val) (2 ^ g.val) hs (by omega) (by omega) (x 2) (x 3)).trans ?_)
  have a0 : ((Rect.unit (s := S4x4x256x512) ![g.val, c.val, 0, 0] ![1, 1, 256, 512] inb).emb x 0).val = g.val := by
    show g.val + 1 * (x 0).val = g.val; omega
  have a1 : ((Rect.unit (s := S4x4x256x512) ![g.val, c.val, 0, 0] ![1, 1, 256, 512] inb).emb x 1).val = c.val := by
    show c.val + 1 * (x 1).val = c.val; omega
  have a2 : ((Rect.unit (s := S4x4x256x512) ![g.val, c.val, 0, 0] ![1, 1, 256, 512] inb).emb x 2).val = (x 2).val := by
    show 0 + 1 * (x 2).val = (x 2).val; omega
  have a3 : ((Rect.unit (s := S4x4x256x512) ![g.val, c.val, 0, 0] ![1, 1, 256, 512] inb).emb x 3).val = (x 3).val := by
    show 0 + 1 * (x 3).val = (x 3).val; omega
  unfold table
  rw [a0, a1, a2, a3]
  rfl

/-- A block of the weights holds the elements in its window and strip. -/
theorem mem_block (g c : Fin 4) (inb : ∀ a, (![g.val, c.val, 0, 0] : Fin 4 → ℕ) a + (![1, 1, 256, 512] : Fin 4 → ℕ) a ≤ S4x4x256x512.size a)
    (i : Fin 256) (x : Fin 512) :
    (ix4 g c i x : S4x4x256x512.Idx) ∈ (Rect.unit (s := S4x4x256x512) ![g.val, c.val, 0, 0] ![1, 1, 256, 512] inb).set := by
  refine (Rect.mem_set_unit (inb := inb)).mpr fun a => ?_
  match a with
  | ⟨0, _⟩ => show g.val ≤ g.val ∧ g.val < g.val + 1; omega
  | ⟨1, _⟩ => show c.val ≤ c.val ∧ c.val < c.val + 1; omega
  | ⟨2, _⟩ => show 0 ≤ i.val ∧ i.val < 0 + 256; omega
  | ⟨3, _⟩ => show 0 ≤ x.val ∧ x.val < 0 + 512; omega

/-- The weights, element by element. -/
theorem weights_apply (g c : Fin 4) (i : Fin 256) (x : Fin 512) :
    (weights (F := Ideal)) (ix4 g c i x) = weight g.val c.val i.val x.val (start c.val) := by
  unfold weights
  refine View.canon_apply_of_pieces (Val := Elt Ideal) (e := .bf16) (S := S4x4x256x512) table _ ?_ (ix4 g c i x) ?_
  · exact List.forall_mem_cons.mpr ⟨piece 3 3 inb_S4x4x256x512_S1x1x256x512_3_3_0_0 rfl rfl rfl rfl,
    List.forall_mem_cons.mpr ⟨piece 3 2 inb_S4x4x256x512_S1x1x256x512_3_2_0_0 rfl rfl rfl rfl,
    List.forall_mem_cons.mpr ⟨piece 3 1 inb_S4x4x256x512_S1x1x256x512_3_1_0_0 rfl rfl rfl rfl,
    List.forall_mem_cons.mpr ⟨piece 3 0 inb_S4x4x256x512_S1x1x256x512_3_0_0_0 rfl rfl rfl rfl,
    List.forall_mem_cons.mpr ⟨piece 2 3 inb_S4x4x256x512_S1x1x256x512_2_3_0_0 rfl rfl rfl rfl,
    List.forall_mem_cons.mpr ⟨piece 2 2 inb_S4x4x256x512_S1x1x256x512_2_2_0_0 rfl rfl rfl rfl,
    List.forall_mem_cons.mpr ⟨piece 2 1 inb_S4x4x256x512_S1x1x256x512_2_1_0_0 rfl rfl rfl rfl,
    List.forall_mem_cons.mpr ⟨piece 2 0 inb_S4x4x256x512_S1x1x256x512_2_0_0_0 rfl rfl rfl rfl,
    List.forall_mem_cons.mpr ⟨piece 1 3 inb_S4x4x256x512_S1x1x256x512_1_3_0_0 rfl rfl rfl rfl,
    List.forall_mem_cons.mpr ⟨piece 1 2 inb_S4x4x256x512_S1x1x256x512_1_2_0_0 rfl rfl rfl rfl,
    List.forall_mem_cons.mpr ⟨piece 1 1 inb_S4x4x256x512_S1x1x256x512_1_1_0_0 rfl rfl rfl rfl,
    List.forall_mem_cons.mpr ⟨piece 1 0 inb_S4x4x256x512_S1x1x256x512_1_0_0_0 rfl rfl rfl rfl,
    List.forall_mem_cons.mpr ⟨piece 0 3 inb_S4x4x256x512_S1x1x256x512_0_3_0_0 rfl rfl rfl rfl,
    List.forall_mem_cons.mpr ⟨piece 0 2 inb_S4x4x256x512_S1x1x256x512_0_2_0_0 rfl rfl rfl rfl,
    List.forall_mem_cons.mpr ⟨piece 0 1 inb_S4x4x256x512_S1x1x256x512_0_1_0_0 rfl rfl rfl rfl,
    List.forall_mem_cons.mpr ⟨piece 0 0 inb_S4x4x256x512_S1x1x256x512_0_0_0_0 rfl rfl rfl rfl,
    fun q hq => absurd hq List.not_mem_nil⟩⟩⟩⟩⟩⟩⟩⟩⟩⟩⟩⟩⟩⟩⟩⟩
  · fin_cases g <;> fin_cases c
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_block 0 0 inb_S4x4x256x512_S1x1x256x512_0_0_0_0 i x⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_block 0 1 inb_S4x4x256x512_S1x1x256x512_0_1_0_0 i x⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_block 0 2 inb_S4x4x256x512_S1x1x256x512_0_2_0_0 i x⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_block 0 3 inb_S4x4x256x512_S1x1x256x512_0_3_0_0 i x⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_block 1 0 inb_S4x4x256x512_S1x1x256x512_1_0_0_0 i x⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_block 1 1 inb_S4x4x256x512_S1x1x256x512_1_1_0_0 i x⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_block 1 2 inb_S4x4x256x512_S1x1x256x512_1_2_0_0 i x⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_block 1 3 inb_S4x4x256x512_S1x1x256x512_1_3_0_0 i x⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_block 2 0 inb_S4x4x256x512_S1x1x256x512_2_0_0_0 i x⟩
    · exact ⟨_, List.mem_cons_of_mem _ (List.mem_cons_of_mem _ (List.mem_cons_of_mem _ (List.mem_cons_of_mem _ (List.mem_cons_of_mem _ (List.mem_cons_of_mem _ (List.mem_cons_self)))))), mem_block 2 1 inb_S4x4x256x512_S1x1x256x512_2_1_0_0 i x⟩
    · exact ⟨_, List.mem_cons_of_mem _ (List.mem_cons_of_mem _ (List.mem_cons_of_mem _ (List.mem_cons_of_mem _ (List.mem_cons_of_mem _ (List.mem_cons_self))))), mem_block 2 2 inb_S4x4x256x512_S1x1x256x512_2_2_0_0 i x⟩
    · exact ⟨_, List.mem_cons_of_mem _ (List.mem_cons_of_mem _ (List.mem_cons_of_mem _ (List.mem_cons_of_mem _ (List.mem_cons_self)))), mem_block 2 3 inb_S4x4x256x512_S1x1x256x512_2_3_0_0 i x⟩
    · exact ⟨_, List.mem_cons_of_mem _ (List.mem_cons_of_mem _ (List.mem_cons_of_mem _ (List.mem_cons_self))), mem_block 3 0 inb_S4x4x256x512_S1x1x256x512_3_0_0_0 i x⟩
    · exact ⟨_, List.mem_cons_of_mem _ (List.mem_cons_of_mem _ (List.mem_cons_self)), mem_block 3 1 inb_S4x4x256x512_S1x1x256x512_3_1_0_0 i x⟩
    · exact ⟨_, List.mem_cons_of_mem _ (List.mem_cons_self), mem_block 3 2 inb_S4x4x256x512_S1x1x256x512_3_2_0_0 i x⟩
    · exact ⟨_, List.mem_cons_self, mem_block 3 3 inb_S4x4x256x512_S1x1x256x512_3_3_0_0 i x⟩

end Cert.PoolIdeal.Point

end
-- ==== Proof.Pool.Finite.lean ====
module

public import proofs.«01_k».proof.Pre_finite_weights
public import proofs.«01_k».proof.Proof.Rows
public import proofs.«01_k».proof.Proof.Pool.Window
public import Idealize.ShloMosaic.Lib.Pointwise
public import Idealize.ShloMosaic.Lib.ReduceAll
public import Idealize.ShloMosaic.PureOps.Ideal.Laws

@[expose] public section

set_option maxRecDepth 16384

noncomputable section

namespace Cert.Rows

open Idealize.ShloMosaic

/-- Being a real number, neither infinity. -/
def IsReal (x : EReal) : Prop := ∃ r : ℝ, x = r

theorem IsReal.zero : IsReal 0 := ⟨0, by simp⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sub_self {x : EReal} (hx : IsReal x) : x - x = 0 := by
  obtain ⟨a, rfl⟩ := hx
  rw [← EReal.coe_sub, _root_.sub_self, EReal.coe_zero]

/-- A sum of real numbers over a row is the sum of the reals. -/
theorem sum_coe {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

theorem IsReal.sum {n : ℕ} (f : Fin n → EReal) (hf : ∀ k, IsReal (f k)) : IsReal (∑ k, f k) := by
  choose g hg using hf
  exact ⟨∑ k, g k, by rw [← sum_coe]; exact Finset.sum_congr rfl fun k _ => hg k⟩

theorem width_value : Ideal.ofBits FTy.f32 1157627904#32 = ((2048 : ℝ) : EReal) := by
  simp [Ideal.ofBits, Ideal.ieee, -EReal.coe_mul]; norm_num

theorem eps_value : ∃ r : ℝ, 0 < r ∧ Ideal.ofBits FTy.f32 897988541#32 = (r : EReal) := by
  refine ⟨_, ?_, by simp [Ideal.ofBits, Ideal.ieee, -EReal.coe_mul]; rfl⟩
  positivity

theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- A number that is not real has an infinite square. -/
theorem square_top (x : EReal) (h : ¬ IsReal x) : x * x = ⊤ := by
  induction x using EReal.rec with
  | bot => exact EReal.bot_mul_bot
  | coe r => exact absurd ⟨r, rfl⟩ h
  | top => exact EReal.top_mul_top

/-- The norm of a row with real gains is a row of real numbers: an infinite entry gives the root `⊤`, whose inverse is 0. -/
theorem rms_real (x g : Fin 2048 → EReal) (hg : ∀ k, IsReal (g k)) (e : Fin 2048) : IsReal (rms x g e) := by
  unfold rms
  refine IsReal.mul ?_ (hg e)
  obtain ⟨r, hr, h⟩ := eps_value
  rw [width_value, h, Ideal.div_coe (by norm_num)]
  by_cases hx : ∀ k, IsReal (x k)
  · refine (hx e).mul ?_
    choose f hf using hx
    have hs : (∑ k, x k * x k) = ((∑ k, f k * f k : ℝ) : EReal) := by
      rw [← sum_coe]
      exact Finset.sum_congr rfl fun k _ => by rw [hf k, EReal.coe_mul]
    have h0 : 0 ≤ ∑ k, f k * f k := Finset.sum_nonneg fun k _ => mul_self_nonneg _
    rw [hs, ← EReal.coe_mul, ← EReal.coe_add, Ideal.rsqrt_coe,
      if_neg (not_lt.mpr (by positivity)), if_neg (ne_of_gt (by positivity))]
    exact ⟨_, rfl⟩
  · obtain ⟨k, hk⟩ := not_forall.mp hx
    have hs : (∑ k, x k * x k) = ⊤ :=
      top_le_iff.mp ((square_top _ hk).ge.trans (Finset.single_le_sum (f := fun k => x k * x k) (fun k _ => square_nonneg _) (Finset.mem_univ k)))
    rw [hs, EReal.top_mul_coe_of_pos (by norm_num), EReal.top_add_coe, Ideal.rsqrt_top, mul_zero]
    exact IsReal.zero

theorem top_value : Ideal.ofBits FTy.f32 0x7F800000#32 = ⊤ := by
  simp [Ideal.ofBits, Ideal.ieee]

/-- A number whose size is below infinity is real. -/
theorem real_of_size (x : EReal) (h : Ideal.cmp .olt (max x (-x)) ⊤ = 1#1) : IsReal x := by
  induction x using EReal.rec with
  | bot => simp [Ideal.cmp] at h
  | coe r => exact ⟨r, rfl⟩
  | top => simp [Ideal.cmp] at h

end Cert.Rows

namespace Cert.Pre_finite_weights

open Idealize.ShloMosaic Facts

variable [Facts] (x : FVec Ideal S32768x2048 .f32) (g : FVec Ideal S1x2048 .f32) (w : FVec Ideal S1x2048x8192 .f32)
  (p : FVec Ideal S1x4x256x256 .f32) (s : FVec Ideal S1x1024 .f32)

/-- An array each of whose sizes is below infinity is an array of real numbers. -/
theorem all_real {s : Shape} {axes : List (Fin s.rank)} (x : FVec Ideal s .f32) (b : S_.BroadcastsInDim s (![] : Fin 0 → Fin s.rank)) (r : s.ReducesTo axes S_)
    (h : Host.reduce IntOp.andi (cmpf (F := Ideal) (φ := .f32) .olt (Host.absf x)
      (broadcastInDim s ![] b (constant (F := Ideal) S_ .f32 0x7F800000#32))) (constantI S_ 1 1#1) r h_S_ = fun _ => 1#1) (i : s.Idx) :
    Rows.IsReal (x i) := by
  have e := Host.reduce_andi_all _ _ _ _ _ (congrFun h (Shape.Idx.first h_S_)) i
  have e' : Ideal.cmp .olt (max (x i) (-(x i))) (Ideal.ofBits FTy.f32 0x7F800000#32) = 1#1 := e
  rw [Rows.top_value] at e'
  exact Rows.real_of_size _ e'

theorem gain_real (h : (fn x g w p s).1 = fun _ => 1#1) (i : S1x2048.Idx) : Rows.IsReal (g i) := by
  unfold fn at h
  dsimp only at h
  exact all_real g bcast_S_S1x2048 reducesTo_S1x2048_S_d0_1 h i

/-- The pooling columns of the weights. -/
theorem pool_columns (k : Fin 2048) (n : Fin 1024) :
    extractStridedSlice S1x2048x1024 ![0, 0, 0] w slices_S1x2048x8192_S1x2048x1024_0_0_0 (ix3 0 k n) = w (ix3 0 k ⟨n.val, by omega⟩) := by
  pointwise

theorem weight_real (h : (fn x g w p s).2 = fun _ => 1#1) (k : Fin 2048) (n : Fin 1024) : Rows.IsReal (w (ix3 0 k ⟨n.val, by omega⟩)) := by
  unfold fn at h
  dsimp only at h
  have e := all_real _ bcast_S_S1x2048x1024 reducesTo_S1x2048x1024_S_d0_1_2 h (ix3 0 k n)
  rw [pool_columns] at e
  exact e

end Cert.Pre_finite_weights

end
-- ==== Proof.Pool.Tile.lean ====
module

public import proofs.«01_k».proof.Proof.Pool.Weights
public import proofs.«01_k».proof.Proof.Pool.Finite
public import Idealize.ShloMosaic.Lib.Pointwise

@[expose] public section

set_option maxRecDepth 16384

noncomputable section

namespace Cert.PoolIdeal.Point

open Cert.PoolIdeal Cert.PoolIdeal.Gen Idealize.ShloMosaic Idealize.ShloMosaic.TcCoe Idealize.SL.Sem

/-- Row `i` of strip `c`: the sum over its window, when the second summand's rows are zero. -/
theorem strip_window (g c : Fin 4) (e : Fin 4) (h : S1056x1024.Slices ![top c, 256 * e.val] S512x256) (hi lo : FVec Ideal S1056x1024 .bf16) (b : Vec Ideal S1x1x256x512 .bf16)
    (P : ℕ → EReal) (i j : Fin 256)
    (hb : ∀ x : Fin 512, b (ix4 0 0 i x) = weight g.val c.val i.val x.val (start c.val))
    (hhi : ∀ q : Fin 1056, hi (ix2 q ⟨256 * e.val + j.val, by omega⟩) = P q.val)
    (hlo : ∀ q : Fin 1056, lo (ix2 q ⟨256 * e.val + j.val, by omega⟩) = (0 : EReal)) :
    strip (F := Ideal) (top c) (256 * e.val) h hi lo b (ix2 i j)
      = ∑ k ∈ Finset.range (2 * 2 ^ g.val), P (256 * c.val + i.val + 16 - 2 ^ g.val + k) := by
  have ht : top c + 512 ≤ 1056 := by unfold top; split <;> omega
  have hg : 2 ^ g.val ≤ 8 := (Nat.pow_le_pow_right (by omega) (show g.val ≤ 3 by omega)).trans (by norm_num)
  have hi' := i.isLt
  have hc := c.isLt
  refine (strip_apply (top c) (256 * e.val) h ht (by omega) hi lo b i j).trans ?_
  have h2 : (∑ x : Fin 512, b (ix4 0 0 i x) * lo (ix2 ⟨top c + x.val, by omega⟩ ⟨256 * e.val + j.val, by omega⟩)) = (0 : EReal) :=
    Finset.sum_eq_zero fun x _ => by rw [hlo, mul_zero]
  rw [h2, add_zero]
  have hw := Rows.sum_window 512 (256 * c.val + i.val + 16 - 2 ^ g.val - top c) (2 * 2 ^ g.val) (by unfold top; split <;> omega) (fun s => P (top c + s))
  have hk : ∀ k, top c + (256 * c.val + i.val + 16 - 2 ^ g.val - top c + k) = 256 * c.val + i.val + 16 - 2 ^ g.val + k := by
    intro k
    unfold top
    split <;> omega
  refine Eq.trans (Finset.sum_congr rfl fun x _ => ?_) (hw.trans (Finset.sum_congr rfl fun k _ => congrArg P (hk k)))
  rw [hb, hhi]
  refine congrArg (· * P (top c + x.val)) ?_
  unfold weight
  refine if_congr ?_ rfl rfl
  unfold start top
  generalize 2 ^ g.val = d at hg
  split <;> omega

/-- The window means of a tile's rows less the rows, through window `g`'s matrix, scaled. -/
def tileOut (P : ℕ → Fin 1024 → EReal) (M : Fin 4 → Fin 256 → Fin 256 → EReal) (S : Fin 1024 → EReal) (s : ℕ) (r : ℕ) (g : Fin 4) (n : Fin 256) : EReal :=
  (∑ k : Fin 256, (Ideal.div (∑ j ∈ Finset.range (2 * 2 ^ g.val), P (r + 16 - 2 ^ g.val + j) ⟨256 * g.val + k.val, by omega⟩) (Rows.count (2 ^ g.val) (s + r))
    - P (16 + r) ⟨256 * g.val + k.val, by omega⟩) * M g k n) * S ⟨256 * g.val + n.val, by omega⟩

theorem slab_tile (g : Fin 4) {d : BitVec 32} (hd : d = BitVec.ofNat 32 (2 ^ g.val))
    (h0 : S1056x1024.Slices ![0, 256 * g.val] S512x256) (h1 : S1056x1024.Slices ![256, 256 * g.val] S512x256)
    (h2 : S1056x1024.Slices ![512, 256 * g.val] S512x256) (h3 : S1056x1024.Slices ![544, 256 * g.val] S512x256) (hm : S1056x1024.Slices ![16, 256 * g.val] S1024x256)
    (p : FVec Ideal S1056x1024 .f32) (hi lo : FVec Ideal S1056x1024 .bf16) (x : IVec S1024x1 32) (b0 b1 b2 b3 : Vec Ideal S1x1x256x512 .bf16)
    (w : Vec Ideal S1x256x256 .bf16) (s : Vec Ideal S1x256 .f32)
    (P : ℕ → Fin 1024 → EReal) (M : Fin 4 → Fin 256 → Fin 256 → EReal) (S : Fin 1024 → EReal) (q : ℕ) (hq : q ≤ 7168)
    (hp : ∀ (r : Fin 1056) (n : Fin 1024), p (ix2 r n) = P r.val n) (hhi : ∀ (r : Fin 1056) (n : Fin 1024), hi (ix2 r n) = P r.val n)
    (hlo : ∀ (r : Fin 1056) (n : Fin 1024), lo (ix2 r n) = (0 : EReal))
    (hx : ∀ r : Fin 1024, x (ix2 r 0) = BitVec.ofNat 32 (q + r.val))
    (hb0 : ∀ i x, b0 (ix4 0 0 i x) = weight g.val 0 i.val x.val (start 0)) (hb1 : ∀ i x, b1 (ix4 0 0 i x) = weight g.val 1 i.val x.val (start 1))
    (hb2 : ∀ i x, b2 (ix4 0 0 i x) = weight g.val 2 i.val x.val (start 2)) (hb3 : ∀ i x, b3 (ix4 0 0 i x) = weight g.val 3 i.val x.val (start 3))
    (hw : ∀ k n, w (ix3 0 k n) = M g k n) (hs : ∀ n : Fin 256, s (ix2 0 n) = S ⟨256 * g.val + n.val, by omega⟩)
    (r : Fin 1024) (n : Fin 256) :
    slab (F := Ideal) (256 * g.val) d h0 h1 h2 h3 hm p hi lo x b0 b1 b2 b3 w s (ix2 r n) = tileOut P M S q r.val g n := by
  subst hd
  have hg : 2 ^ g.val ≤ 8 := (Nat.pow_le_pow_right (by omega) (show g.val ≤ 3 by omega)).trans (by norm_num)
  have hr := r.isLt
  refine (slab_apply (256 * g.val) (by omega) _ h0 h1 h2 h3 hm p hi lo x b0 b1 b2 b3 w s r n).trans ?_
  rw [counts_apply (2 ^ g.val) hg x r (q + r.val) (by omega) (hx r), hs]
  unfold tileOut
  refine congrArg (· * S ⟨256 * g.val + n.val, by omega⟩) (Finset.sum_congr rfl fun k _ => ?_)
  rw [hp, hw]
  refine congrArg (· * M g k n) (congrArg (· - P (16 + r.val) ⟨256 * g.val + k.val, by omega⟩) (congrArg (Ideal.div · (Rows.count (2 ^ g.val) (q + r.val))) ?_))
  split
  · next h =>
    refine (strip_window g 0 g h0 hi lo b0 (P · ⟨256 * g.val + k.val, by omega⟩) ⟨r.val, h⟩ k (hb0 _) (fun q => hhi q _) (fun q => hlo q _)).trans
      (Finset.sum_congr rfl fun j _ => congrArg (P · ⟨256 * g.val + k.val, by omega⟩) ?_)
    show 256 * 0 + r.val + 16 - 2 ^ g.val + j = r.val + 16 - 2 ^ g.val + j
    omega
  · split
    · next h h' =>
      refine (strip_window g 1 g h1 hi lo b1 (P · ⟨256 * g.val + k.val, by omega⟩) ⟨r.val - 256, h'⟩ k (hb1 _) (fun q => hhi q _) (fun q => hlo q _)).trans
        (Finset.sum_congr rfl fun j _ => congrArg (P · ⟨256 * g.val + k.val, by omega⟩) ?_)
      show 256 * 1 + (r.val - 256) + 16 - 2 ^ g.val + j = r.val + 16 - 2 ^ g.val + j
      omega
    · split
      · next h h' h'' =>
        refine (strip_window g 2 g h2 hi lo b2 (P · ⟨256 * g.val + k.val, by omega⟩) ⟨r.val - 256 - 256, h''⟩ k (hb2 _) (fun q => hhi q _) (fun q => hlo q _)).trans
          (Finset.sum_congr rfl fun j _ => congrArg (P · ⟨256 * g.val + k.val, by omega⟩) ?_)
        show 256 * 2 + (r.val - 256 - 256) + 16 - 2 ^ g.val + j = r.val + 16 - 2 ^ g.val + j
        omega
      · next h h' h'' =>
        refine (strip_window g 3 g h3 hi lo b3 (P · ⟨256 * g.val + k.val, by omega⟩) ⟨r.val - 256 - 256 - 256, by omega⟩ k (hb3 _) (fun q => hhi q _) (fun q => hlo q _)).trans
          (Finset.sum_congr rfl fun j _ => congrArg (P · ⟨256 * g.val + k.val, by omega⟩) ?_)
        show 256 * 3 + (r.val - 256 - 256 - 256) + 16 - 2 ^ g.val + j = r.val + 16 - 2 ^ g.val + j
        omega

end Cert.PoolIdeal.Point

end
-- ==== Proof.Pool.Blocks.lean ====
module

public import proofs.«01_k».proof.Proof.Pool.Cases
public import proofs.«01_k».proof.Proof.Pool.Pay
public import Idealize.ShloMosaic.Lib.Pointwise

@[expose] public section

set_option maxRecDepth 16384

noncomputable section

namespace Cert.PoolIdeal.Point

open Cert.PoolIdeal Cert.PoolIdeal.Gen Idealize.ShloMosaic Idealize.ShloMosaic.TcCoe Idealize.SL.Sem

variable (m : (ℓ : Loc nD τ sig) → Buf (Elt Ideal) ℓ)

theorem idx : ∀ t : Fin grid0.N,
    win0_0.index t = ![64 * t.val - 1, 0] ∧ win0_1.index t = ![t.val, 0] ∧ win0_2.index t = ![min (64 * (t.val + 1)) 2047, 0] ∧
    win0_3.index t = ![0, 0] ∧ win0_4.index t = ![0, 0] ∧ win0_5.index t = ![0, 0, 0] ∧ win0_6.index t = ![0, 0] ∧
    win0_7.index t = ![t.val, 0] ∧ win0_8.index t = ![t.val, 0] := by decide +kernel

/-- The row of the array that is held at place `p` for tile `i`. -/
def rowOf (i p : ℕ) : Fin 32768 := Fin.ofNat 32768 (1024 * i + p - 16)

theorem rowOf_val (i p : ℕ) (hi : i < 32) (hp : p < 1040 ∨ (p < 1056 ∧ i < 31)) : (rowOf i p).val = 1024 * i + p - 16 :=
  Nat.mod_eq_of_lt (by omega)
theorem tile_lt (t : Fin cfg0.N) : t.val < 32 := lt_of_lt_of_eq t.isLt (show cfg0.N = 32 from N_0)

/-- Row `i` of the input, as launched. -/
def X (c : Dev nD) (i : Fin 32768) (k : Fin 2048) : EReal :=
  (m ((c : Thread nD τ).loc main_arg0) : Vec Ideal S32768x2048 .f32) (ix2 i k)
/-- The norm's gains. -/
def Gain (c : Dev nD) (k : Fin 2048) : EReal := (m ((c : Thread nD τ).loc main_arg1) : Vec Ideal S1x2048 .f32) (ix2 0 k)
/-- The projection's weights. -/
def W (c : Dev nD) (k : Fin 2048) (n : Fin 1024) : EReal :=
  (m ((c : Thread nD τ).loc main_arg2) : Vec Ideal S1x2048x8192 .f32) (ix3 0 k ⟨n.val, by omega⟩)
/-- The matrix of window `g`. -/
def M (c : Dev nD) (g : Fin 4) (k n : Fin 256) : EReal :=
  (m ((c : Thread nD τ).loc main_arg3) : Vec Ideal S1x4x256x256 .f32) (ix4 0 g k n)
/-- The output's scales. -/
def S (c : Dev nD) (n : Fin 1024) : EReal := (m ((c : Thread nD τ).loc main_arg4) : Vec Ideal S1x1024 .f32) (ix2 0 n)

theorem blk0 (c : Dev nD) (t : Fin cfg0.N) (hi : t.val % 8 ≠ 0) (r : Fin 16) (k : Fin 2048) :
    (iblk m c 0 t : Vec Ideal S16x2048 .f32) (ix2 r k) = X m c (rowOf t.val r.val) k := by
  have hr := rowOf_val t.val r.val (tile_lt t) (by omega)
  unfold X
  blk_ext [iblk, V, idx t, hr]

theorem blk1 (c : Dev nD) (t : Fin cfg0.N) (r : Fin 1024) (k : Fin 2048) :
    (iblk m c 1 t : Vec Ideal S1024x2048 .f32) (ix2 r k) = X m c (rowOf t.val (16 + r.val)) k := by
  have hr := rowOf_val t.val (16 + r.val) (tile_lt t) (by omega)
  unfold X
  blk_ext [iblk, V, idx t, hr]

theorem blk2 (c : Dev nD) (t : Fin cfg0.N) (hi : t.val % 8 ≠ 7) (r : Fin 16) (k : Fin 2048) :
    (iblk m c 2 t : Vec Ideal S16x2048 .f32) (ix2 r k) = X m c (rowOf t.val (1040 + r.val)) k := by
  have h31 : t.val < 31 := by have := tile_lt t; omega
  have hr := rowOf_val t.val (1040 + r.val) (tile_lt t) (by omega)
  have hm : min (64 * (t.val + 1)) 2047 = 64 * (t.val + 1) := by omega
  unfold X
  blk_ext [iblk, V, idx t, hr, hm]

theorem blk3 (c : Dev nD) (t : Fin cfg0.N) (k : Fin 2048) :
    (iblk m c 3 t : Vec Ideal S1x2048 .f32) (ix2 0 k) = Gain m c k := by
  unfold Gain
  blk_ext! [iblk, V, idx t]

theorem blk4 (c : Dev nD) (t : Fin cfg0.N) (k : Fin 2048) (n : Fin 1024) :
    (iblk m c 4 t : Vec Ideal S2048x1024 .bf16) (ix2 k n) = W m c k n := by
  unfold W
  blk_ext! [iblk, V, idx t]

theorem blk5 (c : Dev nD) (t : Fin cfg0.N) (g : Fin 4) (k n : Fin 256) :
    (iblk m c 5 t : Vec Ideal S4x256x256 .bf16) (ix3 g k n) = M m c g k n := by
  unfold M
  blk_ext! [iblk, V, idx t]

theorem blk6 (c : Dev nD) (t : Fin cfg0.N) (n : Fin 1024) :
    (iblk m c 6 t : Vec Ideal S1x1024 .f32) (ix2 0 n) = S m c n := by
  unfold S
  blk_ext! [iblk, V, idx t]

/-- Row `i` normed. -/
def N (c : Dev nD) (i : Fin 32768) (k : Fin 2048) : EReal := Rows.rms (X m c i) (Gain m c) k

/-- What is held at place `p` for tile `i`: the normed row, or zeros outside the sequence. -/
def zrow (c : Dev nD) (i p : ℕ) (k : Fin 2048) : EReal :=
  if (p < 16 ∧ i % 8 = 0) ∨ (1040 ≤ p ∧ i % 8 = 7) then 0 else N m c (rowOf i p) k

theorem piece_prev (c : Dev nD) (t : Fin cfg0.N) (r : Fin 16) (k : Fin 2048) :
    k0_pay29 (k0_pay28 (F := Ideal) (grid0.coords t) (iblk m c 0 t) (iblk m c 3 t)) (ix2 r k) = zrow m c t.val r.val k := by
  refine (pay28_apply t _ _ r k).trans ?_
  unfold zrow
  by_cases h : t.val % 8 = 0
  · rw [if_pos h, if_pos (Or.inl ⟨r.isLt, h⟩)]
  · rw [if_neg h, if_neg (by omega)]
    exact congrArg₂ (Rows.rms · · k) (funext fun k => blk0 m c t h r k) (funext fun k => blk3 m c t k)

theorem piece_own (c : Dev nD) (t : Fin cfg0.N) (r : Fin 1024) (k : Fin 2048) :
    k0_pay30 (F := Ideal) (iblk m c 1 t) (iblk m c 3 t) (ix2 r k) = zrow m c t.val (16 + r.val) k := by
  refine (pay30_apply _ _ r k).trans ?_
  unfold zrow
  rw [if_neg (by omega)]
  exact congrArg₂ (Rows.rms · · k) (funext fun k => blk1 m c t r k) (funext fun k => blk3 m c t k)

theorem piece_next (c : Dev nD) (t : Fin cfg0.N) (r : Fin 16) (k : Fin 2048) :
    k0_pay32 (k0_pay31 (F := Ideal) (Scalar.cmpi .slt (Scalar.addi (first t) 1024#32) 8192#32) (iblk m c 2 t) (iblk m c 3 t)) (ix2 r k)
      = zrow m c t.val (1040 + r.val) k := by
  refine (pay31_apply t _ _ r k).trans ?_
  unfold zrow
  by_cases h : t.val % 8 = 7
  · rw [if_pos h, if_pos (Or.inr ⟨by omega, h⟩)]
  · rw [if_neg h, if_neg (by omega)]
    exact congrArg₂ (Rows.rms · · k) (funext fun k => blk2 m c t h r k) (funext fun k => blk3 m c t k)

/-- What is held for a tile, as one array. -/
def heldRows (c : Dev nD) (t : Fin cfg0.N) (y : S1056x2048.Idx) : EReal := zrow m c t.val (y 0).val (y 1)

/-- Three pieces of one array, covering it, are the array. -/
theorem three_pieces (G : S1056x2048.Idx → EReal) (a b : Vec Ideal S16x2048 .bf16) (w : Vec Ideal S1024x2048 .bf16)
    (ha : ∀ x : S16x2048.Idx, a x = G ((Rect.unit (s := S1056x2048) ![1040, 0] ![16, 2048] inb_S1056x2048_S16x2048_1040_0).emb x))
    (hw : ∀ x : S1024x2048.Idx, w x = G ((Rect.unit (s := S1056x2048) ![16, 0] ![1024, 2048] inb_S1056x2048_S1024x2048_16_0).emb x))
    (hb : ∀ x : S16x2048.Idx, b x = G ((Rect.unit (s := S1056x2048) ![0, 0] ![16, 2048] inb_S1056x2048_S16x2048_0_0).emb x))
    (p : Fin 1056) (k : Fin 2048) :
    (View.canon (Val := Elt Ideal) (e := .bf16) [⟨Rect.unit ![1040, 0] ![16, 2048] inb_S1056x2048_S16x2048_1040_0, a⟩,
      ⟨Rect.unit ![16, 0] ![1024, 2048] inb_S1056x2048_S1024x2048_16_0, w⟩,
      ⟨Rect.unit ![0, 0] ![16, 2048] inb_S1056x2048_S16x2048_0_0, b⟩] : Vec Ideal S1056x2048 .bf16) (ix2 p k) = G (ix2 p k) := by
  refine View.canon_apply_of_pieces (Val := Elt Ideal) (e := .bf16) (S := S1056x2048) G _ ?_ (ix2 p k) ?_
  · exact List.forall_mem_cons.mpr ⟨ha, List.forall_mem_cons.mpr ⟨hw, List.forall_mem_cons.mpr ⟨hb, fun q hq => absurd hq List.not_mem_nil⟩⟩⟩
  · have hp := p.isLt
    have hk := k.isLt
    by_cases h1 : p.val < 16
    · refine ⟨_, List.mem_cons_of_mem _ (List.mem_cons_of_mem _ (List.mem_cons_self)), (Rect.mem_set_unit (inb := inb_S1056x2048_S16x2048_0_0)).mpr fun a => ?_⟩
      match a with
      | ⟨0, _⟩ => show 0 ≤ p.val ∧ p.val < 0 + 16; omega
      | ⟨1, _⟩ => show 0 ≤ k.val ∧ k.val < 0 + 2048; omega
    · by_cases h2 : p.val < 1040
      · refine ⟨_, List.mem_cons_of_mem _ (List.mem_cons_self), (Rect.mem_set_unit (inb := inb_S1056x2048_S1024x2048_16_0)).mpr fun a => ?_⟩
        match a with
        | ⟨0, _⟩ => show 16 ≤ p.val ∧ p.val < 16 + 1024; omega
        | ⟨1, _⟩ => show 0 ≤ k.val ∧ k.val < 0 + 2048; omega
      · refine ⟨_, List.mem_cons_self, (Rect.mem_set_unit (inb := inb_S1056x2048_S16x2048_1040_0)).mpr fun a => ?_⟩
        match a with
        | ⟨0, _⟩ => show 1040 ≤ p.val ∧ p.val < 1040 + 16; omega
        | ⟨1, _⟩ => show 0 ≤ k.val ∧ k.val < 0 + 2048; omega

theorem at_prev (c : Dev nD) (t : Fin cfg0.N) (x : S16x2048.Idx) :
    k0_pay29 (k0_pay28 (F := Ideal) (grid0.coords t) (iblk m c 0 t) (iblk m c 3 t)) x = heldRows m c t ((Rect.unit (s := S1056x2048) ![0, 0] ![16, 2048] inb_S1056x2048_S16x2048_0_0).emb x) := by
  refine ((congrArg (k0_pay29 (k0_pay28 (F := Ideal) (grid0.coords t) (iblk m c 0 t) (iblk m c 3 t))) (eq_ix2 x)).trans (piece_prev m c t (x 0) (x 1))).trans ?_
  refine congrArg₂ (zrow m c t.val) ?_ (Fin.ext ?_)
  · show (x 0).val = 0 + 1 * (x 0).val; omega
  · show (x 1).val = 0 + 1 * (x 1).val; omega

theorem at_own (c : Dev nD) (t : Fin cfg0.N) (x : S1024x2048.Idx) :
    k0_pay30 (F := Ideal) (iblk m c 1 t) (iblk m c 3 t) x = heldRows m c t ((Rect.unit (s := S1056x2048) ![16, 0] ![1024, 2048] inb_S1056x2048_S1024x2048_16_0).emb x) := by
  refine ((congrArg (k0_pay30 (F := Ideal) (iblk m c 1 t) (iblk m c 3 t)) (eq_ix2 x)).trans (piece_own m c t (x 0) (x 1))).trans ?_
  refine congrArg₂ (zrow m c t.val) ?_ (Fin.ext ?_)
  · show 16 + (x 0).val = 16 + 1 * (x 0).val; omega
  · show (x 1).val = 0 + 1 * (x 1).val; omega

theorem at_next (c : Dev nD) (t : Fin cfg0.N) (x : S16x2048.Idx) :
    k0_pay32 (k0_pay31 (F := Ideal) (Scalar.cmpi .slt (Scalar.addi (first t) 1024#32) 8192#32) (iblk m c 2 t) (iblk m c 3 t)) x = heldRows m c t ((Rect.unit (s := S1056x2048) ![1040, 0] ![16, 2048] inb_S1056x2048_S16x2048_1040_0).emb x) := by
  refine ((congrArg (k0_pay32 (k0_pay31 (F := Ideal) (Scalar.cmpi .slt (Scalar.addi (first t) 1024#32) 8192#32) (iblk m c 2 t) (iblk m c 3 t))) (eq_ix2 x)).trans (piece_next m c t (x 0) (x 1))).trans ?_
  refine congrArg₂ (zrow m c t.val) ?_ (Fin.ext ?_)
  · show 1040 + (x 0).val = 1040 + 1 * (x 0).val; omega
  · show (x 1).val = 0 + 1 * (x 1).val; omega

/-- The held rows, place by place. -/
theorem held_apply (c : Dev nD) (t : Fin cfg0.N) (p : Fin 1056) (k : Fin 2048) :
    held m c t (ix2 p k) = zrow m c t.val p.val k :=
  three_pieces (heldRows m c t) _ _ _ (at_next m c t) (at_own m c t) (at_prev m c t) p k

end Cert.PoolIdeal.Point

end
-- ==== Proof.Pool.Result.lean ====
module

public import proofs.«01_k».proof.Proof.Pool.Tile
public import proofs.«01_k».proof.Proof.Pool.Blocks
public import Idealize.ShloMosaic.Lib.Pipeline.ValueKit

@[expose] public section

set_option maxRecDepth 16384

noncomputable section

namespace Cert.PoolIdeal.Point

open Cert.PoolIdeal Cert.PoolIdeal.Gen Idealize.ShloMosaic Idealize.ShloMosaic.TcCoe Idealize.SL.Sem
open Cert.Rows (IsReal)

variable (m : (ℓ : Loc nD τ sig) → Buf (Elt Ideal) ℓ)

/-- The projection of what is held at place `q` for tile `i`. -/
def P (c : Dev nD) (i q : ℕ) (n : Fin 1024) : EReal := ∑ k, zrow m c i q k * W m c k n

/-- The gain and the pooling columns of the weights are real. -/
def Reals (c : Dev nD) : Prop := (∀ k, IsReal (Gain m c k)) ∧ ∀ k n, IsReal (W m c k n)

theorem N_real (c : Dev nD) (h : Reals m c) (i : Fin 32768) (k : Fin 2048) : IsReal (N m c i k) := Rows.rms_real _ _ h.1 k

theorem P_real (c : Dev nD) (h : Reals m c) (i q : ℕ) (n : Fin 1024) : IsReal (P m c i q n) := by
  refine IsReal.sum _ fun k => IsReal.mul ?_ (h.2 k n)
  unfold zrow
  split
  · exact IsReal.zero
  · exact N_real m c h _ k

/-- A block of the weights as loaded. -/
theorem band (b : Vec Ideal S4x4x256x512 .bf16) (g d : Fin 4) (inb : ∀ a, (![g.val, d.val, 0, 0] : Fin 4 → ℕ) a + (![1, 1, 256, 512] : Fin 4 → ℕ) a ≤ S4x4x256x512.size a)
    (i : Fin 256) (x : Fin 512) :
    (View.ld b (Rect.unit (s := S4x4x256x512) ![g.val, d.val, 0, 0] ![1, 1, 256, 512] inb) : Vec Ideal S1x1x256x512 .bf16) (ix4 0 0 i x) = b (ix4 g d i x) := by
  refine congrArg b (funext fun a => Fin.ext ?_)
  match a with
  | ⟨0, _⟩ => show g.val + 1 * 0 = g.val; omega
  | ⟨1, _⟩ => show d.val + 1 * 0 = d.val; omega
  | ⟨2, _⟩ => show 0 + 1 * i.val = i.val; omega
  | ⟨3, _⟩ => show 0 + 1 * x.val = x.val; omega

/-- A window's matrix as loaded. -/
theorem matrix (b : Vec Ideal S4x256x256 .bf16) (g : Fin 4) (inb : ∀ a, (![g.val, 0, 0] : Fin 3 → ℕ) a + (![1, 256, 256] : Fin 3 → ℕ) a ≤ S4x256x256.size a) (k n : Fin 256) :
    (View.ld b (Rect.unit (s := S4x256x256) ![g.val, 0, 0] ![1, 256, 256] inb) : Vec Ideal S1x256x256 .bf16) (ix3 0 k n) = b (ix3 g k n) := by
  refine congrArg b (funext fun a => Fin.ext ?_)
  match a with
  | ⟨0, _⟩ => show g.val + 1 * 0 = g.val; omega
  | ⟨1, _⟩ => show 0 + 1 * k.val = k.val; omega
  | ⟨2, _⟩ => show 0 + 1 * n.val = n.val; omega

/-- A window's scales as loaded. -/
theorem scales (b : Vec Ideal S1x1024 .f32) (g : Fin 4) (inb : ∀ a, (![0, 256 * g.val] : Fin 2 → ℕ) a + (![1, 256] : Fin 2 → ℕ) a ≤ S1x1024.size a) (n : Fin 256) :
    (View.ld b (Rect.unit (s := S1x1024) ![0, 256 * g.val] ![1, 256] inb) : Vec Ideal S1x256 .f32) (ix2 0 n) = b (ix2 0 ⟨256 * g.val + n.val, by omega⟩) := by
  refine congrArg b (funext fun a => Fin.ext ?_)
  match a with
  | ⟨0, _⟩ => show 0 + 1 * 0 = 0; omega
  | ⟨1, _⟩ => show 256 * g.val + 1 * n.val = 256 * g.val + n.val; omega

/-- A tile's output block, as one array. -/
def tile (c : Dev nD) (t : Fin cfg0.N) (y : S1024x1024.Idx) : EReal :=
  tileOut (P m c t.val) (M m c) (S m c) (1024 * (t.val % 8)) (y 0).val (Fin.ofNat 4 ((y 1).val / 256)) (Fin.ofNat 256 ((y 1).val % 256))

/-- One window's columns of the block are those of the array. -/
theorem columns (c : Dev nD) (t : Fin cfg0.N) (h : Vec Ideal S1056x2048 .bf16) (b : Vec Ideal S4x4x256x512 .bf16)
    (hh : ∀ p k, h (ix2 p k) = zrow m c t.val p.val k) (hb : ∀ (g d : Fin 4) i x, b (ix4 g d i x) = weight g.val d.val i.val x.val (start d.val)) (hR : Reals m c)
    (g : Fin 4) {d : BitVec 32} (hd : d = BitVec.ofNat 32 (2 ^ g.val))
    (inb : ∀ a, (![0, 256 * g.val] : Fin 2 → ℕ) a + (![1024, 256] : Fin 2 → ℕ) a ≤ S1024x1024.size a)
    (h0 : S1056x1024.Slices ![0, 256 * g.val] S512x256) (h1 : S1056x1024.Slices ![256, 256 * g.val] S512x256)
    (h2 : S1056x1024.Slices ![512, 256 * g.val] S512x256) (h3 : S1056x1024.Slices ![544, 256 * g.val] S512x256) (hm : S1056x1024.Slices ![16, 256 * g.val] S1024x256)
    (i0 : ∀ a, (![g.val, 0, 0, 0] : Fin 4 → ℕ) a + (![1, 1, 256, 512] : Fin 4 → ℕ) a ≤ S4x4x256x512.size a)
    (i1 : ∀ a, (![g.val, 1, 0, 0] : Fin 4 → ℕ) a + (![1, 1, 256, 512] : Fin 4 → ℕ) a ≤ S4x4x256x512.size a)
    (i2 : ∀ a, (![g.val, 2, 0, 0] : Fin 4 → ℕ) a + (![1, 1, 256, 512] : Fin 4 → ℕ) a ≤ S4x4x256x512.size a)
    (i3 : ∀ a, (![g.val, 3, 0, 0] : Fin 4 → ℕ) a + (![1, 1, 256, 512] : Fin 4 → ℕ) a ≤ S4x4x256x512.size a)
    (im : ∀ a, (![g.val, 0, 0] : Fin 3 → ℕ) a + (![1, 256, 256] : Fin 3 → ℕ) a ≤ S4x256x256.size a)
    (is : ∀ a, (![0, 256 * g.val] : Fin 2 → ℕ) a + (![1, 256] : Fin 2 → ℕ) a ≤ S1x1024.size a) (x : S1024x256.Idx) :
    slab (F := Ideal) (256 * g.val) d h0 h1 h2 h3 hm (k0_pay33 h (iblk m c 4 t)) (k0_pay34 h (iblk m c 4 t)) (k0_pay35 h (iblk m c 4 t)) (k0_pay36 (first t))
      (View.ld b (Rect.unit (s := S4x4x256x512) ![g.val, 0, 0, 0] ![1, 1, 256, 512] i0)) (View.ld b (Rect.unit (s := S4x4x256x512) ![g.val, 1, 0, 0] ![1, 1, 256, 512] i1))
      (View.ld b (Rect.unit (s := S4x4x256x512) ![g.val, 2, 0, 0] ![1, 1, 256, 512] i2)) (View.ld b (Rect.unit (s := S4x4x256x512) ![g.val, 3, 0, 0] ![1, 1, 256, 512] i3))
      (View.ld (iblk m c 5 t) (Rect.unit (s := S4x256x256) ![g.val, 0, 0] ![1, 256, 256] im))
      (View.ld (iblk m c 6 t) (Rect.unit (s := S1x1024) ![0, 256 * g.val] ![1, 256] is)) x
      = tile m c t ((Rect.unit (s := S1024x1024) ![0, 256 * g.val] ![1024, 256] inb).emb x) := by
  have hs : ∀ (r : Fin 1056) (n : Fin 1024), (∑ k, h (ix2 r k) * (iblk m c 4 t : Vec Ideal S2048x1024 .bf16) (ix2 k n)) = P m c t.val r.val n :=
    fun r n => Finset.sum_congr rfl fun k _ => congrArg₂ (fun (a b : EReal) => a * b) (hh r k) (blk4 m c t k n)
  have e : x = (ix2 (x 0) (x 1) : S1024x256.Idx) := eq_ix2 x
  have l1 : (x 1).val < 256 := (x 1).isLt
  refine (congrArg (slab (F := Ideal) _ _ _ _ _ _ _ _ _ _ _ _ _ _ _ _ _) e).trans ((slab_tile g hd h0 h1 h2 h3 hm _ _ _ _ _ _ _ _ _ _
    (P m c t.val) (M m c) (S m c) (1024 * (t.val % 8)) (by omega)
    (fun r n => (pay33_apply h _ r n).trans (hs r n)) (fun r n => (pay34_apply h _ r n).trans (hs r n))
    (fun r n => (pay35_apply h _ r n).trans ((congrArg₂ (fun (a b : EReal) => a - b) (hs r n) (hs r n)).trans (P_real m c hR _ _ _).sub_self)) (fun r => ?_)
    (fun i x => (band b g 0 i0 i x).trans (hb g 0 i x)) (fun i x => (band b g 1 i1 i x).trans (hb g 1 i x))
    (fun i x => (band b g 2 i2 i x).trans (hb g 2 i x)) (fun i x => (band b g 3 i3 i x).trans (hb g 3 i x))
    (fun k n => (matrix _ g im k n).trans (blk5 m c t g k n)) (fun n => (scales _ g is n).trans (blk6 m c t _)) (x 0) (x 1)).trans ?_)
  · refine (pay36_apply (first t) r).trans ?_
    rw [first_eq t, ← BitVec.ofNat_add]
  · unfold tile
    have a0 : ((Rect.unit (s := S1024x1024) ![0, 256 * g.val] ![1024, 256] inb).emb x 0).val = (x 0).val := by
      show 0 + 1 * (x 0).val = (x 0).val; omega
    have a1 : ((Rect.unit (s := S1024x1024) ![0, 256 * g.val] ![1024, 256] inb).emb x 1).val = 256 * g.val + (x 1).val := by
      show 256 * g.val + 1 * (x 1).val = _; omega
    rw [a0, a1]
    have f1 : Fin.ofNat 4 ((256 * g.val + (x 1).val) / 256) = g := Fin.ext (by show _ % 4 = g.val; omega)
    have f2 : Fin.ofNat 256 ((256 * g.val + (x 1).val) % 256) = (x 1 : Fin 256) := Fin.ext (by show _ % 256 = (x 1).val; omega)
    rw [f1, f2]

/-- The block's element lies in its window's columns. -/
theorem mem_columns (g : Fin 4) (inb : ∀ a, (![0, 256 * g.val] : Fin 2 → ℕ) a + (![1024, 256] : Fin 2 → ℕ) a ≤ S1024x1024.size a) (r n : Fin 1024)
    (h : 256 * g.val ≤ n.val ∧ n.val < 256 * g.val + 256) :
    (ix2 r n : S1024x1024.Idx) ∈ (Rect.unit (s := S1024x1024) ![0, 256 * g.val] ![1024, 256] inb).set := by
  have hr := r.isLt
  refine (Rect.mem_set_unit (inb := inb)).mpr fun a => ?_
  match a with
  | ⟨0, _⟩ => show 0 ≤ r.val ∧ r.val < 0 + 1024; omega
  | ⟨1, _⟩ => show 256 * g.val ≤ n.val ∧ n.val < 256 * g.val + 256; omega

/-- The output block of a tile, the held rows and the weights being those they should. -/
theorem pooled_apply (c : Dev nD) (t : Fin cfg0.N) (h : Vec Ideal S1056x2048 .bf16) (b : Vec Ideal S4x4x256x512 .bf16)
    (hh : ∀ p k, h (ix2 p k) = zrow m c t.val p.val k) (hb : ∀ (g d : Fin 4) i x, b (ix4 g d i x) = weight g.val d.val i.val x.val (start d.val)) (hR : Reals m c)
    (r n : Fin 1024) : pooled m c t h b (ix2 r n) = tile m c t (ix2 r n) := by
  unfold pooled
  refine View.canon_apply_of_pieces (Val := Elt Ideal) (e := .bf16) (S := S1024x1024) (tile m c t) _ ?_ (ix2 r n) ?_
  · exact List.forall_mem_cons.mpr ⟨columns m c t h b hh hb hR 3 rfl inb_S1024x1024_S1024x256_0_768
      slices_S1056x1024_o0_768_S512x256 slices_S1056x1024_o256_768_S512x256 slices_S1056x1024_o512_768_S512x256 slices_S1056x1024_o544_768_S512x256 slices_S1056x1024_o16_768_S1024x256
      inb_S4x4x256x512_S1x1x256x512_3_0_0_0 inb_S4x4x256x512_S1x1x256x512_3_1_0_0 inb_S4x4x256x512_S1x1x256x512_3_2_0_0 inb_S4x4x256x512_S1x1x256x512_3_3_0_0 inb_S4x256x256_S1x256x256_3_0_0 inb_S1x1024_S1x256_0_768,
    List.forall_mem_cons.mpr ⟨columns m c t h b hh hb hR 2 rfl inb_S1024x1024_S1024x256_0_512
      slices_S1056x1024_o0_512_S512x256 slices_S1056x1024_o256_512_S512x256 slices_S1056x1024_o512_512_S512x256 slices_S1056x1024_o544_512_S512x256 slices_S1056x1024_o16_512_S1024x256
      inb_S4x4x256x512_S1x1x256x512_2_0_0_0 inb_S4x4x256x512_S1x1x256x512_2_1_0_0 inb_S4x4x256x512_S1x1x256x512_2_2_0_0 inb_S4x4x256x512_S1x1x256x512_2_3_0_0 inb_S4x256x256_S1x256x256_2_0_0 inb_S1x1024_S1x256_0_512,
    List.forall_mem_cons.mpr ⟨columns m c t h b hh hb hR 1 rfl inb_S1024x1024_S1024x256_0_256
      slices_S1056x1024_o0_256_S512x256 slices_S1056x1024_o256_256_S512x256 slices_S1056x1024_o512_256_S512x256 slices_S1056x1024_o544_256_S512x256 slices_S1056x1024_o16_256_S1024x256
      inb_S4x4x256x512_S1x1x256x512_1_0_0_0 inb_S4x4x256x512_S1x1x256x512_1_1_0_0 inb_S4x4x256x512_S1x1x256x512_1_2_0_0 inb_S4x4x256x512_S1x1x256x512_1_3_0_0 inb_S4x256x256_S1x256x256_1_0_0 inb_S1x1024_S1x256_0_256,
    List.forall_mem_cons.mpr ⟨columns m c t h b hh hb hR 0 rfl inb_S1024x1024_S1024x256_0_0
      slices_S1056x1024_o0_0_S512x256 slices_S1056x1024_o256_0_S512x256 slices_S1056x1024_o512_0_S512x256 slices_S1056x1024_o544_0_S512x256 slices_S1056x1024_o16_0_S1024x256
      inb_S4x4x256x512_S1x1x256x512_0_0_0_0 inb_S4x4x256x512_S1x1x256x512_0_1_0_0 inb_S4x4x256x512_S1x1x256x512_0_2_0_0 inb_S4x4x256x512_S1x1x256x512_0_3_0_0 inb_S4x256x256_S1x256x256_0_0_0 inb_S1x1024_S1x256_0_0,
    fun q hq => absurd hq List.not_mem_nil⟩⟩⟩⟩
  · have hn := n.isLt
    by_cases h0 : n.val < 256
    · exact ⟨_, List.mem_cons_of_mem _ (List.mem_cons_of_mem _ (List.mem_cons_of_mem _ (List.mem_cons_self))), mem_columns 0 inb_S1024x1024_S1024x256_0_0 r n (by show 256 * 0 ≤ n.val ∧ n.val < 256 * 0 + 256; omega)⟩
    by_cases h1 : n.val < 512
    · exact ⟨_, List.mem_cons_of_mem _ (List.mem_cons_of_mem _ (List.mem_cons_self)), mem_columns 1 inb_S1024x1024_S1024x256_0_256 r n (by show 256 * 1 ≤ n.val ∧ n.val < 256 * 1 + 256; omega)⟩
    by_cases h2 : n.val < 768
    · exact ⟨_, List.mem_cons_of_mem _ (List.mem_cons_self), mem_columns 2 inb_S1024x1024_S1024x256_0_512 r n (by show 256 * 2 ≤ n.val ∧ n.val < 256 * 2 + 256; omega)⟩
    · exact ⟨_, List.mem_cons_self, mem_columns 3 inb_S1024x1024_S1024x256_0_768 r n (by show 256 * 3 ≤ n.val ∧ n.val < 256 * 3 + 256; omega)⟩

theorem fst_A (c : Dev nD) (t : Fin cfg0.N) (h0 : t.val % 32 = 0) :
    (outsAt0 m c t.val t.isLt).1 = pooled m c t (held m c t) weights := by rw [after_A m c t h0]
theorem snd_A (c : Dev nD) (t : Fin cfg0.N) (h0 : t.val % 32 = 0) :
    (outsAt0 m c t.val t.isLt).2.1 = own (held m c t) := by rw [after_A m c t h0]
theorem thd_A (c : Dev nD) (t : Fin cfg0.N) (h0 : t.val % 32 = 0) :
    (outsAt0 m c t.val t.isLt).2.2 = weights := by rw [after_A m c t h0]
theorem fst_B (c : Dev nD) (t : Fin cfg0.N) (h0 : ¬t.val % 32 = 0) : (outsAt0 m c t.val t.isLt).1
    = pooled m c t (held m c t) (outsAt0 m c (t.val - 1) (Nat.lt_of_le_of_lt (Nat.sub_le _ _) t.isLt)).2.2 := by
  rw [after_B m c t h0 _ rfl]
theorem snd_B (c : Dev nD) (t : Fin cfg0.N) (h0 : ¬t.val % 32 = 0) : (outsAt0 m c t.val t.isLt).2.1 = own (held m c t) := by
  rw [after_B m c t h0 _ rfl]
theorem thd_B (c : Dev nD) (t : Fin cfg0.N) (h0 : ¬t.val % 32 = 0) : (outsAt0 m c t.val t.isLt).2.2
    = (outsAt0 m c (t.val - 1) (Nat.lt_of_le_of_lt (Nat.sub_le _ _) t.isLt)).2.2 := by
  rw [after_B m c t h0 _ rfl]

/-- The weights kept after every point are those of the first. -/
theorem kept_eq (c : Dev nD) (n : ℕ) : ∀ t : Fin cfg0.N, t.val = n → (outsAt0 m c t.val t.isLt).2.2 = weights := by
  induction n with
  | zero => exact fun t ht => thd_A m c t (by omega)
  | succ n ih =>
    intro t ht
    have hN := tile_lt t
    rw [thd_B m c t (by omega)]
    exact ih ⟨t.val - 1, Nat.lt_of_le_of_lt (Nat.sub_le _ _) t.isLt⟩ (by show t.val - 1 = n; omega)

/-- The output block after a point. -/
theorem after_eq (c : Dev nD) (hR : Reals m c) (t : Fin cfg0.N) (r n : Fin 1024) : (outsAt0 m c t.val t.isLt).1 (ix2 r n) = tile m c t (ix2 r n) := by
  by_cases h0 : t.val % 32 = 0
  · rw [fst_A m c t h0]
    exact pooled_apply m c t _ _ (held_apply m c t) weights_apply hR r n
  · rw [fst_B m c t h0, ← thd_B m c t h0, kept_eq m c t.val t rfl]
    exact pooled_apply m c t _ _ (held_apply m c t) weights_apply hR r n

theorem own_apply (h : Vec Ideal S1056x2048 .bf16) (r : Fin 1024) (k : Fin 2048) : own h (ix2 r k) = h (ix2 ⟨16 + r.val, by omega⟩ k) := by
  refine congrArg h (funext fun a => Fin.ext ?_)
  match a with
  | ⟨0, _⟩ => show 16 + 1 * r.val = 16 + r.val; omega
  | ⟨1, _⟩ => show 0 + 1 * k.val = k.val; omega

/-- The normed rows after a point. -/
theorem own_eq (c : Dev nD) (t : Fin cfg0.N) (r : Fin 1024) (k : Fin 2048) :
    (outsAt0 m c t.val t.isLt).2.1 (ix2 r k) = N m c (rowOf t.val (16 + r.val)) k := by
  have e : (outsAt0 m c t.val t.isLt).2.1 = own (held m c t) := by
    by_cases h0 : t.val % 32 = 0
    · exact snd_A m c t h0
    · exact snd_B m c t h0
  rw [e]
  refine (own_apply (held m c t) r k).trans ((held_apply m c t _ k).trans ?_)
  unfold zrow
  rw [if_neg (by show ¬ ((16 + r.val < 16 ∧ t.val % 8 = 0) ∨ (1040 ≤ 16 + r.val ∧ t.val % 8 = 7)); omega)]

/-- The projection of row `i`. -/
def U (c : Dev nD) (i : Fin 32768) (n : Fin 1024) : EReal := ∑ k, N m c i k * W m c k n

/-- What is projected for a tile is the sequence's projection between rows of zeros. -/
theorem P_eq (c : Dev nD) (t q : ℕ) (ht : t < 32) (hq : q < 1056) (n : Fin 1024) :
    P m c t q n = Rows.padded (fun s => U m c (Fin.ofNat 32768 (t / 8 * 8192 + s)) n) (1024 * (t % 8) + q) := by
  unfold P Rows.padded zrow
  by_cases h : (q < 16 ∧ t % 8 = 0) ∨ (1040 ≤ q ∧ t % 8 = 7)
  · rw [if_neg (by omega)]
    exact Finset.sum_eq_zero fun k _ => by rw [if_pos h, zero_mul]
  · rw [if_pos (by omega)]
    refine Finset.sum_congr rfl fun k _ => ?_
    rw [if_neg h]
    refine congrArg (fun i => N m c i k * W m c k n) (Fin.ext ?_)
    show (1024 * t + q - 16) % 32768 = (t / 8 * 8192 + (1024 * (t % 8) + q - 16)) % 32768
    congr 1
    omega

/-- A tile's output at a row is the mixer at that row of the array. -/
theorem tile_eq (c : Dev nD) (t : Fin cfg0.N) (r n : Fin 1024) :
    tile m c t (ix2 r n) = Rows.pool (U m c) (M m c) (S m c) (rowOf t.val (16 + r.val)) n := by
  have ht := tile_lt t
  have hr := r.isLt
  have v : (rowOf t.val (16 + r.val)).val = 1024 * t.val + (16 + r.val) - 16 := rowOf_val _ _ ht (by omega)
  have v1 : (rowOf t.val (16 + r.val)).val / 8192 = t.val / 8 := by omega
  have v2 : (rowOf t.val (16 + r.val)).val % 8192 = 1024 * (t.val % 8) + r.val := by omega
  show tileOut (P m c t.val) (M m c) (S m c) (1024 * (t.val % 8)) r.val (Fin.ofNat 4 (n.val / 256)) (Fin.ofNat 256 (n.val % 256)) = _
  unfold Rows.pool
  generalize Fin.ofNat 4 (n.val / 256) = g
  generalize Fin.ofNat 256 (n.val % 256) = e
  unfold tileOut Rows.poolAt
  have hg : 2 ^ g.val ≤ 8 := (Nat.pow_le_pow_right (by omega) (show g.val ≤ 3 by omega)).trans (by norm_num)
  refine congrArg (· * S m c ⟨256 * g.val + e.val, by omega⟩) (Finset.sum_congr rfl fun k _ => congrArg (· * M m c g k e) ?_)
  rw [v1, v2]
  refine congrArg₂ (fun a b : EReal => Ideal.div a (Rows.count (2 ^ g.val) (1024 * (t.val % 8) + r.val)) - b) (Finset.sum_congr rfl fun j hj => ?_) ?_
  · have hj' := Finset.mem_range.mp hj
    rw [P_eq m c _ _ ht (by omega)]
    refine congrArg (Rows.padded _) ?_
    omega
  · rw [P_eq m c _ _ ht (by omega)]
    unfold Rows.padded
    rw [if_pos (by omega)]
    refine congrArg (U m c · _) (Fin.ext ?_)
    rw [v]
    show (t.val / 8 * 8192 + (1024 * (t.val % 8) + (16 + r.val) - 16)) % 32768 = _
    omega

/-- The mixer's array after the run. -/
theorem final (c : Dev nD) (hR : Reals m c) : (dats m 0 c).arrAt 7 cfg0.N
    = (fun i => Rows.pool (U m c) (M m c) (S m c) (i 0) (i 1) : Vec Ideal S32768x1024 .bf16) := by
  refine (dats m 0 c).arrAt_eq_of_covers 7 _ (by decide +kernel) fun t hf y => ?_
  blk_simp
  rw [after0_7]
  have hy : (y 0 : Fin 1024).val < 1024 := (y 0 : Fin 1024).isLt
  have hr := rowOf_val t.val (16 + (y 0 : Fin 1024).val) (tile_lt t) (by omega)
  have h0 : (win0_7.blk t).view.emb y 0 = rowOf t.val (16 + (y 0 : Fin 1024).val) := by
    apply Fin.ext
    rw [hr]
    blk_simp [idx t]
    omega
  have h1 : (win0_7.blk t).view.emb y 1 = (y 1 : Fin 1024) := by
    apply Fin.ext
    blk_simp [idx t]
  rw [h0, h1]
  exact (congrArg (outsAt0 m c t.val t.isLt).1 (eq_ix2 (n0 := 1024) (n1 := 1024) y)).trans
    ((after_eq m c hR t (y 0) (y 1)).trans (tile_eq m c t (y 0) (y 1)))

/-- The normed rows' array after the run. -/
theorem final_rows (c : Dev nD) : (dats m 0 c).arrAt 8 cfg0.N
    = (fun i => N m c (i 0) (i 1) : Vec Ideal S32768x2048 .bf16) := by
  refine (dats m 0 c).arrAt_eq_of_covers 8 _ (by decide +kernel) fun t hf y => ?_
  blk_simp
  rw [after0_8]
  have hy : (y 0 : Fin 1024).val < 1024 := (y 0 : Fin 1024).isLt
  have hr := rowOf_val t.val (16 + (y 0 : Fin 1024).val) (tile_lt t) (by omega)
  have h0 : (win0_8.blk t).view.emb y 0 = rowOf t.val (16 + (y 0 : Fin 1024).val) := by
    apply Fin.ext
    rw [hr]
    blk_simp [idx t]
    omega
  have h1 : (win0_8.blk t).view.emb y 1 = (y 1 : Fin 2048) := by
    apply Fin.ext
    blk_simp [idx t]
  rw [h0, h1]
  exact (congrArg (outsAt0 m c t.val t.isLt).2.1 (eq_ix2 (n0 := 1024) (n1 := 2048) y)).trans (own_eq m c t (y 0) (y 1))

variable (ρ : Dev nD → PrngReg)

/-- The run: both arrays, and the arguments as launched. -/
theorem run : θ_run (defs (F := Ideal)) (onTc (τ := τ) (main (F := Ideal))) ⟨m, fun _ => 0, ρ⟩ fun r => ∀ c : Dev nD,
      r.2.mem ((c : Thread nD τ).loc main_v9_0) = (dats m 0 c).arrAt 7 cfg0.N
      ∧ r.2.mem ((c : Thread nD τ).loc main_v9_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 7, (h c).1 8, ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.PoolIdeal.Point

end
-- ==== Proof.Pool.Ref.lean ====
module

public import proofs.«01_k».proof.Proof.Gen.PoolRefIdeal.Read
public import proofs.«01_k».proof.Proof.Rows
public import proofs.«01_k».proof.Proof.Pool.Window
public import Idealize.ShloMosaic.Lib.Pointwise
public import Idealize.ShloMosaic.PureOps.Ideal.Laws

@[expose] public section

set_option maxRecDepth 16384

noncomputable section

namespace Cert.PoolRefIdeal.Math

open Cert.PoolRefIdeal Cert.PoolRefIdeal.Gen Cert.PoolRefIdeal.Read Idealize.ShloMosaic Idealize.ShloMosaic.TcCoe Idealize.SL.Sem

variable {F : FTy → Type} [FloatOps F]

/-- A position kept within the sequence. -/
def clipped (x : IVec S8192 32) : IVec S8192 32 :=
  minsi (broadcastInDim S8192 ![] bcast_S_S8192 (constantI S_ 32 8192#32))
    (maxsi (broadcastInDim S8192 ![] bcast_S_S8192 (constantI S_ 32 0#32)) x)

/-- The end of each row's window. -/
def ends (d : BitVec 32) : IVec S8192 32 :=
  clipped (addi (iotaInDim S8192 32 0) (broadcastInDim S8192 ![] bcast_S_S8192 (constantI S_ 32 d)))

/-- The start of each row's window. -/
def starts (d : BitVec 32) : IVec S8192 32 :=
  clipped (subi (iotaInDim S8192 32 0) (broadcastInDim S8192 ![] bcast_S_S8192 (constantI S_ 32 d)))

/-- The running sums, with none before the first row. -/
def sums (u : FVec F S4x8192x256 .f32) : FVec F S4x8193x256 .f32 :=
  concatenate S4x8193x256 1 [⟨S4x1x256, broadcastInDim S4x1x256 ![] bcast_S_S4x1x256 (constant S_ .f32 0x00000000#32)⟩,
    ⟨S4x8192x256, Host.reduceWindowAdd ![1, 8192, 1] ![1, 1, 1] ![0, 8191, 0] ![0, 0, 0] u
      (broadcastInDim S_ ![] bcast_S_S_ (constant S_ .f32 0x00000000#32)) reduceWindows_S4x8192x256_S4x8192x256_w1s1p0_0_w8192s1p8191_0_w1s1p0_0 h_S_⟩]
    concatenates_S4x1x256_S4x8192x256_S4x8193x256_d1

/-- The running sums at given positions. -/
def sumsAt (u : FVec F S4x8192x256 .f32) (x : IVec S8192 32) : FVec F S4x8192x256 .f32 :=
  Host.gather gather_S4x8193x256_S8192x1_S4x8192x256_02_1_n_n_1_1_41256 (sums u)
    (broadcastInDim S8192x1 ![0] bcast_S8192_S8192x1_0
      (select (cmpi .slt x (broadcastInDim S8192 ![] bcast_S_S8192 (constantI S_ 32 0#32)))
        (addi x (broadcastInDim S8192 ![] bcast_S_S8192 (constantI S_ 32 8193#32))) x))

/-- The centred means less the rows. -/
def centred (d : BitVec 32) (u : FVec F S4x8192x256 .f32) : FVec F S4x8192x256 .f32 :=
  subf (Host.divf (subf (sumsAt u (ends d)) (sumsAt u (starts d)))
    (broadcastInDim S4x8192x256 ![0, 1, 2] bcast_S1x8192x1_S4x8192x256_0_1_2
      (broadcastInDim S1x8192x1 ![1] bcast_S8192_S1x8192x1_1 (sitofp .f32 (subi (ends d) (starts d)))))) u

theorem centred_0 (x0 x1 x2) : val_main_v52 (F := F) x0 x1 x2 = centred 1#32 (val_main_v20 x0 x1 x2) := rfl
theorem centred_1 (x0 x1 x2) : val_main_v86 (F := F) x0 x1 x2 = centred 2#32 (val_main_v54 x0 x1 x2) := rfl
theorem centred_2 (x0 x1 x2) : val_main_v120 (F := F) x0 x1 x2 = centred 4#32 (val_main_v88 x0 x1 x2) := rfl
theorem centred_3 (x0 x1 x2) : val_main_v154 (F := F) x0 x1 x2 = centred 8#32 (val_main_v122 x0 x1 x2) := rfl

theorem ends_apply (d : ℕ) (hd : d ≤ 8) (t : Fin 8192) : ends (BitVec.ofNat 32 d) (ix1 t) = BitVec.ofNat 32 (min (t.val + d) 8192) := by
  rw [← Rows.end_clip t.val d t.isLt hd]
  unfold ends clipped
  pointwise

theorem starts_apply (d : ℕ) (hd : d ≤ 8) (t : Fin 8192) : starts (BitVec.ofNat 32 d) (ix1 t) = BitVec.ofNat 32 (t.val - d) := by
  rw [← Rows.start_clip t.val d t.isLt hd]
  unfold starts clipped
  pointwise

/-- A window sum from nothing is the sum over the window of the rows in the operand. -/
theorem window_sum {s t u : Shape} (window strides lo hi : Fin s.rank → ℕ) (h : s.ReduceWindows window strides lo hi t) (hu : 0 < u.numel)
    (x : FVec Ideal s .f32) (z : FVec Ideal u .f32) (hz : ∀ i, z i = (0 : EReal)) (j : t.Idx) :
    Host.reduceWindowAdd (F := Ideal) (φ := .f32) window strides lo hi x z h hu j
      = ∑ w : (⟨s.rank, window⟩ : Shape).Idx,
        if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  rw [sum_idx_eq_foldl]
  have e : Host.reduceWindowAdd (F := Ideal) (φ := .f32) window strides lo hi x z h hu
      = Ideal.hostReduceWindowAdd window strides lo hi h x (0 : EReal) := by
    rw [← hz (Shape.Idx.first hu)]
    rfl
  rw [e]
  unfold Ideal.hostReduceWindowAdd Host.reduceWindow
  refine congrArg (fun f => List.foldl f (0 : EReal) _) ?_
  funext r n
  refine congrArg (fun y => r + y) ?_
  split
  · rfl
  · rfl

/-- One running sum: the rows up to this one. -/
theorem running_apply (u : FVec Ideal S4x8192x256 .f32) (z : S_.Idx → EReal) (hz : ∀ i, z i = 0) (b : Fin 4) (j : Fin 8192) (n : Fin 256) :
    Host.reduceWindowAdd (F := Ideal) (φ := .f32) ![1, 8192, 1] ![1, 1, 1] ![0, 8191, 0] ![0, 0, 0] u z
      reduceWindows_S4x8192x256_S4x8192x256_w1s1p0_0_w8192s1p8191_0_w1s1p0_0 h_S_ (ix3 b j n)
      = ∑ k : Fin 8192, if h : 8191 ≤ j.val + k.val then u (ix3 b ⟨j.val + k.val - 8191, by omega⟩ n) else 0 := by
  rw [window_sum _ _ _ _ _ _ u z hz]
  refine (sum_idx3 (n0 := 1) (n1 := 8192) (n2 := 1) _).trans ?_
  rw [Fin.sum_univ_one]
  refine Finset.sum_congr rfl fun k _ => ?_
  rw [Fin.sum_univ_one]
  by_cases hk : 8191 ≤ j.val + k.val
  · rw [dif_pos hk]
    refine (dif_pos (fun a => ?_)).trans ?_
    · match a with
      | ⟨0, _⟩ => show 0 ≤ b.val * 1 + 0 ∧ b.val * 1 + 0 - 0 < 4; omega
      | ⟨1, _⟩ => show 8191 ≤ j.val * 1 + k.val ∧ j.val * 1 + k.val - 8191 < 8192; omega
      | ⟨2, _⟩ => show 0 ≤ n.val * 1 + 0 ∧ n.val * 1 + 0 - 0 < 256; omega
    · congr 1
      funext a
      match a with
      | ⟨0, _⟩ => apply Fin.ext; show b.val * 1 + 0 - 0 = b.val; omega
      | ⟨1, _⟩ => apply Fin.ext; show j.val * 1 + k.val - 8191 = j.val + k.val - 8191; omega
      | ⟨2, _⟩ => apply Fin.ext; show n.val * 1 + 0 - 0 = n.val; omega
  · rw [dif_neg hk]
    refine dif_neg (fun h => hk ?_)
    have h1 : 8191 ≤ j.val * 1 + k.val := (h 1).1
    omega

/-- The running sums as sums over the rows before. -/
theorem sums_apply (u : FVec Ideal S4x8192x256 .f32) (b : Fin 4) (j : Fin 8193) (n : Fin 256) :
    sums (F := Ideal) u (ix3 b j n) = ∑ i ∈ Finset.range j.val, u (ix3 b (Fin.ofNat 8192 i) n) := by
  unfold sums
  pointwise
  by_cases hj : j.val < 1
  · have h0 : j.val = 0 := by omega
    rw [dif_pos hj, h0]
    rfl
  · rw [dif_neg hj, running_apply u _ (fun i => by pointwise)]
    have hs : ∀ k : Fin 8192, (if h : 8191 ≤ j.val - 1 + k.val then u (ix3 b ⟨j.val - 1 + k.val - 8191, by omega⟩ n) else 0)
        = (fun k : ℕ => if 8191 ≤ j.val - 1 + k then u (ix3 b (Fin.ofNat 8192 (j.val - 1 + k - 8191)) n) else 0) k.val := by
      intro k
      by_cases h : 8191 ≤ j.val - 1 + k.val
      · simp only [dif_pos h, if_pos h]
        rw [show (⟨j.val - 1 + k.val - 8191, by omega⟩ : Fin 8192) = Fin.ofNat 8192 (j.val - 1 + k.val - 8191) from
          Fin.ext (Nat.mod_eq_of_lt (by omega)).symm]
      · simp only [dif_neg h, if_neg h]
    rw [Finset.sum_congr rfl fun k _ => hs k, Fin.sum_univ_eq_sum_range (fun k : ℕ => if 8191 ≤ j.val - 1 + k then u (ix3 b (Fin.ofNat 8192 (j.val - 1 + k - 8191)) n) else 0) 8192,
      ← Finset.sum_filter]
    have hf : (Finset.range 8192).filter (fun k => 8191 ≤ j.val - 1 + k) = Finset.Ico (8192 - j.val) 8192 := by
      ext k
      simp only [Finset.mem_filter, Finset.mem_range, Finset.mem_Ico]
      omega
    rw [hf, Finset.sum_Ico_eq_sum_range]
    have e : 8192 - (8192 - j.val) = j.val := by omega
    rw [e]
    refine Finset.sum_congr rfl fun i hi => ?_
    have h1 : j.val - 1 + (8192 - j.val + i) - 8191 = i := by omega
    rw [h1]

/-- The dimension numbers that take rows of a rank-3 operand along its middle axis. -/
abbrev middle (B N C T : ℕ) (wf : GatherDims.WF ⟨3, ![B, N, C]⟩ ⟨2, ![T, 1]⟩ ⟨3, ![B, T, C]⟩ [0, 2] [1] [] [1] [] 1 ![B, 1, C]) :
    GatherDims ⟨3, ![B, N, C]⟩ ⟨2, ![T, 1]⟩ ⟨3, ![B, T, C]⟩ where
  offsetDims := [0, 2]
  collapsedSliceDims := [1]
  operandBatchingDims := []
  startIndicesBatchingDims := []
  startIndexMap := [1]
  indexVectorDim := 1
  sliceSizes := ![B, 1, C]
  wf := wf

/-- Such a gather at an element is the operand at the row its index names. -/
theorem gather_middle {B N C T : ℕ} (hN : 0 < N)
    (wf : GatherDims.WF ⟨3, ![B, N, C]⟩ ⟨2, ![T, 1]⟩ ⟨3, ![B, T, C]⟩ [0, 2] [1] [] [1] [] 1 ![B, 1, C])
    (x : (⟨3, ![B, N, C]⟩ : Shape).Idx → EReal) (p : IVec ⟨2, ![T, 1]⟩ 32) (b : Fin B) (j : Fin T) (n : Fin C) :
    Host.gather (middle B N C T wf) x p (ix3 b j n) = x (ix3 b ⟨min (p (ix2 j 0)).toInt.toNat (N - 1), by omega⟩ n) := by
  unfold Host.gather
  congr 1
  funext a
  refine Fin.ext ?_
  show (middle B N C T wf).start (ix3 b j n) p a + (middle B N C T wf).batchCoord (ix3 b j n) a
      + (middle B N C T wf).offCoord (ix3 b j n) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start GatherDims.offCoord
    rw [dif_neg (show ¬ ((0 : Fin 3) ∈ (middle B N C T wf).startIndexMap) from fun h => (show ¬ ((0 : Fin 3) = 1) by decide) (List.mem_singleton.mp h)),
      dif_pos ((GatherDims.mem_sKept _ _).mpr ⟨fun h => (show ¬ ((0 : Fin 3) = 1) by decide) (List.mem_singleton.mp h), List.not_mem_nil⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ (middle B N C T wf).startIndexMap from List.mem_singleton.mpr rfl)]
    have hsi : (middle B N C T wf).siIdx (ix3 b j n) ⟨List.idxOf (1 : Fin 3) (middle B N C T wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · unfold GatherDims.start GatherDims.offCoord
    rw [dif_neg (show ¬ ((2 : Fin 3) ∈ (middle B N C T wf).startIndexMap) from fun h => (show ¬ ((2 : Fin 3) = 1) by decide) (List.mem_singleton.mp h)),
      dif_pos ((GatherDims.mem_sKept _ _).mpr ⟨fun h => (show ¬ ((2 : Fin 3) = 1) by decide) (List.mem_singleton.mp h), List.not_mem_nil⟩)]
    simp only [Nat.zero_add]
    rfl

/-- The row of the running sums a position takes. -/
theorem gather_apply (x : FVec Ideal S4x8193x256 .f32) (p : IVec S8192x1 32) (b : Fin 4) (j : Fin 8192) (n : Fin 256) :
    Host.gather gather_S4x8193x256_S8192x1_S4x8192x256_02_1_n_n_1_1_41256 x p (ix3 b j n)
      = x (ix3 b ⟨min (p (ix2 j 0)).toInt.toNat 8192, by omega⟩ n) :=
  gather_middle (by omega) _ x p b j n

/-- The running sums at positions in the sequence. -/
theorem sumsAt_apply (u : FVec Ideal S4x8192x256 .f32) (x : IVec S8192 32) (b : Fin 4) (j : Fin 8192) (n : Fin 256) (q : ℕ) (hq : q ≤ 8192)
    (hx : x (ix1 j) = BitVec.ofNat 32 q) :
    sumsAt (F := Ideal) u x (ix3 b j n) = ∑ i ∈ Finset.range q, u (ix3 b (Fin.ofNat 8192 i) n) := by
  unfold sumsAt
  rw [gather_apply, sums_apply]
  have e : broadcastInDim S8192x1 ![0] bcast_S8192_S8192x1_0
      (select (cmpi .slt x (broadcastInDim S8192 ![] bcast_S_S8192 (constantI S_ 32 0#32)))
        (addi x (broadcastInDim S8192 ![] bcast_S_S8192 (constantI S_ 32 8193#32))) x) (ix2 j 0) = BitVec.ofNat 32 q := by
    rw [← Rows.wrap_word q hq, ← hx]
    pointwise
  have e' : min (broadcastInDim S8192x1 ![0] bcast_S8192_S8192x1_0
      (select (cmpi .slt x (broadcastInDim S8192 ![] bcast_S_S8192 (constantI S_ 32 0#32)))
        (addi x (broadcastInDim S8192 ![] bcast_S_S8192 (constantI S_ 32 8193#32))) x) (ix2 j 0)).toInt.toNat 8192 = q := by
    rw [e, Rows.toInt_nat q (by omega)]
    omega
  exact congrArg (fun q => ∑ i ∈ Finset.range q, u (ix3 b (Fin.ofNat 8192 i) n)) e'

/-- The centred means less the rows, on finite rows: each window's sum over its count. -/
theorem centred_apply (d : ℕ) (hd : d ≤ 8) (u : FVec Ideal S4x8192x256 .f32) (hu : ∀ i, ∃ r : ℝ, u i = r) (b : Fin 4) (j : Fin 8192) (n : Fin 256) :
    centred (F := Ideal) (BitVec.ofNat 32 d) u (ix3 b j n)
      = Ideal.div (∑ k ∈ Finset.range (2 * d), Rows.padded (fun i => u (ix3 b (Fin.ofNat 8192 i) n)) (j.val + 16 - d + k)) (Rows.count d j.val) - u (ix3 b j n) := by
  unfold centred
  pointwise
  rw [sumsAt_apply u _ b j n (min (j.val + d) 8192) (by omega) (ends_apply d hd j),
    sumsAt_apply u _ b j n (j.val - d) (by omega) (starts_apply d hd j), ends_apply d hd, starts_apply d hd,
    Rows.window_diff (fun i => u (ix3 b (Fin.ofNat 8192 i) n)) (fun i => hu _) j.val d j.isLt (by omega)]
  rfl

end Cert.PoolRefIdeal.Math

end
-- ==== Proof.Pool.Reference.lean ====
module

public import proofs.«01_k».proof.Proof.Pool.Ref
public import proofs.«01_k».proof.Proof.Pool.Finite

@[expose] public section

set_option maxRecDepth 16384

noncomputable section

namespace Cert.PoolRefIdeal.Math

open Cert.PoolRefIdeal Cert.PoolRefIdeal.Gen Cert.PoolRefIdeal.Read Idealize.ShloMosaic Idealize.ShloMosaic.TcCoe Idealize.SL.Sem
open Cert.Rows (IsReal)

variable (x0 : Vec Ideal S32768x2048 .f32) (x1 : Vec Ideal S1x2048 .f32) (x2 : Vec Ideal S1x2048x8192 .f32)
  (x3 : Vec Ideal S1x4x256x256 .f32) (x4 : Vec Ideal S1x1024 .f32)

/-- A row, normalised. -/
def N (i : Fin 32768) (k : Fin 2048) : EReal := Rows.rms (fun k => x0 (ix2 i k)) (fun k => x1 (ix2 0 k)) k

/-- Its projection. -/
def U (i : Fin 32768) (n : Fin 1024) : EReal := ∑ k, N x0 x1 i k * x2 (ix3 0 k ⟨n.val, by omega⟩)

theorem norm (b : Fin 4) (s : Fin 8192) (k : Fin 2048) : val_main_v14 (F := Ideal) x0 x1 (ix3 b s k)
    = N x0 x1 ⟨b.val * 8192 + s.val, by omega⟩ k := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise
  rfl

/-- The normalised rows, as the second result. -/
theorem rows (i : Fin 32768) (k : Fin 2048) : val_main_v171 (F := Ideal) x0 x1 (ix2 i k) = N x0 x1 i k := by
  have e : val_main_v171 (F := Ideal) x0 x1 (ix2 i k)
      = val_main_v14 (F := Ideal) x0 x1 (ix3 ⟨i.val / 8192, by omega⟩ ⟨i.val % 8192, by omega⟩ k) := by
    unfold val_main_v171 val_main_v170
    generalize val_main_v14 (F := Ideal) x0 x1 = y
    pointwise
  rw [e, norm]
  exact congrArg (fun i => N x0 x1 i k) (Fin.ext (Nat.div_add_mod' i.val 8192))

theorem proj (b : Fin 4) (s : Fin 8192) (n : Fin 1024) : val_main_v17 (F := Ideal) x0 x1 x2 (ix3 b s n)
    = U x0 x1 x2 ⟨b.val * 8192 + s.val, by omega⟩ n := by
  have e : val_main_v17 (F := Ideal) x0 x1 x2 (ix3 b s n)
      = ∑ k : Fin 2048, val_main_v14 (F := Ideal) x0 x1 (ix3 b s k) * x2 (ix3 0 k ⟨n.val, by omega⟩) := by
    unfold val_main_v17 val_main_v16 val_main_v15
    generalize val_main_v14 (F := Ideal) x0 x1 = y
    pointwise
  rw [e]
  exact Finset.sum_congr rfl fun k _ => by rw [norm]

theorem grouped (b : Fin 4) (s : Fin 8192) (g : Fin 4) (n : Fin 256) : val_main_v18 (F := Ideal) x0 x1 x2 (ix4 b s g n)
    = U x0 x1 x2 ⟨b.val * 8192 + s.val, by omega⟩ ⟨256 * g.val + n.val, by omega⟩ := by
  have e : val_main_v18 (F := Ideal) x0 x1 x2 (ix4 b s g n)
      = val_main_v17 (F := Ideal) x0 x1 x2 (ix3 b s ⟨256 * g.val + n.val, by omega⟩) := by
    unfold val_main_v18
    generalize val_main_v17 (F := Ideal) x0 x1 x2 = y
    pointwise
    try exact congrArg (fun n => y (ix3 b s n)) (Fin.ext (by simp; omega))
  rw [e, proj]

theorem group_0 (b : Fin 4) (s : Fin 8192) (n : Fin 256) : val_main_v20 (F := Ideal) x0 x1 x2 (ix3 b s n)
    = val_main_v18 (F := Ideal) x0 x1 x2 (ix4 b s 0 n) := by
  unfold val_main_v20 val_main_v19
  generalize val_main_v18 (F := Ideal) x0 x1 x2 = y
  pointwise
  try rfl
theorem group_1 (b : Fin 4) (s : Fin 8192) (n : Fin 256) : val_main_v54 (F := Ideal) x0 x1 x2 (ix3 b s n)
    = val_main_v18 (F := Ideal) x0 x1 x2 (ix4 b s 1 n) := by
  unfold val_main_v54 val_main_v53
  generalize val_main_v18 (F := Ideal) x0 x1 x2 = y
  pointwise
  try rfl
theorem group_2 (b : Fin 4) (s : Fin 8192) (n : Fin 256) : val_main_v88 (F := Ideal) x0 x1 x2 (ix3 b s n)
    = val_main_v18 (F := Ideal) x0 x1 x2 (ix4 b s 2 n) := by
  unfold val_main_v88 val_main_v87
  generalize val_main_v18 (F := Ideal) x0 x1 x2 = y
  pointwise
  try rfl
theorem group_3 (b : Fin 4) (s : Fin 8192) (n : Fin 256) : val_main_v122 (F := Ideal) x0 x1 x2 (ix3 b s n)
    = val_main_v18 (F := Ideal) x0 x1 x2 (ix4 b s 3 n) := by
  unfold val_main_v122 val_main_v121
  generalize val_main_v18 (F := Ideal) x0 x1 x2 = y
  pointwise
  try rfl

theorem joined_0 (b : Fin 4) (s : Fin 8192) (n : Fin 256) : val_main_v159 (F := Ideal) x0 x1 x2 (ix4 b s 0 n)
    = val_main_v52 (F := Ideal) x0 x1 x2 (ix3 b s n) := by
  unfold val_main_v159 val_main_v155 val_main_v156 val_main_v157 val_main_v158
  generalize val_main_v52 (F := Ideal) x0 x1 x2 = y0
  generalize val_main_v86 (F := Ideal) x0 x1 x2 = y1
  generalize val_main_v120 (F := Ideal) x0 x1 x2 = y2
  generalize val_main_v154 (F := Ideal) x0 x1 x2 = y3
  pointwise
  try rfl
theorem joined_1 (b : Fin 4) (s : Fin 8192) (n : Fin 256) : val_main_v159 (F := Ideal) x0 x1 x2 (ix4 b s 1 n)
    = val_main_v86 (F := Ideal) x0 x1 x2 (ix3 b s n) := by
  unfold val_main_v159 val_main_v155 val_main_v156 val_main_v157 val_main_v158
  generalize val_main_v52 (F := Ideal) x0 x1 x2 = y0
  generalize val_main_v86 (F := Ideal) x0 x1 x2 = y1
  generalize val_main_v120 (F := Ideal) x0 x1 x2 = y2
  generalize val_main_v154 (F := Ideal) x0 x1 x2 = y3
  pointwise
  try rfl
theorem joined_2 (b : Fin 4) (s : Fin 8192) (n : Fin 256) : val_main_v159 (F := Ideal) x0 x1 x2 (ix4 b s 2 n)
    = val_main_v120 (F := Ideal) x0 x1 x2 (ix3 b s n) := by
  unfold val_main_v159 val_main_v155 val_main_v156 val_main_v157 val_main_v158
  generalize val_main_v52 (F := Ideal) x0 x1 x2 = y0
  generalize val_main_v86 (F := Ideal) x0 x1 x2 = y1
  generalize val_main_v120 (F := Ideal) x0 x1 x2 = y2
  generalize val_main_v154 (F := Ideal) x0 x1 x2 = y3
  pointwise
  try rfl
theorem joined_3 (b : Fin 4) (s : Fin 8192) (n : Fin 256) : val_main_v159 (F := Ideal) x0 x1 x2 (ix4 b s 3 n)
    = val_main_v154 (F := Ideal) x0 x1 x2 (ix3 b s n) := by
  unfold val_main_v159 val_main_v155 val_main_v156 val_main_v157 val_main_v158
  generalize val_main_v52 (F := Ideal) x0 x1 x2 = y0
  generalize val_main_v86 (F := Ideal) x0 x1 x2 = y1
  generalize val_main_v120 (F := Ideal) x0 x1 x2 = y2
  generalize val_main_v154 (F := Ideal) x0 x1 x2 = y3
  pointwise
  try rfl

/-- The windows' matrices and the scales over the joined means. -/
theorem mixed (i : Fin 32768) (n : Fin 1024) : val_main_v169 (F := Ideal) x0 x1 x2 x3 x4 (ix2 i n)
    = (∑ k : Fin 256, x3 (ix4 0 ⟨n.val / 256, by omega⟩ k ⟨n.val % 256, by omega⟩)
        * val_main_v159 (F := Ideal) x0 x1 x2 (ix4 ⟨i.val / 8192, by omega⟩ ⟨i.val % 8192, by omega⟩ ⟨n.val / 256, by omega⟩ k)) * x4 (ix2 0 n) := by
  unfold val_main_v169 val_main_v168 val_main_v167 val_main_v166 val_main_v165 val_main_v164 val_main_v163 val_main_v162 val_main_v161 val_main_v160
  generalize val_main_v159 (F := Ideal) x0 x1 x2 = y
  pointwise
  try rfl

/-- The gain and the pooling columns of the weights are real. -/
def Reals : Prop := (∀ i, IsReal (x1 i)) ∧ ∀ (k : Fin 2048) (n : Fin 1024), IsReal (x2 (ix3 0 k ⟨n.val, by omega⟩))

theorem U_real (h : Reals x1 x2) (i : Fin 32768) (n : Fin 1024) : IsReal (U x0 x1 x2 i n) :=
  IsReal.sum _ fun k => IsReal.mul (Rows.rms_real _ _ (fun _ => h.1 _) k) (h.2 k n)

theorem padded_congr (v w : ℕ → EReal) (h : ∀ s, s < 8192 → v s = w s) (q : ℕ) : Rows.padded v q = Rows.padded w q := by
  unfold Rows.padded
  split
  · next hq => exact h _ (by omega)
  · rfl

/-- A window's centred mean, the rows named by their place among all. -/
theorem window (V : Fin 32768 → Fin 1024 → EReal) (hV : ∀ i n, IsReal (V i n)) (g : Fin 4) (u : FVec Ideal S4x8192x256 .f32)
    (hu : ∀ b s n, u (ix3 b s n) = V ⟨b.val * 8192 + s.val, by omega⟩ ⟨256 * g.val + n.val, by omega⟩) (i : Fin 32768) (k : Fin 256) :
    centred (F := Ideal) (BitVec.ofNat 32 (2 ^ g.val)) u (ix3 ⟨i.val / 8192, by omega⟩ ⟨i.val % 8192, by omega⟩ k)
      = Ideal.div (∑ j ∈ Finset.range (2 * 2 ^ g.val),
          Rows.padded (fun s => V (Fin.ofNat 32768 (i.val / 8192 * 8192 + s)) ⟨256 * g.val + k.val, by omega⟩) (i.val % 8192 + 16 - 2 ^ g.val + j))
            (Rows.count (2 ^ g.val) (i.val % 8192))
        - V i ⟨256 * g.val + k.val, by omega⟩ := by
  have hi := i.isLt
  have hd : 2 ^ g.val ≤ 8 := Nat.pow_le_pow_right (by decide) (show g.val ≤ 3 by omega)
  have hr : ∀ j, ∃ r : ℝ, u j = r := by
    intro j
    rw [eq_ix3 j]
    exact ⟨_, (hu _ _ _).trans (hV _ _).choose_spec⟩
  rw [centred_apply _ hd u hr, hu]
  have e : (⟨i.val / 8192 * 8192 + i.val % 8192, by omega⟩ : Fin 32768) = i := Fin.ext (Nat.div_add_mod' i.val 8192)
  rw [show V ⟨(⟨i.val / 8192, by omega⟩ : Fin 4).val * 8192 + (⟨i.val % 8192, by omega⟩ : Fin 8192).val, by omega⟩ ⟨256 * g.val + k.val, by omega⟩
      = V i ⟨256 * g.val + k.val, by omega⟩ from congrArg (fun i => V i ⟨256 * g.val + k.val, by omega⟩) e]
  refine congrArg (fun a => Ideal.div a (Rows.count (2 ^ g.val) (i.val % 8192)) - V i ⟨256 * g.val + k.val, by omega⟩) ?_
  refine Finset.sum_congr rfl fun j _ => padded_congr _ _ (fun s hs => ?_) _
  rw [hu]
  refine congrArg (fun i => V i ⟨256 * g.val + k.val, by omega⟩) (Fin.ext ?_)
  show i.val / 8192 * 8192 + s % 8192 = (i.val / 8192 * 8192 + s) % 32768
  omega

/-- The joined means at any window. -/
theorem joined (h : Reals x1 x2) (i : Fin 32768) (g : Fin 4) (k : Fin 256) :
    val_main_v159 (F := Ideal) x0 x1 x2 (ix4 ⟨i.val / 8192, by omega⟩ ⟨i.val % 8192, by omega⟩ g k)
      = Ideal.div (∑ j ∈ Finset.range (2 * 2 ^ g.val),
          Rows.padded (fun s => U x0 x1 x2 (Fin.ofNat 32768 (i.val / 8192 * 8192 + s)) ⟨256 * g.val + k.val, by omega⟩) (i.val % 8192 + 16 - 2 ^ g.val + j))
            (Rows.count (2 ^ g.val) (i.val % 8192))
        - U x0 x1 x2 i ⟨256 * g.val + k.val, by omega⟩ := by
  match g with
  | 0 => rw [joined_0, centred_0]; exact window _ (U_real x0 x1 x2 h) 0 _ (fun b s n => by rw [group_0, grouped]) i k
  | 1 => rw [joined_1, centred_1]; exact window _ (U_real x0 x1 x2 h) 1 _ (fun b s n => by rw [group_1, grouped]) i k
  | 2 => rw [joined_2, centred_2]; exact window _ (U_real x0 x1 x2 h) 2 _ (fun b s n => by rw [group_2, grouped]) i k
  | 3 => rw [joined_3, centred_3]; exact window _ (U_real x0 x1 x2 h) 3 _ (fun b s n => by rw [group_3, grouped]) i k

/-- The reference at row `i`, column `n`. -/
theorem result (h : Reals x1 x2) (i : Fin 32768) (n : Fin 1024) : val_main_v169 (F := Ideal) x0 x1 x2 x3 x4 (ix2 i n)
    = Rows.pool (U x0 x1 x2) (fun g k n => x3 (ix4 0 g k n)) (fun n => x4 (ix2 0 n)) i n := by
  have hn := n.isLt
  have eg : Fin.ofNat 4 (n.val / 256) = ⟨n.val / 256, by omega⟩ := Fin.ext (by show n.val / 256 % 4 = n.val / 256; omega)
  have ek : Fin.ofNat 256 (n.val % 256) = ⟨n.val % 256, by omega⟩ := Fin.ext (by show n.val % 256 % 256 = n.val % 256; omega)
  rw [mixed]
  unfold Rows.pool
  rw [eg, ek]
  unfold Rows.poolAt
  refine congrArg₂ (· * ·) (Finset.sum_congr rfl fun k _ => ?_) (congrArg (fun n => x4 (ix2 0 n)) (Fin.ext (Nat.div_add_mod n.val 256).symm))
  rw [joined x0 x1 x2 h]
  exact mul_comm _ _

end Cert.PoolRefIdeal.Math

end
-- ==== Proof.Filter.Cases.lean ====
module

public import proofs.«01_k».proof.Proof.Gen.FilterIdeal.Frame
public import Idealize.ShloMosaic.Lib.Pipeline.ValueKit
public import Idealize.ShloMosaic.Lib.Pipeline.ReadBack

@[expose] public section

set_option maxRecDepth 16384

noncomputable section

namespace Cert.FilterIdeal.Point

open Cert.FilterIdeal Cert.FilterIdeal.Gen Idealize.ShloMosaic Idealize.ShloMosaic.TcCoe Idealize.SL.Sem

variable {F : FTy → Type} [FloatOps F] [Named F]
variable (m : (ℓ : Loc nD τ sig) → Buf (Elt F) ℓ)

/-- The hidden values of a tile's positions: rounded, rounded again, and what the rounding leaves. -/
def hid (c : Dev nD) (t : Fin cfg0.N) : FVec F S512x192 .bf16 :=
  k0_pay16 (k0_pay13 (grid0.coords t)) (iota Kind.tc S1x128 32 [1] iota_S1x128_d1_w32) (k0_pay14 (grid0.coords t)) k0_pay15
    (iblk m c 2 t) (iblk m c 0 t) (iblk m c 1 t) (iblk m c 5 t) (iblk m c 3 t) (iblk m c 4 t)

/-- How much each channel is damped at a tile's positions. -/
def damp (t : Fin cfg0.N) : FVec F S512x2048 .f32 :=
  k0_pay1 (k0_pay11 (grid0.coords t)) (k0_pay13 (grid0.coords t)) k0_pay17 (FloatOps.ofBits FTy.f32 3158617577#32)

/-- The last layer's weights of one direction. -/
def layer (b : Vec F S2x192x2048 .bf16) (off : Fin 3 → ℕ) (inb : ∀ a, off a + (![1, 192, 2048] : Fin 3 → ℕ) a ≤ S2x192x2048.size a) :
    Vec F S1x192x2048 .bf16 := View.ld b (Rect.unit off ![1, 192, 2048] inb)

/-- A tile of the filters of the two orders. -/
def halves (a b : Vec F S1x512x1024 .f32) : Vec F S2x512x1024 .f32 :=
  View.canon [⟨Rect.unit ![1, 0, 0] ![1, 512, 1024] inb_S2x512x1024_S1x512x1024_1_0_0, b⟩,
    ⟨Rect.unit ![0, 0, 0] ![1, 512, 1024] inb_S2x512x1024_S1x512x1024_0_0_0, a⟩]

/-- What the first tile leaves. -/
theorem after_A (c : Dev nD) (t : Fin cfg0.N) (h0 : t.val % 32 = 0) (h1 : ¬1 ≤ t.val)
    (f b : Vec F S1x192x2048 .bf16) (hf : layer (iblk m c 6 t) ![0, 0, 0] inb_S2x192x2048_S1x192x2048_0_0_0 = f)
    (hb : layer (iblk m c 6 t) ![1, 0, 0] inb_S2x192x2048_S1x192x2048_1_0_0 = b) :
    outsAt0 m c t.val t.isLt = (halves (k0_pay8 (k0_pay11 (grid0.coords t)) (hid m c t) (damp t) f b)
      (k0_pay9 (k0_pay11 (grid0.coords t)) (hid m c t) (damp t) f b),
      k0_pay10 (k0_pay11 (grid0.coords t)) (hid m c t) (damp t) f b k0_pay6) := by
  subst hf hb
  rw [outsAt0_A m c t h0 h1]
  frame_out
  rfl

/-- What a later tile leaves, over what the tile before left. -/
theorem after_B (c : Dev nD) (t : Fin cfg0.N) (h0 : ¬t.val % 32 = 0) (h1 : 1 ≤ t.val)
    (p : Vec F S2x512x1024 .f32 × Vec F S1x2048 .f32)
    (hp : outsAt0 m c (t.val - 1) (Nat.lt_of_le_of_lt (Nat.sub_le _ _) t.isLt) = p)
    (w : Vec F S1x192x2048 .bf16) (hw : layer (iblk m c 6 t) (k0_off1 (grid0.coords t)) (k0_off1_inb (grid0.coords t) ((hcond0_1 t).mpr h1)) = w) :
    outsAt0 m c t.val t.isLt
      = (halves (k0_pay3 (k0_pay11 (grid0.coords t)) (k0_pay13 (grid0.coords t)) (hid m c t) k0_pay17 (FloatOps.ofBits FTy.f32 3158617577#32) w)
          (k0_pay4 (k0_pay11 (grid0.coords t)) (k0_pay13 (grid0.coords t)) (hid m c t) k0_pay17 (FloatOps.ofBits FTy.f32 3158617577#32) w),
        k0_pay5 (k0_pay11 (grid0.coords t)) (k0_pay13 (grid0.coords t)) (hid m c t) k0_pay17 (FloatOps.ofBits FTy.f32 3158617577#32) w p.2) := by
  subst hw
  rw [outsAt0_B m c t h0 h1, hp]
  frame_out
  rfl

end Cert.FilterIdeal.Point

end
-- ==== Proof.Filter.Math.lean ====
module

public import proofs.«01_k».proof.Proof.Rows
public import proofs.«01_k».proof.Proof.Pool.Finite

/-!
  The implicit filter: a network of sines on features of the position, its outputs decayed with the lag, and the forward
  and the reversed backward half laid out one after the other.
-/

@[expose] public section

noncomputable section

namespace Cert.Filt

open Idealize.ShloMosaic Cert.Rows

/-- A count as a number. -/
def num (n : ℕ) : EReal := ((n : ℝ) : EReal)

/-- The position as a fraction of the last one. -/
def frac (p : ℕ) : EReal := Ideal.div (num p) (Ideal.ofBits FTy.f32 0x45FFF800#32)

/-- The angle of band `q` at position `p`. -/
def angle (p q : ℕ) : EReal :=
  (Ideal.ofBits FTy.f32 0x38D1B717#32 + num q * Ideal.ofBits FTy.f32 0x3F7FFF90#32)
    * Ideal.div (Ideal.ofBits FTy.f32 0x40C90FDB#32 * num p) (Ideal.ofBits FTy.f32 0x46000000#32)

/-- Feature `j` of position `p`: the fraction, sixteen cosines, sixteen negated sines. -/
def feature (p j : ℕ) : EReal :=
  if j = 0 then frac p else if j ≤ 16 then Ideal.cos (angle p (j - 1)) else -Ideal.sin (angle p (j - 17))

/-- The first hidden layer. -/
def hidden (w : Fin 33 → Fin 64 → EReal) (b f : Fin 64 → EReal) (p : ℕ) (n : Fin 64) : EReal :=
  Ideal.sin (f n * ((∑ j : Fin 33, feature p j.val * w j n) + b n))

/-- The second hidden layer, over what the first holds. -/
def second (h : Fin 64 → EReal) (w : Fin 64 → Fin 64 → EReal) (b f : Fin 64 → EReal) (n : Fin 64) : EReal :=
  Ideal.sin (f n * ((∑ k, h k * w k n) + b n))

/-- How much channel `q` is damped at position `p`. -/
def decay (p q : ℕ) : EReal :=
  Ideal.exp (-frac p * max (Ideal.ofBits FTy.f32 0xC0447CBD#32 + num q * Ideal.ofBits FTy.f32 0xBC44ADE9#32)
    (-(Ideal.ofBits FTy.f32 0xC0447CBD#32 + num q * Ideal.ofBits FTy.f32 0xBC44ADE9#32)))

/-- A filter's value at a position: the network's output, damped. -/
def tap (h : ℕ → Fin 64 → EReal) (w : Fin 64 → EReal) (p q : ℕ) : EReal := (∑ k, h p k * w k) * decay p q

/-- The forward half, nothing in the middle, the backward half reversed; both halves' first at lag zero. -/
def both (h : ℕ → Fin 64 → EReal) (w w' : Fin 64 → EReal) (q m : ℕ) : EReal :=
  if m = 0 then tap h w 0 q + tap h w' 0 q else if m < 8192 then tap h w m q
  else if m = 8192 then 0 else tap h w' (16384 - m) q

theorem last_value : Ideal.ofBits FTy.f32 0x45FFF800#32 = ((8191 : ℝ) : EReal) := by
  simp [Ideal.ofBits, Ideal.ieee, -EReal.coe_mul]; norm_num
theorem length_value : Ideal.ofBits FTy.f32 0x46000000#32 = ((8192 : ℝ) : EReal) := by
  simp [Ideal.ofBits, Ideal.ieee, -EReal.coe_mul]; norm_num
theorem turn_value : IsReal (Ideal.ofBits FTy.f32 0x40C90FDB#32) := ⟨_, by simp [Ideal.ofBits, Ideal.ieee, -EReal.coe_mul]; rfl⟩
theorem low_value : IsReal (Ideal.ofBits FTy.f32 0x38D1B717#32) := ⟨_, by simp [Ideal.ofBits, Ideal.ieee, -EReal.coe_mul]; rfl⟩
theorem step_value : IsReal (Ideal.ofBits FTy.f32 0x3F7FFF90#32) := ⟨_, by simp [Ideal.ofBits, Ideal.ieee, -EReal.coe_mul]; rfl⟩
theorem rate_value : IsReal (Ideal.ofBits FTy.f32 0xC0447CBD#32) := ⟨_, by simp [Ideal.ofBits, Ideal.ieee, -EReal.coe_mul]; rfl⟩
theorem slope_value : IsReal (Ideal.ofBits FTy.f32 0xBC44ADE9#32) := ⟨_, by simp [Ideal.ofBits, Ideal.ieee, -EReal.coe_mul]; rfl⟩

theorem num_real (n : ℕ) : IsReal (num n) := ⟨_, rfl⟩

theorem add_real {x y : EReal} (hx : IsReal x) (hy : IsReal y) : IsReal (x + y) := by
  obtain ⟨a, rfl⟩ := hx
  obtain ⟨b, rfl⟩ := hy
  exact ⟨a + b, (EReal.coe_add a b).symm⟩

theorem angle_real (p q : ℕ) : IsReal (angle p q) := by
  unfold angle
  refine (add_real low_value ((num_real q).mul step_value)).mul ?_
  rw [length_value, Ideal.div_coe (by norm_num)]
  exact (turn_value.mul (num_real p)).mul ⟨_, rfl⟩

/-- A cosine a quarter turn on is a negated sine. -/
theorem cos_quarter {x : EReal} (h : IsReal x) : Ideal.cos (x + (((1 / 2) * Real.pi : ℝ) : EReal)) = -Ideal.sin x := by
  obtain ⟨r, rfl⟩ := h
  rw [← EReal.coe_add, Ideal.cos_coe, Ideal.sin_coe, ← EReal.coe_neg]
  congr 1
  rw [show r + 1 / 2 * Real.pi = r + Real.pi / 2 by ring, Real.cos_add_pi_div_two]

theorem frac_zero : frac 0 = 0 := by
  unfold frac num
  rw [last_value, Ideal.div_coe (by norm_num)]
  simp

/-- Nothing is damped at lag zero. -/
theorem decay_zero (q : ℕ) : decay 0 q = 1 := by
  unfold decay
  rw [frac_zero, neg_zero, zero_mul, ← EReal.coe_zero, Ideal.exp_coe, Real.exp_zero, EReal.coe_one]

/-- A sine is a real number or the value of no sine. -/
theorem sin_cases (x : EReal) : IsReal (Ideal.sin x) ∨ Ideal.sin x = ⊥ := by
  induction x using EReal.rec with
  | bot => exact Or.inr rfl
  | coe r => exact Or.inl ⟨_, rfl⟩
  | top => exact Or.inr rfl

/-- The remainder of a hidden value that the first part leaves adds nothing to the product. -/
theorem split_term (h w : EReal) (hh : IsReal h ∨ h = ⊥) (hw : IsReal w) : h * w + (h * (w - w) + (h - h) * w) = h * w := by
  rw [hw.sub_self, mul_zero, zero_add]
  rcases hh with hh | rfl
  · rw [hh.sub_self, zero_mul, add_zero]
  · obtain ⟨r, rfl⟩ := hw
    rw [show (⊥ : EReal) - ⊥ = ⊥ from rfl]
    rcases lt_trichotomy r 0 with hr | rfl | hr
    · rw [EReal.bot_mul_coe_of_neg hr]; rfl
    · rw [EReal.coe_zero, mul_zero, zero_add]
    · rw [EReal.bot_mul_coe_of_pos hr]; rfl

/-- A product over three parts of 64: high by high, high by remainder, remainder by high. -/
theorem split_sum (a b : Fin 192 → EReal) (h w : Fin 64 → EReal) (hh : ∀ k, IsReal (h k) ∨ h k = ⊥) (hw : ∀ k, IsReal (w k))
    (a0 : ∀ k : Fin 64, a ⟨k.val, by omega⟩ = h k) (a1 : ∀ k : Fin 64, a ⟨64 + k.val, by omega⟩ = h k)
    (a2 : ∀ k : Fin 64, a ⟨128 + k.val, by omega⟩ = h k - h k)
    (b0 : ∀ k : Fin 64, b ⟨k.val, by omega⟩ = w k) (b1 : ∀ k : Fin 64, b ⟨64 + k.val, by omega⟩ = w k - w k)
    (b2 : ∀ k : Fin 64, b ⟨128 + k.val, by omega⟩ = w k) : (∑ k, a k * b k) = ∑ k, h k * w k := by
  rw [Fin.sum_univ_add (a := 64) (b := 128) (fun k => a k * b k), Fin.sum_univ_add (a := 64) (b := 64)]
  rw [← Finset.sum_add_distrib, ← Finset.sum_add_distrib]
  refine Finset.sum_congr rfl fun k _ => ?_
  refine Eq.trans ?_ (split_term (h k) (w k) (hh k) (hw k))
  refine congrArg₂ (fun (x y : EReal) => x + y) (congrArg₂ (fun (x y : EReal) => x * y) (a0 k) (b0 k)) (congrArg₂ (fun (x y : EReal) => x + y)
    (congrArg₂ (fun (x y : EReal) => x * y) (a1 k) (b1 k)) (congrArg₂ (fun (x y : EReal) => x * y) ?_ ?_))
  · exact (congrArg a (Fin.ext (by simp [Fin.natAdd]; omega))).trans (a2 k)
  · exact (congrArg b (Fin.ext (by simp [Fin.natAdd]; omega))).trans (b2 k)

/-- Lanes past the thirty-third hold nothing. -/
theorem lanes (z w : Fin 128 → EReal) (f v : Fin 33 → EReal) (hz : ∀ j : Fin 33, z ⟨j.val, by omega⟩ = f j) (hw : ∀ j : Fin 33, w ⟨j.val, by omega⟩ = v j)
    (h0 : ∀ j : Fin 128, 33 ≤ j.val → z j = 0) : (∑ j, z j * w j) = ∑ j, f j * v j := by
  rw [Fin.sum_univ_add (a := 33) (b := 95) (fun k => z k * w k)]
  rw [Finset.sum_eq_zero (s := Finset.univ) (f := fun i : Fin 95 => z (Fin.natAdd 33 i) * w (Fin.natAdd 33 i)) fun i _ => by
    rw [h0 (Fin.natAdd 33 i) (by simp [Fin.natAdd]), zero_mul], add_zero]
  exact Finset.sum_congr rfl fun j _ => congrArg₂ (fun (x y : EReal) => x * y) (hz j) (hw j)

end Cert.Filt

end
-- ==== Proof.Filter.Pay.lean ====
module

public import proofs.«01_k».proof.Proof.Filter.Cases
public import proofs.«01_k».proof.Proof.Filter.Math
public import proofs.«01_k».proof.Proof.Pool.Window
public import Idealize.ShloMosaic.Lib.Pointwise
public import Idealize.ShloMosaic.PureOps.Ideal.Laws

@[expose] public section

set_option maxRecDepth 16384

noncomputable section

namespace Cert.FilterIdeal.Point

open Cert.FilterIdeal Cert.FilterIdeal.Gen Idealize.ShloMosaic Idealize.ShloMosaic.TcCoe Idealize.SL.Sem

theorem coord_eq : ∀ t : Fin grid0.N, (grid0.coords t 0).val = t.val := by decide +kernel

theorem slt_nat (a b : ℕ) (ha : a < 2147483648) (hb : b < 2147483648) : (BitVec.ofNat 32 a).slt (BitVec.ofNat 32 b) = decide (a < b) := by
  unfold BitVec.slt
  rw [Rows.toInt_nat a ha, Rows.toInt_nat b hb]
  exact decide_eq_decide.mpr (by omega)

theorem sle_nat (a b : ℕ) (ha : a < 2147483648) (hb : b < 2147483648) : (BitVec.ofNat 32 a).sle (BitVec.ofNat 32 b) = decide (a ≤ b) := by
  unfold BitVec.sle
  rw [Rows.toInt_nat a ha, Rows.toInt_nat b hb]
  exact decide_eq_decide.mpr (by omega)

theorem eq_nat (a b : ℕ) (ha : a < 2147483648) (hb : b < 2147483648) : (BitVec.ofNat 32 a == BitVec.ofNat 32 b) = decide (a = b) := by
  rw [Bool.eq_iff_iff, beq_iff_eq, decide_eq_true_iff]
  constructor
  · intro h
    have e := congrArg BitVec.toInt h
    rw [Rows.toInt_nat a ha, Rows.toInt_nat b hb] at e
    omega
  · exact fun h => congrArg _ h

section
variable {α : Type} (a b : ℕ) (ha : a < 2147483648) (hb : b < 2147483648) (x y : α)
include ha hb

theorem pick_bit (p : Bool) (q : Prop) [Decidable q] (h : p = decide q) : Scalar.select (BitVec.ofBool p) x y = if q then x else y := by
  subst h
  by_cases hq : q
  · rw [decide_eq_true hq, if_pos hq]; rfl
  · rw [decide_eq_false hq, if_neg hq]; rfl

theorem pick_lt : Scalar.select (IntOp.cmpi .slt (BitVec.ofNat 32 a) (BitVec.ofNat 32 b)) x y = if a < b then x else y :=
  pick_bit a b ha hb x y _ _ (slt_nat a b ha hb)
theorem pick_gt : Scalar.select (IntOp.cmpi .sgt (BitVec.ofNat 32 a) (BitVec.ofNat 32 b)) x y = if b < a then x else y :=
  pick_bit a b ha hb x y _ _ (slt_nat b a hb ha)
theorem pick_le : Scalar.select (IntOp.cmpi .sle (BitVec.ofNat 32 a) (BitVec.ofNat 32 b)) x y = if a ≤ b then x else y :=
  pick_bit a b ha hb x y _ _ (sle_nat a b ha hb)
theorem pick_eq : Scalar.select (IntOp.cmpi .eq (BitVec.ofNat 32 a) (BitVec.ofNat 32 b)) x y = if a = b then x else y :=
  pick_bit a b ha hb x y _ _ (eq_nat a b ha hb)

end

theorem sub_nat (a b : ℕ) (ha : a < 2147483648) (h : b ≤ a) : IntOp.subi (BitVec.ofNat 32 a) (BitVec.ofNat 32 b) = BitVec.ofNat 32 (a - b) := by
  refine BitVec.eq_of_toNat_eq ?_
  show (BitVec.ofNat 32 a - BitVec.ofNat 32 b).toNat = _
  rw [BitVec.toNat_sub, BitVec.toNat_ofNat, BitVec.toNat_ofNat, BitVec.toNat_ofNat]
  omega

theorem count_nat (n : ℕ) (h : n < 2147483648) : (FloatOps.sitofp FTy.f32 (BitVec.ofNat 32 n) : Ideal .f32) = Filt.num n := by
  show (((BitVec.ofNat 32 n).toInt : ℝ) : EReal) = ((n : ℝ) : EReal)
  rw [Rows.toInt_nat n h, Int.cast_natCast]

/-- A place's lag: places past the middle count back from the end. -/
def lag (p : ℕ) : ℕ := if p < 8192 then p else 16384 - p

theorem point_lt (t : Fin grid0.N) : t.val < 32 := lt_of_lt_of_eq t.isLt (show grid0.N = 32 by decide)

/-- The place in the filter of a tile's row. -/
theorem pay11_apply (t : Fin grid0.N) (r : Fin 512) : k0_pay11 (grid0.coords t) (ix2 r 0) = BitVec.ofNat 32 (512 * t.val + r.val) := by
  unfold_payloads
  pointwise
  rw [coord_eq t]
  show BitVec.ofNat 32 t.val * BitVec.ofNat 32 512 + BitVec.ofNat 32 r.val = _
  rw [← BitVec.ofNat_mul, ← BitVec.ofNat_add, Nat.mul_comm]

theorem pay12_apply (t : Fin grid0.N) (r : Fin 512) : k0_pay12 (F := Ideal) (grid0.coords t) (ix2 r 0) = Filt.num (lag (512 * t.val + r.val)) := by
  have ht := point_lt t
  unfold k0_pay12
  pointwise
  rw [pay11_apply t r, pick_lt _ _ (by omega) (by omega)]
  unfold lag
  split
  · exact count_nat _ (by omega)
  · refine (congrArg (FloatOps.sitofp (F := Ideal) FTy.f32) (sub_nat 16384 (512 * t.val + r.val) (by omega) (by omega))).trans (count_nat _ (by omega))

theorem pay13_apply (t : Fin grid0.N) (r : Fin 512) : k0_pay13 (F := Ideal) (grid0.coords t) (ix2 r 0) = Filt.frac (lag (512 * t.val + r.val)) := by
  have h := pay12_apply t r
  unfold k0_pay13 Filt.frac
  generalize k0_pay12 (F := Ideal) (grid0.coords t) = g at h
  pointwise
  rw [h]

/-- The angle of a lane, the sines' a quarter turn on. -/
theorem pay14_apply (t : Fin grid0.N) (r : Fin 512) (j : Fin 128) (h0 : j.val ≠ 0) : k0_pay14 (F := Ideal) (grid0.coords t) (ix2 r j)
    = Filt.angle (lag (512 * t.val + r.val)) (if j.val ≤ 16 then j.val - 1 else j.val - 17) + (if 16 < j.val then (((1 / 2) * Real.pi : ℝ) : EReal) else 0) := by
  have h := pay12_apply t r
  unfold k0_pay14
  generalize k0_pay12 (F := Ideal) (grid0.coords t) = g at h
  pointwise
  rw [h, pick_le _ _ (by omega) (by omega), pick_gt _ _ (by omega) (by omega)]
  unfold Filt.angle
  refine congrArg₂ (fun (x y : EReal) => (_ + x * _) * _ + y) ?_ rfl
  split
  · exact (congrArg (FloatOps.sitofp (F := Ideal) FTy.f32) (sub_nat j.val 1 (by omega) (by omega))).trans (count_nat _ (by omega))
  · refine (congrArg (FloatOps.sitofp (F := Ideal) FTy.f32) ((congrArg (IntOp.subi · (BitVec.ofNat 32 16)) (sub_nat j.val 1 (by omega) (by omega))).trans (sub_nat (j.val - 1) 16 (by omega) (by omega)))).trans ((count_nat _ (by omega)).trans ?_)
    exact congrArg Filt.num (by omega)

theorem pay15_apply (j : Fin 128) : k0_pay15 (ix2 0 j) = IntOp.cmpi .eq (BitVec.ofNat 32 j.val) (BitVec.ofNat 32 0) := by
  unfold k0_pay15
  pointwise

theorem pay17_apply (j : Fin 1024) : k0_pay17 (F := Ideal) (ix2 0 j) = Filt.num j.val := by
  unfold k0_pay17
  pointwise
  exact count_nat _ (by omega)

/-- The features of a tile's positions, none past the thirty-third lane. -/
def lanesAt (v11 : FVec Ideal S512x1 .f32) (v16 : IVec S1x128 32) (v40 : FVec Ideal S512x128 .f32) (v42 : IVec S1x128 1) (r : Fin 512) (j : Fin 128) : EReal :=
  Scalar.select (v42 (ix2 0 j)) (v11 (ix2 r 0)) (Scalar.select (IntOp.cmpi .sle (v16 (ix2 0 j)) 32#32) (Ideal.cos (v40 (ix2 r j))) 0)

theorem lanes_eq (t : Fin grid0.N) (r : Fin 512) (j : Fin 128) :
    lanesAt (k0_pay13 (grid0.coords t)) (iota Kind.tc S1x128 32 [1] iota_S1x128_d1_w32) (k0_pay14 (grid0.coords t)) k0_pay15 r j
      = if j.val < 33 then Filt.feature (lag (512 * t.val + r.val)) j.val else 0 := by
  unfold lanesAt
  rw [pay15_apply, pick_eq _ _ (by omega) (by omega), pay13_apply]
  have e : iota Kind.tc S1x128 32 [1] iota_S1x128_d1_w32 (ix2 0 j) = BitVec.ofNat 32 j.val := by pointwise
  rw [e, pick_le _ _ (by omega) (by omega)]
  unfold Filt.feature
  by_cases h0 : j.val = 0
  · rw [if_pos h0, if_pos (show j.val < 33 by omega), if_pos h0]
  rw [if_neg h0, if_neg h0, pay14_apply t r j h0]
  by_cases h1 : j.val ≤ 16
  · rw [if_pos (show j.val ≤ 32 by omega), if_pos (show j.val < 33 by omega), if_pos h1, if_pos h1, if_neg (show ¬ 16 < j.val by omega), add_zero]
  rw [if_neg h1, if_neg h1, if_pos (show 16 < j.val by omega), Filt.cos_quarter (Filt.angle_real _ _)]
  by_cases h2 : j.val ≤ 32
  · rw [if_pos h2, if_pos (show j.val < 33 by omega)]
  · rw [if_neg h2, if_neg (show ¬ j.val < 33 by omega)]

section
variable (v11 : FVec Ideal S512x1 .f32) (v16 : IVec S1x128 32) (v40 : FVec Ideal S512x128 .f32) (v42 : IVec S1x128 1) (f1 : Vec Ideal S1x64 .f32) (w1 : Vec Ideal S128x64 .f32)
  (b1 f2 : Vec Ideal S1x64 .f32) (w2 : Vec Ideal S64x64 .f32) (b2 : Vec Ideal S1x64 .f32) (r : Fin 512) (k : Fin 64)

/-- A hidden value from the lanes. -/
def hidAt : EReal := Filt.second (fun x => Ideal.sin (f1 (ix2 0 x) * ((∑ j, lanesAt v11 v16 v40 v42 r j * w1 (ix2 j x)) + b1 (ix2 0 x))))
  (fun x n => w2 (ix2 x n)) (fun n => b2 (ix2 0 n)) (fun n => f2 (ix2 0 n)) k

theorem pay16_low : k0_pay16 v11 v16 v40 v42 f1 w1 b1 f2 w2 b2 (ix2 r ⟨k.val, by omega⟩) = hidAt v11 v16 v40 v42 f1 w1 b1 f2 w2 b2 r k := by
  unfold k0_pay16
  pointwise
  rfl

theorem pay16_mid : k0_pay16 v11 v16 v40 v42 f1 w1 b1 f2 w2 b2 (ix2 r ⟨64 + k.val, by omega⟩) = hidAt v11 v16 v40 v42 f1 w1 b1 f2 w2 b2 r k := by
  unfold k0_pay16
  pointwise
  rfl

theorem pay16_high : k0_pay16 v11 v16 v40 v42 f1 w1 b1 f2 w2 b2 (ix2 r ⟨128 + k.val, by omega⟩)
    = hidAt v11 v16 v40 v42 f1 w1 b1 f2 w2 b2 r k - hidAt v11 v16 v40 v42 f1 w1 b1 f2 w2 b2 r k := by
  unfold k0_pay16
  pointwise
  rw [dif_neg (by omega), dif_neg (by omega)]
  simp only [show 128 + k.val - 64 - 64 = k.val by omega]
  rfl

end

section
variable (v3 : IVec S512x1 32) (v11 : FVec Ideal S512x1 .f32) (v83 : FVec Ideal S512x192 .bf16) (v85 : FVec Ideal S1x1024 .f32) (z : Ideal .f32) (w : Vec Ideal S1x192x2048 .bf16)
  (v103 : FVec Ideal S512x2048 .f32) (v117 v120 : Vec Ideal S1x192x2048 .bf16) (s : Vec Ideal S1x2048 .f32) (r : Fin 512)

theorem pay1_low (q : Fin 1024) : k0_pay1 v3 v11 v85 z (ix2 r ⟨q.val, by omega⟩) = Scalar.select (IntOp.cmpi .eq (v3 (ix2 r 0)) (BitVec.ofNat 32 8192)) 0
    (Ideal.exp ((0 - v11 (ix2 r 0)) * FloatOps.absf (F := Ideal) (φ := .f32) (Ideal.ofBits FTy.f32 0xC0447CBD#32 + v85 (ix2 0 q) * z))) := by
  unfold k0_pay1
  pointwise

theorem pay1_high (q : Fin 1024) : k0_pay1 v3 v11 v85 z (ix2 r ⟨1024 + q.val, by omega⟩) = Scalar.select (IntOp.cmpi .eq (v3 (ix2 r 0)) (BitVec.ofNat 32 8192)) 0
    (Ideal.exp ((0 - v11 (ix2 r 0)) * FloatOps.absf (F := Ideal) (φ := .f32) (Ideal.ofBits FTy.f32 0xC0447CBD#32 + v85 (ix2 0 q) * z))) := by
  unfold k0_pay1
  pointwise

theorem pay2_apply (q : Fin 2048) : k0_pay2 v3 v11 v83 v85 z w (ix2 r q) = k0_pay1 v3 v11 v85 z (ix2 r q) * ∑ k, v83 (ix2 r k) * w (ix3 0 k q) := by
  unfold k0_pay2
  generalize k0_pay1 v3 v11 v85 z = g
  pointwise

theorem pay3_apply (q : Fin 1024) : k0_pay3 v3 v11 v83 v85 z w (ix3 0 r q) = k0_pay2 v3 v11 v83 v85 z w (ix2 r ⟨q.val, by omega⟩) := by
  unfold k0_pay3
  generalize k0_pay2 v3 v11 v83 v85 z w = g
  pointwise

theorem pay4_apply (q : Fin 1024) : k0_pay4 v3 v11 v83 v85 z w (ix3 0 r q) = k0_pay2 v3 v11 v83 v85 z w (ix2 r ⟨1024 + q.val, by omega⟩) := by
  unfold k0_pay4
  generalize k0_pay2 v3 v11 v83 v85 z w = g
  pointwise

theorem pay5_apply (q : Fin 2048) : k0_pay5 v3 v11 v83 v85 z w s (ix2 0 q)
    = s (ix2 0 q) + ∑ r : Fin 512, k0_pay2 v3 v11 v83 v85 z w (ix2 r q) * k0_pay2 v3 v11 v83 v85 z w (ix2 r q) := by
  unfold k0_pay5
  generalize k0_pay2 v3 v11 v83 v85 z w = g
  pointwise

theorem pay6_apply (q : Fin 2048) : k0_pay6 (F := Ideal) (ix2 0 q) = 0 := by
  unfold k0_pay6
  pointwise

theorem pay7_apply (q : Fin 2048) : k0_pay7 v3 v83 v103 v117 v120 (ix2 r q) = v103 (ix2 r q) * ((∑ k, v83 (ix2 r k) * v117 (ix3 0 k q))
      + Scalar.select (IntOp.cmpi .eq (v3 (ix2 r 0)) (BitVec.ofNat 32 0)) (∑ k, v83 (ix2 r k) * v120 (ix3 0 k q)) 0) := by
  unfold k0_pay7
  pointwise

theorem pay8_apply (q : Fin 1024) : k0_pay8 v3 v83 v103 v117 v120 (ix3 0 r q) = k0_pay7 v3 v83 v103 v117 v120 (ix2 r ⟨q.val, by omega⟩) := by
  unfold k0_pay8
  generalize k0_pay7 v3 v83 v103 v117 v120 = g
  pointwise

theorem pay9_apply (q : Fin 1024) : k0_pay9 v3 v83 v103 v117 v120 (ix3 0 r q) = k0_pay7 v3 v83 v103 v117 v120 (ix2 r ⟨1024 + q.val, by omega⟩) := by
  unfold k0_pay9
  generalize k0_pay7 v3 v83 v103 v117 v120 = g
  pointwise

theorem pay10_apply (q : Fin 2048) : k0_pay10 v3 v83 v103 v117 v120 s (ix2 0 q)
    = s (ix2 0 q) + ∑ r : Fin 512, k0_pay7 v3 v83 v103 v117 v120 (ix2 r q) * k0_pay7 v3 v83 v103 v117 v120 (ix2 r q) := by
  unfold k0_pay10
  generalize k0_pay7 v3 v83 v103 v117 v120 = g
  pointwise

end

/-- The damping of a tile: none at all passes in the middle. -/
theorem damp_apply (t : Fin grid0.N) (r : Fin 512) (o : Fin 2) (q : Fin 1024) : damp (F := Ideal) t (ix2 r ⟨o.val * 1024 + q.val, by omega⟩)
    = if 512 * t.val + r.val = 8192 then 0 else Filt.decay (lag (512 * t.val + r.val)) q.val := by
  have ht := point_lt t
  have e : damp (F := Ideal) t (ix2 r ⟨o.val * 1024 + q.val, by omega⟩) = Scalar.select (IntOp.cmpi .eq (k0_pay11 (grid0.coords t) (ix2 r 0)) (BitVec.ofNat 32 8192)) 0
      (Ideal.exp ((0 - k0_pay13 (F := Ideal) (grid0.coords t) (ix2 r 0)) * FloatOps.absf (F := Ideal) (φ := .f32) (Ideal.ofBits FTy.f32 0xC0447CBD#32 + k0_pay17 (F := Ideal) (ix2 0 q) * Ideal.ofBits FTy.f32 0xBC44ADE9#32))) := by
    match o with
    | ⟨0, _⟩ => exact (congrArg (damp (F := Ideal) t) (congrArg (ix2 r) (Fin.ext (show 0 * 1024 + q.val = q.val by omega)))).trans (pay1_low _ _ _ _ r q)
    | ⟨1, _⟩ => exact (congrArg (damp (F := Ideal) t) (congrArg (ix2 r) (Fin.ext (show 1 * 1024 + q.val = 1024 + q.val by omega)))).trans (pay1_high _ _ _ _ r q)
  rw [e, pay11_apply, pay13_apply, pay17_apply, pick_eq _ _ (by omega) (by omega)]
  unfold Filt.decay
  rw [zero_sub]
  rfl

end Cert.FilterIdeal.Point

end
-- ==== Proof.Filter.Lay.lean ====
module

public import proofs.«01_k».proof.Proof.Gen.FilterIdeal.Frame
public import Idealize.ShloMosaic.Lib.Routing.OpsSet
public import Idealize.ShloMosaic.Lib.Routing.OpsOne

/-! Rows written over the head of a matrix. -/

@[expose] public section

noncomputable section

namespace Cert.Filt

open Idealize.ShloMosaic Idealize.ShloMosaic.Routing Idealize.ShloMosaic.ValueIdx

/-- Row `r'` of the rows written from the first on lands at row `r'`. -/
theorem lands_rows {R U C w : ℕ} (d : ScatterDims (shape2 R C) (shape1 1) (shape2 U C)) (hu : d.updateWindowDims = [0, 1]) (hi : d.insertedWindowDims = [])
    (hs : d.scatterDimsToOperandDims = [0]) (idx : IVec (shape1 1) w) (h0 : (idx (ix1 0)).toInt = 0) (r' : Fin U) (e' : Fin C) (r : Fin R) (e : Fin C) :
    d.resultIdx? (ix2 r' e') idx = some (ix2 r e) ↔ r'.val = r.val ∧ e'.val = e.val := by
  obtain ⟨uw, iw, sd, iv, wf⟩ := d
  dsimp only at hu hi hs
  subst hu hi hs
  have w0 : ScatterDims.window ⟨[0, 1], [], [0], iv, wf⟩ (ix2 r' e' : (shape2 U C).Idx) (0 : Fin (shape2 R C).rank) = r'.val := rfl
  have w1 : ScatterDims.window ⟨[0, 1], [], [0], iv, wf⟩ (ix2 r' e' : (shape2 U C).Idx) (1 : Fin (shape2 R C).rank) = e'.val := rfl
  have s1 : ScatterDims.start ⟨[0, 1], [], [0], iv, wf⟩ (ix2 r' e' : (shape2 U C).Idx) idx (1 : Fin (shape2 R C).rank) = 0 := rfl
  have s0 : ScatterDims.start ⟨[0, 1], [], [0], iv, wf⟩ (ix2 r' e' : (shape2 U C).Idx) idx (0 : Fin (shape2 R C).rank) = 0 := by
    refine Eq.trans ?_ h0
    refine congrArg (fun i => (idx i).toInt) (funext fun b => ?_)
    match b with
    | ⟨0, _⟩ => exact Subsingleton.elim (α := Fin 1) _ _
  rw [resultIdx?_ix2, s0, w0, s1, w1]
  omega

/-- The rows written are read back from the first on. -/
theorem rows_hit {α : Type} {R U C w : ℕ} (d : ScatterDims (shape2 R C) (shape1 1) (shape2 U C)) (hu : d.updateWindowDims = [0, 1]) (hi : d.insertedWindowDims = [])
    (hs : d.scatterDimsToOperandDims = [0]) (x : (shape2 R C).Idx → α) (idx : IVec (shape1 1) w) (h0 : (idx (ix1 0)).toInt = 0) (u : (shape2 U C).Idx → α)
    (i : (shape2 U C).Idx) (j : (shape2 R C).Idx) (r : (i 0).val = (j 0).val) (e : (i 1).val = (j 1).val) :
    Host.scatter d (fun _ b => b) x idx u j = u i := by
  have l : ∀ k : (shape2 U C).Idx, d.resultIdx? k idx = some j ↔ (k 0).val = (j 0).val ∧ (k 1).val = (j 1).val := fun k =>
    (iff_of_eq (congrArg₂ (fun a b => d.resultIdx? a idx = some b) (eq_ix2 k) (eq_ix2 j))).trans (lands_rows d hu hi hs idx h0 (k 0) (k 1) (j 0) (j 1))
  refine scatter_set_hit d x idx u _ _ (fun k hk => congrArg u (funext fun a => Fin.ext ?_)) i ((l i).mpr ⟨r, e⟩)
  have t := (l k).mp hk
  match a with
  | ⟨0, _⟩ => exact t.1.trans r.symm
  | ⟨1, _⟩ => exact t.2.trans e.symm

end Cert.Filt

end
-- ==== Proof.Filter.Blocks.lean ====
module

public import proofs.«01_k».proof.Proof.Filter.Pay
public import proofs.«01_k».proof.Proof.Filter.Lay
public import Idealize.ShloMosaic.Lib.Pointwise
public import Idealize.ShloMosaic.Lib.StableHlo.RunRead

@[expose] public section

set_option maxRecDepth 16384

noncomputable section

namespace Cert.FilterIdeal.Point

open Cert.FilterIdeal Cert.FilterIdeal.Gen Idealize.ShloMosaic Idealize.ShloMosaic.TcCoe Idealize.SL.Sem

variable (m : (ℓ : Loc nD τ sig) → Buf (Elt Ideal) ℓ)

theorem idx : ∀ t : Fin grid0.N,
    win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0, 0] ∧
    win0_7.index t = ![0, t.val, 0] ∧ win0_8.index t = ![0, 0] := by decide +kernel

/-- The first layer's weights, as launched. -/
def W1 (c : Dev nD) (j : Fin 33) (n : Fin 64) : EReal := (m ((c : Thread nD τ).loc main_arg0) : Vec Ideal S1x33x64 .f32) (ix3 0 j n)
def B1 (c : Dev nD) (n : Fin 64) : EReal := (m ((c : Thread nD τ).loc main_arg1) : Vec Ideal S1x64 .f32) (ix2 0 n)
def F1 (c : Dev nD) (n : Fin 64) : EReal := (m ((c : Thread nD τ).loc main_arg2) : Vec Ideal S1x64 .f32) (ix2 0 n)
def W2 (c : Dev nD) (k n : Fin 64) : EReal := (m ((c : Thread nD τ).loc main_arg3) : Vec Ideal S1x64x64 .f32) (ix3 0 k n)
def B2 (c : Dev nD) (n : Fin 64) : EReal := (m ((c : Thread nD τ).loc main_arg4) : Vec Ideal S1x64 .f32) (ix2 0 n)
def F2 (c : Dev nD) (n : Fin 64) : EReal := (m ((c : Thread nD τ).loc main_arg5) : Vec Ideal S1x64 .f32) (ix2 0 n)
/-- The last layer's weights of order `o` and direction `d`. -/
def W3 (c : Dev nD) (o d : Fin 2) (q : Fin 1024) (k : Fin 64) : EReal :=
  (m ((c : Thread nD τ).loc main_arg6) : Vec Ideal S1x64x4096 .f32) (ix3 0 k ⟨(o.val * 2 + d.val) * 1024 + q.val, by omega⟩)

theorem host_first (c : Dev nD) : (V m c main_v9 : Vec Ideal S128x64 .f32) =
    Host.scatter scatter_S128x64_S1_S33x64_01_n_0_0 (fun _ b => b) (broadcastInDim S128x64 ![] bcast_S_S128x64 (constant S_ .f32 0x00000000#32 : FVec Ideal S_ .f32))
      (broadcastInDim S1 ![] bcast_S_S1 (constantI S_ 32 0#32)) (shapeCast S33x64 (m ((c : Thread nD τ).loc main_arg0) : Vec Ideal S1x33x64 .f32) shapeCasts_S1x33x64_S33x64) := by
  simp only [V]
  after_reads_simp
  rfl

theorem blk0 (c : Dev nD) (t : Fin cfg0.N) (j : Fin 33) (n : Fin 64) :
    (iblk m c 0 t : Vec Ideal S128x64 .f32) (ix2 ⟨j.val, by omega⟩ n) = W1 m c j n := by
  have e : (iblk m c 0 t : Vec Ideal S128x64 .f32) (ix2 ⟨j.val, by omega⟩ n) = (V m c main_v9 : Vec Ideal S128x64 .f32) (ix2 ⟨j.val, by omega⟩ n) := by
    blk_ext [iblk, idx t]
  rw [e, host_first]
  refine (Filt.rows_hit (R := 128) (U := 33) (C := 64) scatter_S128x64_S1_S33x64_01_n_0_0 rfl rfl rfl _ _ rfl _ (ix2 j n) _ rfl rfl).trans ?_
  unfold W1
  refine shapeCast_apply (s := S1x33x64) _ _ _ (ix3 0 j n) ?_
  rw [Shape.rowMajor_val_two, Shape.rowMajor_val_three]
  show (0 * 33 + j.val) * 64 + n.val = j.val * 64 + n.val
  omega

/-- The last layer's weights as the kernel lays them out: a slab per direction, both orders side by side. -/
def stack (c : Dev nD) : Vec Ideal S2x64x2048 .f32 :=
  shapeCast S2x64x2048 (transpose S2x64x2x1024 [2, 0, 1, 3] (shapeCast S64x2x2x1024 (shapeCast S64x4096
    (m ((c : Thread nD τ).loc main_arg6) : Vec Ideal S1x64x4096 .f32) shapeCasts_S1x64x4096_S64x4096) shapeCasts_S64x4096_S64x2x2x1024)
    transposes_S64x2x2x1024_S2x64x2x1024_2_0_1_3) shapeCasts_S2x64x2x1024_S2x64x2048

theorem stack_apply (c : Dev nD) (o d : Fin 2) (k : Fin 64) (q : Fin 1024) :
    stack m c (ix3 d k ⟨o.val * 1024 + q.val, by omega⟩) = W3 m c o d q k := by
  unfold stack W3
  refine (shapeCast_apply _ _ _ (ix4 d k o q) ?_).trans ?_
  · rw [Shape.rowMajor_val_four, Shape.rowMajor_val_three]
    show ((d.val * 64 + k.val) * 2 + o.val) * 1024 + q.val = (d.val * 64 + k.val) * 2048 + (o.val * 1024 + q.val)
    omega
  refine (transpose_apply _ _ _ _ (ix4 k o d q) fun b => match b with | ⟨0, _⟩ => rfl | ⟨1, _⟩ => rfl | ⟨2, _⟩ => rfl | ⟨3, _⟩ => rfl).trans ?_
  refine (shapeCast_apply _ _ _ (ix2 k ⟨(o.val * 2 + d.val) * 1024 + q.val, by omega⟩) ?_).trans ?_
  · rw [Shape.rowMajor_val_four, Shape.rowMajor_val_two]
    show k.val * 4096 + ((o.val * 2 + d.val) * 1024 + q.val) = ((k.val * 2 + o.val) * 2 + d.val) * 1024 + q.val
    omega
  refine shapeCast_apply (s := S1x64x4096) _ _ _ (ix3 0 k ⟨(o.val * 2 + d.val) * 1024 + q.val, by omega⟩) ?_
  rw [Shape.rowMajor_val_two, Shape.rowMajor_val_three]
  show (0 * 64 + k.val) * 4096 + ((o.val * 2 + d.val) * 1024 + q.val) = k.val * 4096 + ((o.val * 2 + d.val) * 1024 + q.val)
  omega

theorem host_last (c : Dev nD) : (V m c main_v17 : Vec Ideal S2x192x2048 .bf16) =
    concatenate S2x192x2048 1 [⟨S2x64x2048, (truncf .bf16 (stack m c : FVec Ideal S2x64x2048 .f32) bitsLt_bf16_f32 : FVec Ideal S2x64x2048 .bf16)⟩,
      ⟨S2x64x2048, (truncf .bf16 (subf (stack m c : FVec Ideal S2x64x2048 .f32) (extf .f32 (truncf .bf16 (stack m c : FVec Ideal S2x64x2048 .f32) bitsLt_bf16_f32) bitsLt_bf16_f32)) bitsLt_bf16_f32 : FVec Ideal S2x64x2048 .bf16)⟩,
      ⟨S2x64x2048, (truncf .bf16 (stack m c : FVec Ideal S2x64x2048 .f32) bitsLt_bf16_f32 : FVec Ideal S2x64x2048 .bf16)⟩] concatenates_S2x64x2048_S2x64x2048_S2x64x2048_S2x192x2048_d1 := by
  simp only [V]
  after_reads_simp
  rfl

theorem blk1 (c : Dev nD) (t : Fin cfg0.N) (n : Fin 64) : (iblk m c 1 t : Vec Ideal S1x64 .f32) (ix2 0 n) = B1 m c n := by
  unfold B1
  blk_ext! [iblk, V, idx t]
theorem blk2 (c : Dev nD) (t : Fin cfg0.N) (n : Fin 64) : (iblk m c 2 t : Vec Ideal S1x64 .f32) (ix2 0 n) = F1 m c n := by
  unfold F1
  blk_ext! [iblk, V, idx t]
theorem blk3 (c : Dev nD) (t : Fin cfg0.N) (k n : Fin 64) : (iblk m c 3 t : Vec Ideal S64x64 .f32) (ix2 k n) = W2 m c k n := by
  unfold W2
  blk_ext! [iblk, V, idx t]
theorem blk4 (c : Dev nD) (t : Fin cfg0.N) (n : Fin 64) : (iblk m c 4 t : Vec Ideal S1x64 .f32) (ix2 0 n) = B2 m c n := by
  unfold B2
  blk_ext! [iblk, V, idx t]
theorem blk5 (c : Dev nD) (t : Fin cfg0.N) (n : Fin 64) : (iblk m c 5 t : Vec Ideal S1x64 .f32) (ix2 0 n) = F2 m c n := by
  unfold F2
  blk_ext! [iblk, V, idx t]
theorem blk6_all (c : Dev nD) (t : Fin cfg0.N) (d : Fin 2) (k : Fin 192) (e : Fin 2048) :
    (iblk m c 6 t : Vec Ideal S2x192x2048 .bf16) (ix3 d k e) = (V m c main_v17 : Vec Ideal S2x192x2048 .bf16) (ix3 d k e) := by
  blk_ext [iblk, idx t]

theorem blk6_low (c : Dev nD) (t : Fin cfg0.N) (o d : Fin 2) (k : Fin 64) (q : Fin 1024) :
    (iblk m c 6 t : Vec Ideal S2x192x2048 .bf16) (ix3 d ⟨k.val, by omega⟩ ⟨o.val * 1024 + q.val, by omega⟩) = W3 m c o d q k := by
  rw [blk6_all, host_last]
  pointwise
  exact stack_apply m c o d k q

theorem blk6_mid (c : Dev nD) (t : Fin cfg0.N) (o d : Fin 2) (k : Fin 64) (q : Fin 1024) :
    (iblk m c 6 t : Vec Ideal S2x192x2048 .bf16) (ix3 d ⟨64 + k.val, by omega⟩ ⟨o.val * 1024 + q.val, by omega⟩) = W3 m c o d q k - W3 m c o d q k := by
  rw [blk6_all, host_last]
  pointwise
  rw [stack_apply m c o d k q]

theorem blk6_high (c : Dev nD) (t : Fin cfg0.N) (o d : Fin 2) (k : Fin 64) (q : Fin 1024) :
    (iblk m c 6 t : Vec Ideal S2x192x2048 .bf16) (ix3 d ⟨128 + k.val, by omega⟩ ⟨o.val * 1024 + q.val, by omega⟩) = W3 m c o d q k := by
  rw [blk6_all, host_last]
  pointwise
  rw [dif_neg (by omega), dif_neg (by omega)]
  simp only [show 128 + k.val - 64 - 64 = k.val by omega]
  exact stack_apply m c o d k q

end Cert.FilterIdeal.Point

end
-- ==== Proof.Filter.Tile.lean ====
module

public import proofs.«01_k».proof.Proof.Filter.Cases
public import proofs.«01_k».proof.Proof.Filter.Blocks
public import Idealize.ShloMosaic.Lib.Pointwise

@[expose] public section

set_option maxRecDepth 16384

noncomputable section

namespace Cert.FilterIdeal.Point

open Cert.FilterIdeal Cert.FilterIdeal.Gen Idealize.ShloMosaic Idealize.ShloMosaic.TcCoe Idealize.SL.Sem
open Cert.Rows (IsReal)

variable (m : (ℓ : Loc nD τ sig) → Buf (Elt Ideal) ℓ)

/-- The network's hidden values at a position. -/
def H (c : Dev nD) (p : ℕ) : Fin 64 → EReal := Filt.second (Filt.hidden (W1 m c) (B1 m c) (F1 m c) p) (W2 m c) (B2 m c) (F2 m c)

/-- The last layer's weights are real. -/
def Reals (c : Dev nD) : Prop := ∀ o d q k, IsReal (W3 m c o d q k)

theorem H_cases (c : Dev nD) (p : ℕ) (k : Fin 64) : IsReal (H m c p k) ∨ H m c p k = ⊥ := Filt.sin_cases _

theorem hidAt_of (t : Fin grid0.N) (r : Fin 512) (k : Fin 64) (f1 : Vec Ideal S1x64 .f32) (w1 : Vec Ideal S128x64 .f32) (b1 f2 : Vec Ideal S1x64 .f32)
    (w2 : Vec Ideal S64x64 .f32) (b2 : Vec Ideal S1x64 .f32) (vw1 : Fin 33 → Fin 64 → EReal) (vb1 vf1 : Fin 64 → EReal) (vw2 : Fin 64 → Fin 64 → EReal) (vb2 vf2 : Fin 64 → EReal)
    (hw1 : ∀ (j : Fin 33) n, w1 (ix2 ⟨j.val, by omega⟩ n) = vw1 j n) (hb1 : ∀ n, b1 (ix2 0 n) = vb1 n) (hf1 : ∀ n, f1 (ix2 0 n) = vf1 n)
    (hw2 : ∀ k n, w2 (ix2 k n) = vw2 k n) (hb2 : ∀ n, b2 (ix2 0 n) = vb2 n) (hf2 : ∀ n, f2 (ix2 0 n) = vf2 n) :
    hidAt (k0_pay13 (grid0.coords t)) (iota Kind.tc S1x128 32 [1] iota_S1x128_d1_w32) (k0_pay14 (grid0.coords t)) k0_pay15 f1 w1 b1 f2 w2 b2 r k
      = Filt.second (Filt.hidden vw1 vb1 vf1 (lag (512 * t.val + r.val))) vw2 vb2 vf2 k := by
  have e : (fun x : Fin 64 => Ideal.sin (f1 (ix2 0 x) * ((∑ j, lanesAt (k0_pay13 (grid0.coords t)) (iota Kind.tc S1x128 32 [1] iota_S1x128_d1_w32)
      (k0_pay14 (grid0.coords t)) k0_pay15 r j * w1 (ix2 j x)) + b1 (ix2 0 x)))) = Filt.hidden vw1 vb1 vf1 (lag (512 * t.val + r.val)) := by
    funext x
    unfold Filt.hidden
    rw [hb1, hf1]
    refine congrArg (fun s => Ideal.sin (vf1 x * (s + vb1 x))) ?_
    refine Filt.lanes _ (fun j => w1 (ix2 j x)) (fun j => Filt.feature (lag (512 * t.val + r.val)) j.val) (fun j => vw1 j x)
      (fun j => ?_) (fun j => hw1 j x) fun j hj => ?_
    · exact (lanes_eq t r ⟨j.val, by omega⟩).trans (if_pos j.isLt)
    · exact (lanes_eq t r j).trans (if_neg (by omega))
  have e2 : (fun x n => w2 (ix2 x n)) = vw2 := funext fun x => funext fun n => hw2 x n
  have e3 : (fun n => b2 (ix2 0 n)) = vb2 := funext hb2
  have e4 : (fun n => f2 (ix2 0 n)) = vf2 := funext hf2
  unfold hidAt
  rw [e, e2, e3, e4]

theorem hidAt_eq (c : Dev nD) (t : Fin cfg0.N) (r : Fin 512) (k : Fin 64) :
    hidAt (k0_pay13 (grid0.coords t)) (iota Kind.tc S1x128 32 [1] iota_S1x128_d1_w32) (k0_pay14 (grid0.coords t)) k0_pay15
      (iblk m c 2 t) (iblk m c 0 t) (iblk m c 1 t) (iblk m c 5 t) (iblk m c 3 t) (iblk m c 4 t) r k = H m c (lag (512 * t.val + r.val)) k :=
  hidAt_of t r k _ _ _ _ _ _ _ _ _ _ _ _ (blk0 m c t) (blk1 m c t) (blk2 m c t) (blk3 m c t) (blk4 m c t) (blk5 m c t)

theorem hid_low (c : Dev nD) (t : Fin cfg0.N) (r : Fin 512) (k : Fin 64) : hid m c t (ix2 r ⟨k.val, by omega⟩) = H m c (lag (512 * t.val + r.val)) k := by
  unfold hid
  rw [pay16_low, hidAt_eq]
theorem hid_mid (c : Dev nD) (t : Fin cfg0.N) (r : Fin 512) (k : Fin 64) : hid m c t (ix2 r ⟨64 + k.val, by omega⟩) = H m c (lag (512 * t.val + r.val)) k := by
  unfold hid
  rw [pay16_mid, hidAt_eq]
theorem hid_high (c : Dev nD) (t : Fin cfg0.N) (r : Fin 512) (k : Fin 64) : hid m c t (ix2 r ⟨128 + k.val, by omega⟩)
    = H m c (lag (512 * t.val + r.val)) k - H m c (lag (512 * t.val + r.val)) k := by
  unfold hid
  rw [pay16_high, hidAt_eq]

/-- A loaded slab of the last layer's weights. -/
theorem layer_apply (b : Vec Ideal S2x192x2048 .bf16) (off : Fin 3 → ℕ) (inb : ∀ a, off a + (![1, 192, 2048] : Fin 3 → ℕ) a ≤ S2x192x2048.size a) (d : Fin 2)
    (h : off = ![d.val, 0, 0]) (k : Fin 192) (e : Fin 2048) : layer b off inb (ix3 0 k e) = b (ix3 d k e) := by
  subst h
  refine congrArg b (funext fun a => Fin.ext ?_)
  match a with
  | ⟨0, _⟩ => show d.val + 0 * 1 = d.val; omega
  | ⟨1, _⟩ => show 0 + 1 * k.val = k.val; omega
  | ⟨2, _⟩ => show 0 + 1 * e.val = e.val; omega

/-- A tile's product over the three times sixty-four columns is the last layer's. -/
theorem dot (c : Dev nD) (hR : Reals m c) (t : Fin cfg0.N) (r : Fin 512) (o d : Fin 2) (q : Fin 1024) (w : Vec Ideal S1x192x2048 .bf16)
    (hw : ∀ (k : Fin 192) (e : Fin 2048), w (ix3 0 k e) = (iblk m c 6 t : Vec Ideal S2x192x2048 .bf16) (ix3 d k e)) :
    (∑ k : Fin 192, hid m c t (ix2 r k) * w (ix3 0 k ⟨o.val * 1024 + q.val, by omega⟩)) = ∑ k, H m c (lag (512 * t.val + r.val)) k * W3 m c o d q k :=
  Filt.split_sum (fun k => hid m c t (ix2 r k)) (fun k => w (ix3 0 k ⟨o.val * 1024 + q.val, by omega⟩)) (H m c (lag (512 * t.val + r.val))) (W3 m c o d q)
    (H_cases m c _) (hR o d q) (hid_low m c t r) (hid_mid m c t r) (hid_high m c t r)
    (fun k => (hw _ _).trans (blk6_low m c t o d k q)) (fun k => (hw _ _).trans (blk6_mid m c t o d k q)) (fun k => (hw _ _).trans (blk6_high m c t o d k q))

/-- The two filters at a place. -/
def val (c : Dev nD) (o : Fin 2) (q : Fin 1024) (p : ℕ) : EReal := Filt.both (H m c) (W3 m c o 0 q) (W3 m c o 1 q) q.val p

theorem row_A (c : Dev nD) (hR : Reals m c) (t : Fin cfg0.N) (h1 : ¬ 1 ≤ t.val) (f b : Vec Ideal S1x192x2048 .bf16)
    (hf : ∀ (k : Fin 192) (e : Fin 2048), f (ix3 0 k e) = (iblk m c 6 t : Vec Ideal S2x192x2048 .bf16) (ix3 0 k e))
    (hb : ∀ (k : Fin 192) (e : Fin 2048), b (ix3 0 k e) = (iblk m c 6 t : Vec Ideal S2x192x2048 .bf16) (ix3 1 k e))
    (r : Fin 512) (o : Fin 2) (q : Fin 1024) :
    k0_pay7 (k0_pay11 (grid0.coords t)) (hid m c t) (damp t) f b (ix2 r ⟨o.val * 1024 + q.val, by omega⟩) = val m c o q (512 * t.val + r.val) := by
  rw [pay7_apply, dot m c hR t r o 0 q f hf, dot m c hR t r o 1 q b hb, damp_apply, pay11_apply, pick_eq _ _ (by omega) (by omega)]
  have hr := r.isLt
  unfold val Filt.both Filt.tap
  rw [if_neg (show ¬ 512 * t.val + r.val = 8192 by omega), show lag (512 * t.val + r.val) = 512 * t.val + r.val from if_pos (by omega)]
  by_cases h0 : 512 * t.val + r.val = 0
  · rw [h0, if_pos rfl, if_pos rfl, Filt.decay_zero, one_mul, mul_one, mul_one]
  · rw [if_neg h0, if_neg h0, if_pos (show 512 * t.val + r.val < 8192 by omega), add_zero, mul_comm]

theorem off_eq : ∀ t : Fin grid0.N, k0_off1 (grid0.coords t) = ![if 16 ≤ t.val then 1 else 0, 0, 0] := by decide +kernel

theorem row_B (c : Dev nD) (hR : Reals m c) (t : Fin cfg0.N) (h1 : 1 ≤ t.val) (w : Vec Ideal S1x192x2048 .bf16)
    (hw : ∀ (k : Fin 192) (e : Fin 2048), w (ix3 0 k e) = (iblk m c 6 t : Vec Ideal S2x192x2048 .bf16) (ix3 (if 16 ≤ t.val then 1 else 0) k e))
    (r : Fin 512) (o : Fin 2) (q : Fin 1024) :
    k0_pay2 (k0_pay11 (grid0.coords t)) (k0_pay13 (grid0.coords t)) (hid m c t) k0_pay17 (FloatOps.ofBits FTy.f32 3158617577#32) w
      (ix2 r ⟨o.val * 1024 + q.val, by omega⟩) = val m c o q (512 * t.val + r.val) := by
  rw [pay2_apply, dot m c hR t r o (if 16 ≤ t.val then 1 else 0) q w hw]
  refine (congrArg (· * _) (damp_apply t r o q)).trans ?_
  have hr := r.isLt
  have ht := point_lt t
  unfold val Filt.both Filt.tap
  rw [if_neg (show ¬ 512 * t.val + r.val = 0 by omega)]
  by_cases h2 : 512 * t.val + r.val < 8192
  · rw [if_neg (show ¬ 512 * t.val + r.val = 8192 by omega), if_pos h2, show lag (512 * t.val + r.val) = 512 * t.val + r.val from if_pos h2,
      if_neg (show ¬ 16 ≤ t.val by omega), mul_comm]
  · rw [if_neg h2]
    by_cases h3 : 512 * t.val + r.val = 8192
    · rw [if_pos h3, if_pos h3, zero_mul]
    · rw [if_neg h3, if_neg h3, show lag (512 * t.val + r.val) = 16384 - (512 * t.val + r.val) from if_neg h2, if_pos (show 16 ≤ t.val by omega), mul_comm]

end Cert.FilterIdeal.Point

end
-- ==== Proof.Filter.Result.lean ====
module

public import proofs.«01_k».proof.Proof.Filter.Tile
public import Idealize.ShloMosaic.Lib.Pipeline.ValueKit

@[expose] public section

set_option maxRecDepth 16384

noncomputable section

namespace Cert.FilterIdeal.Point

open Cert.FilterIdeal Cert.FilterIdeal.Gen Idealize.ShloMosaic Idealize.ShloMosaic.TcCoe Idealize.SL.Sem
open Cert.Rows (IsReal)

variable (m : (ℓ : Loc nD τ sig) → Buf (Elt Ideal) ℓ)

/-- Two halves, each of one order, are the array of both. -/
theorem halves_apply (G : Fin 2 → Fin 512 → Fin 1024 → EReal) (a b : Vec Ideal S1x512x1024 .f32) (ha : ∀ r q, a (ix3 0 r q) = G 0 r q)
    (hb : ∀ r q, b (ix3 0 r q) = G 1 r q) (o : Fin 2) (r : Fin 512) (q : Fin 1024) : halves a b (ix3 o r q) = G o r q := by
  refine View.canon_apply_of_pieces (Val := Elt Ideal) (e := .f32) (S := S2x512x1024) (fun y => G (y 0) (y 1) (y 2)) _ ?_ (ix3 o r q) ?_
  · have split : ∀ x : S1x512x1024.Idx, x = ix3 0 (x 1) (x 2) := fun x => by
      funext k
      match k with
      | ⟨0, _⟩ => exact Subsingleton.elim (α := Fin 1) _ _
      | ⟨1, _⟩ => rfl
      | ⟨2, _⟩ => rfl
    refine List.forall_mem_cons.mpr ⟨fun x => ?_, List.forall_mem_cons.mpr ⟨fun x => ?_, fun p hp => absurd hp List.not_mem_nil⟩⟩
    · refine ((congrArg b (split x)).trans (hb _ _)).trans ?_
      have h0 : (x 0 : Fin 1).val = 0 := Nat.lt_one_iff.mp (x 0 : Fin 1).isLt
      refine congr (congr (congrArg G (Fin.ext ?_)) (Fin.ext ?_)) (Fin.ext ?_)
      · show 1 = 1 + 1 * (x 0 : Fin 1).val; omega
      · show (x 1 : Fin 512).val = 0 + 1 * (x 1 : Fin 512).val; omega
      · show (x 2 : Fin 1024).val = 0 + 1 * (x 2 : Fin 1024).val; omega
    · refine ((congrArg a (split x)).trans (ha _ _)).trans ?_
      have h0 : (x 0 : Fin 1).val = 0 := Nat.lt_one_iff.mp (x 0 : Fin 1).isLt
      refine congr (congr (congrArg G (Fin.ext ?_)) (Fin.ext ?_)) (Fin.ext ?_)
      · show 0 = 0 + 1 * (x 0 : Fin 1).val; omega
      · show (x 1 : Fin 512).val = 0 + 1 * (x 1 : Fin 512).val; omega
      · show (x 2 : Fin 1024).val = 0 + 1 * (x 2 : Fin 1024).val; omega
  · have ho := o.isLt
    have hr := r.isLt
    have hq := q.isLt
    by_cases h : o.val = 0
    · refine ⟨_, List.mem_cons_of_mem _ List.mem_cons_self, (Rect.mem_set_unit (inb := inb_S2x512x1024_S1x512x1024_0_0_0)).mpr fun k => ?_⟩
      match k with
      | ⟨0, _⟩ => show 0 ≤ o.val ∧ o.val < 0 + 1; omega
      | ⟨1, _⟩ => show 0 ≤ r.val ∧ r.val < 0 + 512; omega
      | ⟨2, _⟩ => show 0 ≤ q.val ∧ q.val < 0 + 1024; omega
    · refine ⟨_, List.mem_cons_self, (Rect.mem_set_unit (inb := inb_S2x512x1024_S1x512x1024_1_0_0)).mpr fun k => ?_⟩
      match k with
      | ⟨0, _⟩ => show 1 ≤ o.val ∧ o.val < 1 + 1; omega
      | ⟨1, _⟩ => show 0 ≤ r.val ∧ r.val < 0 + 512; omega
      | ⟨2, _⟩ => show 0 ≤ q.val ∧ q.val < 0 + 1024; omega

/-- The square of a filter's value. -/
def square (c : Dev nD) (o : Fin 2) (q : Fin 1024) (p : ℕ) : EReal := val m c o q p * val m c o q p

theorem left_col (q : Fin 1024) : (⟨q.val, by omega⟩ : Fin 2048) = ⟨(0 : Fin 2).val * 1024 + q.val, by omega⟩ := Fin.ext (by show q.val = 0 * 1024 + q.val; omega)
theorem right_col (q : Fin 1024) : (⟨1024 + q.val, by omega⟩ : Fin 2048) = ⟨(1 : Fin 2).val * 1024 + q.val, by omega⟩ := Fin.ext (by show 1024 + q.val = 1 * 1024 + q.val; omega)

theorem halves_A (v3 : IVec S512x1 32) (v83 : FVec Ideal S512x192 .bf16) (v103 : FVec Ideal S512x2048 .f32) (f b : Vec Ideal S1x192x2048 .bf16)
    (g : Fin 2 → Fin 512 → Fin 1024 → EReal) (row : ∀ r o (q : Fin 1024), k0_pay7 v3 v83 v103 f b (ix2 r ⟨o.val * 1024 + q.val, by omega⟩) = g o r q)
    (o : Fin 2) (r : Fin 512) (q : Fin 1024) : halves (k0_pay8 v3 v83 v103 f b) (k0_pay9 v3 v83 v103 f b) (ix3 o r q) = g o r q :=
  halves_apply g _ _ (fun r q => by rw [pay8_apply, left_col]; exact row r 0 q) (fun r q => by rw [pay9_apply, right_col]; exact row r 1 q) o r q

theorem sums_A (v3 : IVec S512x1 32) (v83 : FVec Ideal S512x192 .bf16) (v103 : FVec Ideal S512x2048 .f32) (f b : Vec Ideal S1x192x2048 .bf16)
    (g : Fin 2 → Fin 512 → Fin 1024 → EReal) (row : ∀ r o (q : Fin 1024), k0_pay7 v3 v83 v103 f b (ix2 r ⟨o.val * 1024 + q.val, by omega⟩) = g o r q)
    (o : Fin 2) (q : Fin 1024) : k0_pay10 v3 v83 v103 f b (k0_pay6 (F := Ideal)) (ix2 0 ⟨o.val * 1024 + q.val, by omega⟩) = ∑ r, g o r q * g o r q := by
  rw [pay10_apply, pay6_apply, zero_add]
  exact Finset.sum_congr rfl fun r _ => congrArg (fun x => x * x) (row r o q)

theorem halves_B (v3 : IVec S512x1 32) (v11 : FVec Ideal S512x1 .f32) (v83 : FVec Ideal S512x192 .bf16) (v85 : FVec Ideal S1x1024 .f32) (z : Ideal .f32) (w : Vec Ideal S1x192x2048 .bf16)
    (g : Fin 2 → Fin 512 → Fin 1024 → EReal) (row : ∀ r o (q : Fin 1024), k0_pay2 v3 v11 v83 v85 z w (ix2 r ⟨o.val * 1024 + q.val, by omega⟩) = g o r q)
    (o : Fin 2) (r : Fin 512) (q : Fin 1024) : halves (k0_pay3 v3 v11 v83 v85 z w) (k0_pay4 v3 v11 v83 v85 z w) (ix3 o r q) = g o r q :=
  halves_apply g _ _ (fun r q => by rw [pay3_apply, left_col]; exact row r 0 q) (fun r q => by rw [pay4_apply, right_col]; exact row r 1 q) o r q

theorem sums_B (v3 : IVec S512x1 32) (v11 : FVec Ideal S512x1 .f32) (v83 : FVec Ideal S512x192 .bf16) (v85 : FVec Ideal S1x1024 .f32) (z : Ideal .f32) (w : Vec Ideal S1x192x2048 .bf16)
    (s : Vec Ideal S1x2048 .f32)
    (g : Fin 2 → Fin 512 → Fin 1024 → EReal) (row : ∀ r o (q : Fin 1024), k0_pay2 v3 v11 v83 v85 z w (ix2 r ⟨o.val * 1024 + q.val, by omega⟩) = g o r q)
    (o : Fin 2) (q : Fin 1024) : k0_pay5 v3 v11 v83 v85 z w s (ix2 0 ⟨o.val * 1024 + q.val, by omega⟩) = s (ix2 0 ⟨o.val * 1024 + q.val, by omega⟩) + ∑ r, g o r q * g o r q := by
  rw [pay5_apply]
  exact congrArg (_ + ·) (Finset.sum_congr rfl fun r _ => congrArg (fun x => x * x) (row r o q))

/-- What a tile leaves in both arrays, over what the sums were before it. -/
theorem tile_A (c : Dev nD) (hR : Reals m c) (t : Fin cfg0.N) (h0 : t.val % 32 = 0) (h1 : ¬ 1 ≤ t.val) (o : Fin 2) (q : Fin 1024) :
    (∀ r : Fin 512, (outsAt0 m c t.val t.isLt).1 (ix3 o r q) = val m c o q (512 * t.val + r.val))
      ∧ (outsAt0 m c t.val t.isLt).2 (ix2 0 ⟨o.val * 1024 + q.val, by omega⟩) = ∑ r : Fin 512, square m c o q (512 * t.val + r.val) := by
  have hf : ∀ (k : Fin 192) (e : Fin 2048), layer (iblk m c 6 t) ![0, 0, 0] inb_S2x192x2048_S1x192x2048_0_0_0 (ix3 0 k e) = (iblk m c 6 t : Vec Ideal S2x192x2048 .bf16) (ix3 0 k e) :=
    layer_apply _ _ _ 0 rfl
  have hb : ∀ (k : Fin 192) (e : Fin 2048), layer (iblk m c 6 t) ![1, 0, 0] inb_S2x192x2048_S1x192x2048_1_0_0 (ix3 0 k e) = (iblk m c 6 t : Vec Ideal S2x192x2048 .bf16) (ix3 1 k e) :=
    layer_apply _ _ _ 1 rfl
  obtain ⟨f, ef⟩ : ∃ f : Vec Ideal S1x192x2048 .bf16, layer (iblk m c 6 t) ![0, 0, 0] inb_S2x192x2048_S1x192x2048_0_0_0 = f := ⟨_, rfl⟩
  obtain ⟨b, eb⟩ : ∃ b : Vec Ideal S1x192x2048 .bf16, layer (iblk m c 6 t) ![1, 0, 0] inb_S2x192x2048_S1x192x2048_1_0_0 = b := ⟨_, rfl⟩
  rw [ef] at hf
  rw [eb] at hb
  have e := after_A m c t h0 h1 f b ef eb
  have row := fun r o q => row_A m c hR t h1 f b hf hb r o q
  have x := halves_A (k0_pay11 (grid0.coords t)) (hid m c t) (damp t) f b (fun o r q => val m c o q (512 * t.val + r.val)) row
  have y := sums_A (k0_pay11 (grid0.coords t)) (hid m c t) (damp t) f b (fun o r q => val m c o q (512 * t.val + r.val)) row o q
  refine ⟨fun r => ?_, (congrFun (congrArg Prod.snd e) _).trans y⟩
  have w := x o r q
  clear x y row
  rw [← w, e]

theorem tile_B (c : Dev nD) (hR : Reals m c) (t : Fin cfg0.N) (h0 : ¬ t.val % 32 = 0) (h1 : 1 ≤ t.val) (o : Fin 2) (q : Fin 1024) :
    (∀ r : Fin 512, (outsAt0 m c t.val t.isLt).1 (ix3 o r q) = val m c o q (512 * t.val + r.val))
      ∧ (outsAt0 m c t.val t.isLt).2 (ix2 0 ⟨o.val * 1024 + q.val, by omega⟩)
        = (outsAt0 m c (t.val - 1) (Nat.lt_of_le_of_lt (Nat.sub_le _ _) t.isLt)).2 (ix2 0 ⟨o.val * 1024 + q.val, by omega⟩) + ∑ r : Fin 512, square m c o q (512 * t.val + r.val) := by
  have hw : ∀ (k : Fin 192) (e : Fin 2048), layer (iblk m c 6 t) (k0_off1 (grid0.coords t)) (k0_off1_inb (grid0.coords t) ((hcond0_1 t).mpr h1)) (ix3 0 k e)
      = (iblk m c 6 t : Vec Ideal S2x192x2048 .bf16) (ix3 (if 16 ≤ t.val then 1 else 0) k e) := by
    refine layer_apply _ _ _ _ ((off_eq t).trans ?_)
    by_cases h : 16 ≤ t.val
    · rw [if_pos h, if_pos h]; rfl
    · rw [if_neg h, if_neg h]; rfl
  obtain ⟨w, ew⟩ : ∃ w : Vec Ideal S1x192x2048 .bf16, layer (iblk m c 6 t) (k0_off1 (grid0.coords t)) (k0_off1_inb (grid0.coords t) ((hcond0_1 t).mpr h1)) = w := ⟨_, rfl⟩
  rw [ew] at hw
  obtain ⟨p, ep⟩ : ∃ p, outsAt0 m c (t.val - 1) (Nat.lt_of_le_of_lt (Nat.sub_le _ _) t.isLt) = p := ⟨_, rfl⟩
  have e := after_B m c t h0 h1 p ep w ew
  have row := fun r o q => row_B m c hR t h1 w hw r o q
  have x := halves_B (k0_pay11 (grid0.coords t)) (k0_pay13 (grid0.coords t)) (hid m c t) k0_pay17 (FloatOps.ofBits FTy.f32 3158617577#32) w
    (fun o r q => val m c o q (512 * t.val + r.val)) row
  have y := sums_B (k0_pay11 (grid0.coords t)) (k0_pay13 (grid0.coords t)) (hid m c t) k0_pay17 (FloatOps.ofBits FTy.f32 3158617577#32) w p.2
    (fun o r q => val m c o q (512 * t.val + r.val)) row o q
  rw [ep]
  refine ⟨fun r => ?_, (congrFun (congrArg Prod.snd e) _).trans y⟩
  have v := x o r q
  clear x y row
  rw [← v, e]

theorem filters (c : Dev nD) (hR : Reals m c) (t : Fin cfg0.N) (o : Fin 2) (r : Fin 512) (q : Fin 1024) :
    (outsAt0 m c t.val t.isLt).1 (ix3 o r q) = val m c o q (512 * t.val + r.val) := by
  have ht := point_lt t
  by_cases h : 1 ≤ t.val
  · exact (tile_B m c hR t (by omega) h o q).1 r
  · exact (tile_A m c hR t (by omega) h o q).1 r

theorem sums (c : Dev nD) (hR : Reals m c) (o : Fin 2) (q : Fin 1024) : ∀ (n : ℕ) (hn : n < cfg0.N),
    (outsAt0 m c n hn).2 (ix2 0 ⟨o.val * 1024 + q.val, by omega⟩) = ∑ s ∈ Finset.range (n + 1), ∑ r : Fin 512, square m c o q (512 * s + r.val)
  | 0, hn => by
    rw [Finset.sum_range_one]
    exact (tile_A m c hR ⟨0, hn⟩ (by show 0 % 32 = 0; omega) (by show ¬ 1 ≤ 0; omega) o q).2
  | n + 1, hn => by
    have ht : n + 1 < 32 := point_lt ⟨n + 1, hn⟩
    rw [Finset.sum_range_succ, ← sums c hR o q n (Nat.lt_of_succ_lt hn)]
    exact (tile_B m c hR ⟨n + 1, hn⟩ (by show ¬ (n + 1) % 32 = 0; omega) (by show 1 ≤ n + 1; omega) o q).2

/-- A filter's value at a place of the array. -/
def place (c : Dev nD) (o : Fin 2) (p : Fin 16384) (q : Fin 1024) : EReal := val m c o q p.val

/-- The filters' array after the run. -/
theorem final (c : Dev nD) (hR : Reals m c) : (dats m 0 c).arrAt 7 cfg0.N
    = (fun i => place m c (i 0) (i 1) (i 2) : Vec Ideal S2x16384x1024 .f32) := by
  refine (dats m 0 c).arrAt_eq_of_covers 7 _ (by decide +kernel) fun t hf y => ?_
  blk_simp
  rw [after0_7]
  have h0 : (win0_7.blk t).view.emb y 0 = (y 0 : Fin 2) := by
    apply Fin.ext
    blk_simp [idx t]
  have hy : (y 1 : Fin 512).val < 512 := (y 1 : Fin 512).isLt
  have ht := point_lt t
  have h1 : (win0_7.blk t).view.emb y 1 = (⟨512 * t.val + (y 1 : Fin 512).val, by omega⟩ : Fin 16384) := by
    apply Fin.ext
    show ((win0_7.blk t).view.emb y 1 : Fin 16384).val = 512 * t.val + (y 1 : Fin 512).val
    blk_simp [idx t]
    omega
  have h2 : (win0_7.blk t).view.emb y 2 = (y 2 : Fin 1024) := by
    apply Fin.ext
    blk_simp [idx t]
  rw [h0, h1, h2]
  exact (congrArg (outsAt0 m c t.val t.isLt).1 (eq_ix3 (n0 := 2) (n1 := 512) (n2 := 1024) y)).trans (filters m c hR t (y 0) (y 1) (y 2))

/-- The sum of a channel's squares. -/
def energy (c : Dev nD) (e : Fin 2048) : EReal := ∑ p : Fin 16384, square m c ⟨e.val / 1024, by omega⟩ ⟨e.val % 1024, by omega⟩ p.val

theorem energy_eq (c : Dev nD) (hR : Reals m c) (t : Fin cfg0.N) (ht : t.val = 31) (e : Fin 2048) : (outsAt0 m c t.val t.isLt).2 (ix2 0 e) = energy m c e := by
  have s := sums m c hR ⟨e.val / 1024, by omega⟩ ⟨e.val % 1024, by omega⟩ t.val t.isLt
  have he : (⟨e.val / 1024 * 1024 + e.val % 1024, by omega⟩ : Fin 2048) = e := Fin.ext (by show e.val / 1024 * 1024 + e.val % 1024 = e.val; omega)
  refine ((congrArg (fun e => (outsAt0 m c t.val t.isLt).2 (ix2 0 e)) he.symm).trans s).trans ?_
  unfold energy
  rw [← Rows.sum_slabs (J := 32) (n := 512) rfl (fun p : Fin 16384 => square m c ⟨e.val / 1024, by omega⟩ ⟨e.val % 1024, by omega⟩ p.val), ht]
  refine Finset.sum_congr rfl fun s hs => Finset.sum_congr rfl fun r _ => congrArg (square m c _ _) ?_
  have hs' := Finset.mem_range.mp hs
  show 512 * s + r.val = (512 * s + r.val) % 16384
  omega

theorem last_only : ∀ t : Fin cfg0.N, (cfg0.win 8).flush t = true → t.val = 31 := by decide +kernel

/-- The squares' array after the run. -/
theorem final_sums (c : Dev nD) (hR : Reals m c) : (dats m 0 c).arrAt 8 cfg0.N
    = (fun i => energy m c (i 1) : Vec Ideal S1x2048 .f32) := by
  refine (dats m 0 c).arrAt_eq_of_covers 8 _ (by decide +kernel) fun t hf y => ?_
  have ht := last_only t hf
  blk_simp
  rw [after0_8]
  have h1 : (win0_8.blk t).view.emb y 1 = (y 1 : Fin 2048) := by
    apply Fin.ext
    blk_simp [idx t]
  rw [h1]
  have hy : y = (ix2 0 (y 1) : S1x2048.Idx) := by
    funext k
    match k with
    | ⟨0, _⟩ => exact Subsingleton.elim (α := Fin 1) _ _
    | ⟨1, _⟩ => rfl
  exact (congrArg (outsAt0 m c t.val t.isLt).2 hy).trans (energy_eq m c hR t ht (y 1))

variable (ρ : Dev nD → PrngReg)

/-- The run: both arrays, and the arguments as launched. -/
theorem run : θ_run (defs (F := Ideal)) (onTc (τ := τ) (main (F := Ideal))) ⟨m, fun _ => 0, ρ⟩ fun r => ∀ c : Dev nD,
      r.2.mem ((c : Thread nD τ).loc main_v22_0) = (dats m 0 c).arrAt 7 cfg0.N
      ∧ r.2.mem ((c : Thread nD τ).loc main_v22_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 7, (h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.FilterIdeal.Point

end
-- ==== Proof.Filter.Finite.lean ====
module

public import proofs.«01_k».proof.Pre_finite_taps
public import proofs.«01_k».proof.Proof.Pool.Finite
public import Idealize.ShloMosaic.Lib.ReduceAll

@[expose] public section

noncomputable section

namespace Cert.Pre_finite_taps

open Idealize.ShloMosaic Facts

variable [Facts] (x0 : FVec Ideal S1x33x64 .f32) (x1 x2 : FVec Ideal S1x64 .f32) (x3 : FVec Ideal S1x64x64 .f32) (x4 x5 : FVec Ideal S1x64 .f32)
  (x6 : FVec Ideal S1x64x4096 .f32)

/-- Under the precondition the last layer's weights are real. -/
theorem tap_real (h : fn x0 x1 x2 x3 x4 x5 x6 = fun _ => 1#1) (i : S1x64x4096.Idx) : Rows.IsReal (x6 i) := by
  unfold fn at h
  dsimp only at h
  have e := Host.reduce_andi_all _ _ _ _ _ (congrFun h (Shape.Idx.first h_S_)) i
  have e' : Ideal.cmp .olt (max (x6 i) (-(x6 i))) (Ideal.ofBits FTy.f32 0x7F800000#32) = 1#1 := e
  rw [Rows.top_value] at e'
  exact Rows.real_of_size _ e'

end Cert.Pre_finite_taps

end
-- ==== Proof.Filter.Ref.lean ====
module

public import proofs.«01_k».proof.Proof.Gen.FilterRefIdeal.Read
public import proofs.«01_k».proof.Proof.Filter.Math
public import proofs.«01_k».proof.Proof.Filter.Finite
public import Idealize.ShloMosaic.Lib.Pointwise
public import Idealize.ShloMosaic.PureOps.Ideal.Laws

@[expose] public section

set_option maxRecDepth 16384

noncomputable section

namespace Cert.FilterRefIdeal.Math

open Cert.FilterRefIdeal Cert.FilterRefIdeal.Gen Cert.FilterRefIdeal.Read Idealize.ShloMosaic Idealize.ShloMosaic.TcCoe Idealize.SL.Sem

theorem count_nat (n : ℕ) (h : n < 2147483648) : (FloatOps.sitofp FTy.f32 (BitVec.ofNat 32 n) : Ideal .f32) = Filt.num n := by
  show (((BitVec.ofNat 32 n).toInt : ℝ) : EReal) = ((n : ℝ) : EReal)
  rw [Rows.toInt_nat n h, Int.cast_natCast]

theorem pos_apply (p : Fin 8192) : val_main_v0 (F := Ideal) (ix1 p) = Filt.num p.val := by
  unfold val_main_v0
  pointwise
  exact count_nat _ (by omega)
theorem pos'_apply (p : Fin 8192) : val_main_v4 (F := Ideal) (ix1 p) = Filt.num p.val := by
  unfold val_main_v4
  pointwise
  exact count_nat _ (by omega)
theorem band_apply (q : Fin 16) : val_main_v10 (F := Ideal) (ix1 q) = Filt.num q.val := by
  unfold val_main_v10
  pointwise
  exact count_nat _ (by omega)
theorem channel_apply (q : Fin 1024) : val_main_v51 (F := Ideal) (ix1 q) = Filt.num q.val := by
  unfold val_main_v51
  pointwise
  exact count_nat _ (by omega)

theorem frac_apply (p : Fin 8192) : val_main_v3 (F := Ideal) (ix2 p 0) = Filt.frac p.val := by
  unfold val_main_v3 val_main_v2 val_main_v1 val_main_cst Filt.frac
  rw [← pos_apply]
  generalize val_main_v0 (F := Ideal) = y
  pointwise

theorem turn_apply (p : Fin 8192) : val_main_v9 (F := Ideal) (ix2 p 0) = Ideal.div (Ideal.ofBits FTy.f32 0x40C90FDB#32 * Filt.num p.val) (Ideal.ofBits FTy.f32 0x46000000#32) := by
  unfold val_main_v9 val_main_v8 val_main_v7 val_main_v6 val_main_v5 val_main_cst_0 val_main_cst_1
  rw [← pos'_apply]
  generalize val_main_v4 (F := Ideal) = y
  pointwise

theorem bands_apply (q : Fin 16) : val_main_v15 (F := Ideal) (ix2 0 q) = Ideal.ofBits FTy.f32 0x38D1B717#32 + Filt.num q.val * Ideal.ofBits FTy.f32 0x3F7FFF90#32 := by
  unfold val_main_v15 val_main_v14 val_main_v13 val_main_v12 val_main_v11 val_main_cst_2 val_main_cst_3
  rw [← band_apply]
  generalize val_main_v10 (F := Ideal) = y
  pointwise

theorem cos_apply (p : Fin 8192) (q : Fin 16) : val_main_v19 (F := Ideal) (ix2 p q) = Ideal.cos (Filt.angle p.val q.val) := by
  unfold val_main_v19 val_main_v18 val_main_v17 val_main_v16 Filt.angle
  rw [← turn_apply, ← bands_apply]
  generalize val_main_v15 (F := Ideal) = y
  generalize val_main_v9 (F := Ideal) = z
  pointwise

theorem sin_apply (p : Fin 8192) (q : Fin 16) : val_main_v24 (F := Ideal) (ix2 p q) = -Ideal.sin (Filt.angle p.val q.val) := by
  unfold val_main_v24 val_main_v23 val_main_v22 val_main_v21 val_main_v20 Filt.angle
  rw [← turn_apply, ← bands_apply]
  generalize val_main_v15 (F := Ideal) = y
  generalize val_main_v9 (F := Ideal) = z
  pointwise

theorem feature_apply (p : Fin 8192) (j : Fin 33) : val_main_v25 (F := Ideal) (ix2 p j) = Filt.feature p.val j.val := by
  have hj := j.isLt
  unfold Filt.feature
  by_cases h0 : j.val = 0
  · rw [if_pos h0, ← frac_apply, show j = ⟨0, by omega⟩ from Fin.ext h0]
    unfold val_main_v25
    generalize val_main_v3 (F := Ideal) = x
    generalize val_main_v19 (F := Ideal) = y
    generalize val_main_v24 (F := Ideal) = z
    pointwise
  rw [if_neg h0]
  by_cases h1 : j.val ≤ 16
  · rw [if_pos h1]
    refine Eq.trans ?_ (cos_apply p ⟨j.val - 1, by omega⟩)
    unfold val_main_v25
    generalize val_main_v3 (F := Ideal) = x
    generalize val_main_v19 (F := Ideal) = y
    generalize val_main_v24 (F := Ideal) = z
    pointwise
    rw [dif_neg (show ¬ j.val < 1 by omega), dif_pos (show j.val - 1 < 16 by omega)]
  · rw [if_neg h1]
    refine Eq.trans ?_ (sin_apply p ⟨j.val - 17, by omega⟩)
    unfold val_main_v25
    generalize val_main_v3 (F := Ideal) = x
    generalize val_main_v19 (F := Ideal) = y
    generalize val_main_v24 (F := Ideal) = z
    pointwise
    rw [dif_neg (show ¬ j.val < 1 by omega), dif_neg (show ¬ j.val - 1 < 16 by omega)]
    exact congrArg z (congrArg (ix2 p) (Fin.ext (by show j.val - 1 - 16 = j.val - 17; omega)))

theorem decay_apply (p : Fin 8192) (q : Fin 1024) (o d : Fin 2) : val_main_v64 (F := Ideal) (ix4 p o d q) = Filt.decay p.val q.val := by
  unfold val_main_v64 val_main_v63 val_main_v62 val_main_v61 val_main_v60 val_main_v59 val_main_v58 val_main_v57 val_main_v56 val_main_v55 val_main_v54 val_main_v53 val_main_v52 val_main_cst_4 val_main_cst_5 Filt.decay
  rw [← channel_apply, ← frac_apply]
  generalize val_main_v3 (F := Ideal) = x
  generalize val_main_v51 (F := Ideal) = y
  pointwise
  rfl

variable (x0 : Vec Ideal S1x33x64 .f32) (x1 x2 : Vec Ideal S1x64 .f32) (x3 : Vec Ideal S1x64x64 .f32) (x4 x5 : Vec Ideal S1x64 .f32) (x6 : Vec Ideal S1x64x4096 .f32)

theorem row0 (j : Fin 33) (n : Fin 64) : val_main_v27 (F := Ideal) x0 (ix2 j n) = x0 (ix3 0 j n) := by
  unfold val_main_v27
  pointwise
theorem row3 (j : Fin 64) (n : Fin 64) : val_main_v38 (F := Ideal) x3 (ix2 j n) = x3 (ix3 0 j n) := by
  unfold val_main_v38
  pointwise
theorem row6 (j : Fin 64) (n : Fin 4096) : val_main_v48 (F := Ideal) x6 (ix2 j n) = x6 (ix3 0 j n) := by
  unfold val_main_v48
  pointwise

theorem hidden_apply (p : Fin 8192) (n : Fin 64) : val_main_v36 (F := Ideal) x0 x1 x2 (ix2 p n)
    = Filt.hidden (fun j n => x0 (ix3 0 j n)) (fun n => x1 (ix2 0 n)) (fun n => x2 (ix2 0 n)) p.val n := by
  have e : Filt.hidden (fun j n => x0 (ix3 0 j n)) (fun n => x1 (ix2 0 n)) (fun n => x2 (ix2 0 n)) p.val n
      = Ideal.sin (x2 (ix2 0 n) * ((∑ j, val_main_v25 (F := Ideal) (ix2 p j) * val_main_v27 (F := Ideal) x0 (ix2 j n)) + x1 (ix2 0 n))) := by
    unfold Filt.hidden
    simp only [feature_apply, row0]
  rw [e]
  unfold val_main_v36 val_main_v35 val_main_v34 val_main_v33 val_main_v32 val_main_v31 val_main_v30 val_main_v29 val_main_v28 val_main_v26
  generalize val_main_v25 (F := Ideal) = y
  generalize val_main_v27 (F := Ideal) x0 = z
  pointwise

/-- The hidden values at a position. -/
def H (p : ℕ) : Fin 64 → EReal := Filt.second (Filt.hidden (fun j n => x0 (ix3 0 j n)) (fun n => x1 (ix2 0 n)) (fun n => x2 (ix2 0 n)) p)
  (fun k n => x3 (ix3 0 k n)) (fun n => x4 (ix2 0 n)) (fun n => x5 (ix2 0 n))

theorem second_apply (p : Fin 8192) (n : Fin 64) : val_main_v47 (F := Ideal) x0 x1 x2 x3 x4 x5 (ix2 p n) = H x0 x1 x2 x3 x4 x5 p.val n := by
  have e : H x0 x1 x2 x3 x4 x5 p.val n
      = Ideal.sin (x5 (ix2 0 n) * ((∑ j, val_main_v36 (F := Ideal) x0 x1 x2 (ix2 p j) * val_main_v38 (F := Ideal) x3 (ix2 j n)) + x4 (ix2 0 n))) := by
    unfold H Filt.second
    simp only [hidden_apply, row3]
  rw [e]
  unfold val_main_v47 val_main_v46 val_main_v45 val_main_v44 val_main_v43 val_main_v42 val_main_v41 val_main_v40 val_main_v39 val_main_v37
  generalize val_main_v36 (F := Ideal) x0 x1 x2 = y
  generalize val_main_v38 (F := Ideal) x3 = z
  pointwise

/-- The last layer's weights of order `o` and direction `d`. -/
def W (o d : Fin 2) (q : Fin 1024) (k : Fin 64) : EReal := x6 (ix3 0 k ⟨(o.val * 2 + d.val) * 1024 + q.val, by omega⟩)

theorem out_apply (p : Fin 8192) (n : Fin 4096) : val_main_v49 (F := Ideal) x0 x1 x2 x3 x4 x5 x6 (ix2 p n) = ∑ k, H x0 x1 x2 x3 x4 x5 p.val k * x6 (ix3 0 k n) := by
  have e : (∑ k, H x0 x1 x2 x3 x4 x5 p.val k * x6 (ix3 0 k n))
      = ∑ k, val_main_v47 (F := Ideal) x0 x1 x2 x3 x4 x5 (ix2 p k) * val_main_v48 (F := Ideal) x6 (ix2 k n) := by
    simp only [second_apply, row6]
  rw [e]
  unfold val_main_v49
  generalize val_main_v47 (F := Ideal) x0 x1 x2 x3 x4 x5 = y
  generalize val_main_v48 (F := Ideal) x6 = z
  pointwise

theorem cut_apply (p : Fin 8192) (o d : Fin 2) (q : Fin 1024) : val_main_v50 (F := Ideal) x0 x1 x2 x3 x4 x5 x6 (ix4 p o d q)
    = ∑ k, H x0 x1 x2 x3 x4 x5 p.val k * W x6 o d q k := by
  refine Eq.trans ?_ (out_apply x0 x1 x2 x3 x4 x5 x6 p ⟨(o.val * 2 + d.val) * 1024 + q.val, by omega⟩)
  unfold val_main_v50
  generalize val_main_v49 (F := Ideal) x0 x1 x2 x3 x4 x5 x6 = y
  refine shapeCast_apply _ _ _ _ ?_
  rw [Shape.rowMajor_val_four, Shape.rowMajor_val_two]
  show p.val * 4096 + ((o.val * 2 + d.val) * 1024 + q.val) = ((p.val * 2 + o.val) * 2 + d.val) * 1024 + q.val
  omega

theorem tap_apply (p : Fin 8192) (o d : Fin 2) (q : Fin 1024) : val_main_v65 (F := Ideal) x0 x1 x2 x3 x4 x5 x6 (ix4 p o d q)
    = Filt.tap (H x0 x1 x2 x3 x4 x5) (W x6 o d q) p.val q.val := by
  unfold Filt.tap
  rw [← cut_apply, ← decay_apply p q o d]
  rfl

theorem forward_apply (p : Fin 8192) (o : Fin 2) (q : Fin 1024) : val_main_v67 (F := Ideal) x0 x1 x2 x3 x4 x5 x6 (ix3 p o q)
    = Filt.tap (H x0 x1 x2 x3 x4 x5) (W x6 o 0 q) p.val q.val := by
  rw [← tap_apply]
  unfold val_main_v67 val_main_v66
  generalize val_main_v65 (F := Ideal) x0 x1 x2 x3 x4 x5 x6 = y
  pointwise

theorem backward_apply (p : Fin 8192) (o : Fin 2) (q : Fin 1024) : val_main_v69 (F := Ideal) x0 x1 x2 x3 x4 x5 x6 (ix3 p o q)
    = Filt.tap (H x0 x1 x2 x3 x4 x5) (W x6 o 1 q) p.val q.val := by
  rw [← tap_apply]
  unfold val_main_v69 val_main_v68
  generalize val_main_v65 (F := Ideal) x0 x1 x2 x3 x4 x5 x6 = y
  pointwise

theorem first_apply (o : Fin 2) (q : Fin 1024) : val_main_v72 (F := Ideal) x0 x1 x2 x3 x4 x5 x6 (ix3 0 o q)
    = Filt.tap (H x0 x1 x2 x3 x4 x5) (W x6 o 0 q) 0 q.val + Filt.tap (H x0 x1 x2 x3 x4 x5) (W x6 o 1 q) 0 q.val := by
  refine Eq.trans ?_ (congrArg₂ (· + ·) (forward_apply x0 x1 x2 x3 x4 x5 x6 0 o q) (backward_apply x0 x1 x2 x3 x4 x5 x6 0 o q))
  unfold val_main_v72 val_main_v71 val_main_v70
  generalize val_main_v67 (F := Ideal) x0 x1 x2 x3 x4 x5 x6 = y
  generalize val_main_v69 (F := Ideal) x0 x1 x2 x3 x4 x5 x6 = z
  pointwise

theorem later_apply (j : Fin 8191) (o : Fin 2) (q : Fin 1024) : val_main_v73 (F := Ideal) x0 x1 x2 x3 x4 x5 x6 (ix3 j o q)
    = Filt.tap (H x0 x1 x2 x3 x4 x5) (W x6 o 0 q) (1 + j.val) q.val := by
  refine Eq.trans ?_ (forward_apply x0 x1 x2 x3 x4 x5 x6 ⟨1 + j.val, by omega⟩ o q)
  unfold val_main_v73
  generalize val_main_v67 (F := Ideal) x0 x1 x2 x3 x4 x5 x6 = y
  pointwise

theorem middle_apply (o : Fin 2) (q : Fin 1024) : val_main_v75 (F := Ideal) (ix3 0 o q) = 0 := by
  unfold val_main_v75 val_main_cst_6
  pointwise

theorem reversed_apply (j : Fin 8191) (o : Fin 2) (q : Fin 1024) : val_main_v77 (F := Ideal) x0 x1 x2 x3 x4 x5 x6 (ix3 j o q)
    = Filt.tap (H x0 x1 x2 x3 x4 x5) (W x6 o 1 q) (8191 - j.val) q.val := by
  refine Eq.trans ?_ (backward_apply x0 x1 x2 x3 x4 x5 x6 ⟨8191 - j.val, by omega⟩ o q)
  unfold val_main_v77 val_main_v76
  generalize val_main_v69 (F := Ideal) x0 x1 x2 x3 x4 x5 x6 = y
  refine extractStridedSlice_apply _ _ _ _ _ fun a => ?_
  have hj := j.isLt
  match a with
  | ⟨0, _⟩ => show 8191 - j.val = 1 + (8191 - (j.val + 1)); omega
  | ⟨1, _⟩ => show o.val = 0 + o.val; omega
  | ⟨2, _⟩ => show q.val = 0 + q.val; omega

theorem both_apply (p : Fin 16384) (o : Fin 2) (q : Fin 1024) : val_main_v78 (F := Ideal) x0 x1 x2 x3 x4 x5 x6 (ix3 p o q)
    = Filt.both (H x0 x1 x2 x3 x4 x5) (W x6 o 0 q) (W x6 o 1 q) q.val p.val := by
  have hp := p.isLt
  have h0 := first_apply x0 x1 x2 x3 x4 x5 x6 o q
  have h1 := fun j => later_apply x0 x1 x2 x3 x4 x5 x6 j o q
  have h2 := middle_apply o q
  have h3 := fun j => reversed_apply x0 x1 x2 x3 x4 x5 x6 j o q
  unfold Filt.both val_main_v78
  generalize val_main_v72 (F := Ideal) x0 x1 x2 x3 x4 x5 x6 = a at h0 ⊢
  generalize val_main_v73 (F := Ideal) x0 x1 x2 x3 x4 x5 x6 = b at h1 ⊢
  generalize val_main_v75 (F := Ideal) = c at h2 ⊢
  generalize val_main_v77 (F := Ideal) x0 x1 x2 x3 x4 x5 x6 = d at h3 ⊢
  pointwise
  by_cases e0 : p.val = 0
  · rw [dif_pos (show p.val < 1 by omega), if_pos e0, ← h0]
    exact congrArg (fun k : Fin 1 => a (ix3 k o q)) (Subsingleton.elim _ _)
  rw [dif_neg (show ¬ p.val < 1 by omega), if_neg e0]
  by_cases e1 : p.val < 8192
  · rw [dif_pos (show p.val - 1 < 8191 by omega), if_pos e1, h1]
    exact congrArg (fun k => Filt.tap (H x0 x1 x2 x3 x4 x5) (W x6 o 0 q) k q.val) (by show 1 + (p.val - 1) = p.val; omega)
  rw [dif_neg (show ¬ p.val - 1 < 8191 by omega), if_neg e1]
  by_cases e2 : p.val = 8192
  · rw [dif_pos (show p.val - 1 - 8191 < 1 by omega), if_pos e2, ← h2]
    exact congrArg (fun k : Fin 1 => c (ix3 k o q)) (Subsingleton.elim _ _)
  · rw [dif_neg (show ¬ p.val - 1 - 8191 < 1 by omega), if_neg e2, h3]
    exact congrArg (fun k => Filt.tap (H x0 x1 x2 x3 x4 x5) (W x6 o 1 q) k q.val) (by show 8191 - (p.val - 1 - 8191 - 1) = 16384 - p.val; omega)

/-- A filter's value at a place of the array. -/
def place (o : Fin 2) (p : Fin 16384) (q : Fin 1024) : EReal := Filt.both (H x0 x1 x2 x3 x4 x5) (W x6 o 0 q) (W x6 o 1 q) q.val p.val

/-- The sum of a channel's squares. -/
def energy (e : Fin 2048) : EReal := ∑ p : Fin 16384, place x0 x1 x2 x3 x4 x5 x6 ⟨e.val / 1024, by omega⟩ p ⟨e.val % 1024, by omega⟩
  * place x0 x1 x2 x3 x4 x5 x6 ⟨e.val / 1024, by omega⟩ p ⟨e.val % 1024, by omega⟩

theorem filters_eq : val_main_v79 (F := Ideal) x0 x1 x2 x3 x4 x5 x6 = (fun i => place x0 x1 x2 x3 x4 x5 x6 (i 0) (i 1) (i 2) : Vec Ideal S2x16384x1024 .f32) := by
  funext i
  refine (val_main_v79_apply x0 x1 x2 x3 x4 x5 x6 i).trans (Eq.trans (congrArg _ ?_) (both_apply x0 x1 x2 x3 x4 x5 x6 (i 1) (i 0) (i 2)))
  funext a
  match a with
  | ⟨0, _⟩ => rfl
  | ⟨1, _⟩ => rfl
  | ⟨2, _⟩ => rfl

theorem energies_eq : val_main_v82 (F := Ideal) x0 x1 x2 x3 x4 x5 x6 = (fun i => energy x0 x1 x2 x3 x4 x5 x6 (i 1) : Vec Ideal S1x2048 .f32) := by
  funext i
  have h0 : (i 0 : Fin 1).val = 0 := Nat.lt_one_iff.mp (i 0 : Fin 1).isLt
  have h1 : (i 1 : Fin 2048).val < 2048 := (i 1 : Fin 2048).isLt
  have z : val_main_cst_7 (F := Ideal) (Shape.Idx.first h_S_) = (0 : EReal) := Ideal.ofBits_zero_f32
  refine (val_main_v82_apply x0 x1 x2 x3 x4 x5 x6 i).trans ((val_main_v81_apply x0 x1 x2 x3 x4 x5 x6 _).trans ?_)
  rw [z, zero_add]
  refine Finset.sum_congr rfl fun p _ => ?_
  have e : idx_main_v81 (idx_main_v82 i) p = (ix3 p ⟨(i 1 : Fin 2048).val / 1024, by omega⟩ ⟨(i 1 : Fin 2048).val % 1024, by omega⟩ : S16384x2x1024.Idx) := by
    funext a
    refine Fin.ext ?_
    match a with
    | ⟨0, _⟩ => rfl
    | ⟨1, _⟩ => show ((i 0 : Fin 1).val * 2048 + (i 1 : Fin 2048).val) / 1024 = (i 1 : Fin 2048).val / 1024; rw [h0, Nat.zero_mul, Nat.zero_add]
    | ⟨2, _⟩ => show ((i 0 : Fin 1).val * 2048 + (i 1 : Fin 2048).val) % 1024 = (i 1 : Fin 2048).val % 1024; rw [h0, Nat.zero_mul, Nat.zero_add]
  rw [e]
  exact congrArg (fun x : EReal => x * x) (both_apply x0 x1 x2 x3 x4 x5 x6 p _ _)

end Cert.FilterRefIdeal.Math

end
-- ==== Proof.lean ====
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Ffn.Result
public import proofs.«01_k».proof.Proof.Ffn.Ref
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Merge.Result
public import proofs.«01_k».proof.Proof.Merge.Ref
public import proofs.«01_k».proof.Proof.Gen.Hyproj.Frame
public import proofs.«01_k».proof.Proof.Gen.HyprojIdeal.Value
public import proofs.«01_k».proof.Proof.Gen.HyprojRefIdeal.Run
public import proofs.«01_k».proof.Proof.Gen.HyprojRefIdeal.Read
public import proofs.«01_k».proof.Proof.Hyproj.Result
public import proofs.«01_k».proof.Proof.Hyproj.Ref
public import proofs.«01_k».proof.Proof.Gen.Pool.Frame
public import proofs.«01_k».proof.Proof.Gen.PoolIdeal.Frame
public import proofs.«01_k».proof.Proof.Gen.PoolRefIdeal.Run
public import proofs.«01_k».proof.Proof.Gen.PoolRefIdeal.Read
public import proofs.«01_k».proof.Proof.Pool.Result
public import proofs.«01_k».proof.Proof.Pool.Reference
public import proofs.«01_k».proof.Proof.Gen.Filter.Frame
public import proofs.«01_k».proof.Proof.Gen.FilterIdeal.Value
public import proofs.«01_k».proof.Proof.Gen.FilterRefIdeal.Run
public import proofs.«01_k».proof.Proof.Gen.FilterRefIdeal.Read
public import proofs.«01_k».proof.Proof.Filter.Result
public import proofs.«01_k».proof.Proof.Filter.Ref
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- What the finiteness condition states of its shapes holds. -/
instance conditions : Cert.Pre_finite_weights.Facts where
  bcast_S_S1x2048 := by decide
  reducesTo_S1x2048_S_d0_1 := by decide
  h_S_ := by decide
  slices_S1x2048x8192_S1x2048x1024_0_0_0 := by decide
  bcast_S_S1x2048x1024 := by decide
  reducesTo_S1x2048x1024_S_d0_1_2 := by decide

/-- What the condition on the filter's last layer states of its shapes holds. -/
instance taps : Cert.Pre_finite_taps.Facts where
  bcast_S_S1x64x4096 := by decide
  reducesTo_S1x64x4096_S_d0_1_2 := by decide
  h_S_ := by decide

/-- The feed-forward's reference runs, leaves its arguments, and no counter is left raised. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The feed-forward: the kernel's array is the reference's. -/
theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1, Cert.FfnRefIdeal.Read.val_main_v35_eq]
  simp only [hagree c]
  funext i
  rw [eq_ix2 i]
  exact (Cert.FfnRefIdeal.Point.result _ _ _ _ _ _ _ _).trans (Cert.FfnIdeal.Point.result m c _ _).symm

/-- The merge's reference runs, leaves its arguments, and no counter is left raised. -/
theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The merge: the kernel's array is the reference's. -/
theorem algebraic_MergeIdeal_MergeRefIdeal : algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨?_, (h c).2⟩) (Cert.MergeRefIdeal.Value.run (F := Ideal) m' ρ')
  rw [(h c).1, Cert.MergeRefIdeal.Read.val_main_v28_eq]
  simp only [hagree c]
  refine Eq.trans ?_ (Cert.MergeIdeal.Point.final m c).symm
  funext i
  rw [eq_ix2 i]
  exact Cert.MergeRefIdeal.Point.result _ _ _ _ _ _ _ _ _ _

/-- The filtered projection's reference runs, leaves its arguments, and no counter is left raised. -/
theorem quiescent_HyprojRefIdeal : quiescent_HyprojRefIdeal := fun m ρ _ =>
  (θ_run Cert.HyprojRefIdeal.defs _ _).mono (fun r h => ⟨fun c => (h c).2, sem_eq_zero_of_no_sems (by decide) r.2⟩)
    (Cert.HyprojRefIdeal.Value.run (F := Ideal) m ρ)

/-- The filtered projection: the kernel's array is the reference's. -/
theorem algebraic_HyprojIdeal_HyprojRefIdeal : algebraic_HyprojIdeal_HyprojRefIdeal := by
  intro m ρ m' ρ' _ hagree
  refine ⟨_, Cert.HyprojIdeal.Value.run_blocks (F := Ideal) m ρ, ?_⟩
  refine (θ_run Cert.HyprojRefIdeal.defs _ _).mono (fun _ h c => ⟨?_, (h c).2⟩) (Cert.HyprojRefIdeal.Value.run (F := Ideal) m' ρ')
  rw [(h c).1, Cert.HyprojRefIdeal.Read.val_main_v31_eq]
  simp only [hagree c]
  refine Eq.trans ?_ (Cert.HyprojIdeal.Point.final m c).symm
  funext i
  rw [eq_ix2 i]
  exact Cert.HyprojRefIdeal.Point.result _ _ _ _ _ _

/-- The pooling mixer's reference runs, leaves its arguments, and no counter is left raised. -/
theorem quiescent_PoolRefIdeal : quiescent_PoolRefIdeal := fun m ρ _ =>
  (θ_run Cert.PoolRefIdeal.defs _ _).mono (fun r h => ⟨fun c => (h c).2.2, sem_eq_zero_of_no_sems (by decide) r.2⟩)
    (Cert.PoolRefIdeal.Value.run (F := Ideal) m ρ)

/-- The pooling mixer: the kernel's array is the reference's. -/
theorem algebraic_PoolIdeal_PoolRefIdeal_pre_finite_weights : algebraic_PoolIdeal_PoolRefIdeal_pre_finite_weights := by
  intro m ρ m' ρ' hpre hagree
  have real : ∀ c : Dev Cert.PoolIdeal.nD, Cert.PoolRefIdeal.Math.Reals
      (m ((c.tc : Thread Cert.PoolIdeal.nD Cert.PoolIdeal.τ).loc Cert.PoolIdeal.main_arg1))
      (m ((c.tc : Thread Cert.PoolIdeal.nD Cert.PoolIdeal.τ).loc Cert.PoolIdeal.main_arg2)) := fun c =>
    ⟨Cert.Pre_finite_weights.gain_real _ _ _ _ _ (hpre c).1, Cert.Pre_finite_weights.weight_real _ _ _ _ _ (hpre c).2⟩
  refine ⟨_, _, Cert.PoolIdeal.Point.run m ρ, ?_⟩
  refine (θ_run Cert.PoolRefIdeal.defs _ _).mono (fun _ h c => ⟨?_, ?_, (h c).2.2⟩) (Cert.PoolRefIdeal.Value.run (F := Ideal) m' ρ')
  · rw [(h c).1, Cert.PoolRefIdeal.Read.val_main_v169_eq]
    simp only [hagree c]
    refine Eq.trans ?_ (Cert.PoolIdeal.Point.final m c ⟨fun _ => (real c).1 _, (real c).2⟩).symm
    funext i
    rw [eq_ix2 i]
    exact Cert.PoolRefIdeal.Math.result _ _ _ _ _ (real c) _ _
  · rw [(h c).2.1, Cert.PoolRefIdeal.Read.val_main_v171_eq]
    simp only [hagree c]
    refine Eq.trans ?_ (Cert.PoolIdeal.Point.final_rows m c).symm
    funext i
    rw [eq_ix2 i]
    exact Cert.PoolRefIdeal.Math.rows _ _ _ _

/-- The filter network's reference runs, leaves its arguments, and no counter is left raised. -/
theorem quiescent_FilterRefIdeal : quiescent_FilterRefIdeal := fun m ρ _ =>
  (θ_run Cert.FilterRefIdeal.defs _ _).mono (fun r h => ⟨fun c => (h c).2.2, sem_eq_zero_of_no_sems (by decide) r.2⟩)
    (Cert.FilterRefIdeal.Value.run (F := Ideal) m ρ)

/-- The filter network: the kernel's array is the reference's. -/
theorem algebraic_FilterIdeal_FilterRefIdeal_pre_finite_taps : algebraic_FilterIdeal_FilterRefIdeal_pre_finite_taps := by
  intro m ρ m' ρ' hpre hagree
  have real : ∀ c : Dev Cert.FilterIdeal.nD, Cert.FilterIdeal.Point.Reals m c := fun c o d q k =>
    Cert.Pre_finite_taps.tap_real _ _ _ _ _ _ _ (hpre c) _
  refine ⟨_, _, Cert.FilterIdeal.Point.run m ρ, ?_⟩
  refine (θ_run Cert.FilterRefIdeal.defs _ _).mono (fun _ h c => ⟨?_, ?_, (h c).2.2⟩) (Cert.FilterRefIdeal.Value.run (F := Ideal) m' ρ')
  · rw [(h c).1, Cert.FilterRefIdeal.Read.val_main_v79_eq]
    simp only [hagree c]
    refine Eq.trans ?_ (Cert.FilterIdeal.Point.final m c (real c)).symm
    exact Cert.FilterRefIdeal.Math.filters_eq _ _ _ _ _ _ _
  · rw [(h c).2.1, Cert.FilterRefIdeal.Read.val_main_v82_eq]
    simp only [hagree c]
    refine Eq.trans ?_ (Cert.FilterIdeal.Point.final_sums m c (real c)).symm
    exact Cert.FilterRefIdeal.Math.energies_eq _ _ _ _ _ _ _

theorem claim : Cert.Claim := ⟨Cert.Ffn.Gen.facts, Cert.FfnIdeal.Gen.facts, Cert.FfnRefIdeal.Gen.facts, Cert.Merge.Gen.facts, Cert.MergeIdeal.Gen.facts, Cert.MergeRefIdeal.Gen.facts, Cert.Hyproj.Gen.facts, Cert.HyprojIdeal.Gen.facts, Cert.HyprojRefIdeal.Gen.facts, Cert.Pool.Gen.facts, Cert.PoolIdeal.Gen.facts, Cert.PoolRefIdeal.Gen.facts, Cert.Filter.Gen.facts, Cert.FilterIdeal.Gen.facts, Cert.FilterRefIdeal.Gen.facts, conditions, taps,
  fun m ρ _ => Cert.Ffn.Gen.frame m ρ, fun m ρ _ => Cert.FfnIdeal.Gen.frame m ρ, quiescent_FfnRefIdeal,
  fun m ρ _ => Cert.Merge.Gen.frame m ρ, fun m ρ _ => Cert.MergeIdeal.Gen.frame m ρ, quiescent_MergeRefIdeal,
  fun m ρ _ => Cert.Hyproj.Gen.frame m ρ, fun m ρ _ => Cert.HyprojIdeal.Gen.frame m ρ, quiescent_HyprojRefIdeal,
  fun m ρ _ => Cert.Pool.Gen.frame m ρ, fun m ρ _ => Cert.PoolIdeal.Gen.frame m ρ, fun m ρ _ => Cert.PoolIdeal.Gen.frame m ρ, quiescent_PoolRefIdeal, fun m ρ _ => quiescent_PoolRefIdeal m ρ trivial,
  fun m ρ _ => Cert.Filter.Gen.frame m ρ, fun m ρ _ => Cert.FilterIdeal.Gen.frame m ρ, fun m ρ _ => Cert.FilterIdeal.Gen.frame m ρ, quiescent_FilterRefIdeal, fun m ρ _ => quiescent_FilterRefIdeal m ρ trivial,
  (trivial : preserves_Ffn_FfnIdeal), algebraic_FfnIdeal_FfnRefIdeal,
  (trivial : preserves_Merge_MergeIdeal), algebraic_MergeIdeal_MergeRefIdeal,
  (trivial : preserves_Hyproj_HyprojIdeal), algebraic_HyprojIdeal_HyprojRefIdeal,
  (trivial : preserves_Pool_PoolIdeal), algebraic_PoolIdeal_PoolRefIdeal_pre_finite_weights,
  IdealRules.named_const.statement Cert.FilterIdeal.κ "half_pi" .f32 0x3FC90FDB#32 (((1 / 2) * Real.pi : ℝ) : EReal) rfl, algebraic_FilterIdeal_FilterRefIdeal_pre_finite_taps⟩

end Cert.Proof

end
